-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11))
      ∧ r.2.sem = fun _ => 0)

def preserves_Attn_AttnIdeal : Prop :=
  IdealRules.named_const.Statement Cert.AttnIdeal.κ "masked" .f32 0xF149F2CA#32 ⊥
  ∧ IdealRules.named_const.Statement Cert.AttnIdeal.κ "neg_log2e" .f32 0xBFB8AA3B#32 ((-((Real.log 2)⁻¹) : ℝ) : EReal)
  ∧ IdealRules.named_const.Statement Cert.AttnIdeal.κ "dead" .f32 0x42D20000#32 ⊤

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0_0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v18) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)) →
    ∃ (v0 : (c : Dev Cert.OutIdeal.nD) → Buf (Elt Ideal) ((c.tc : Thread Cert.OutIdeal.nD Cert.OutIdeal.τ).loc Cert.OutIdeal.main_v16)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v16) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v99) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
-- ==== Pre_finite.lean ====
abbrev S8x32x4096x128 : Shape := ⟨4, ![8, 32, 4096, 128]⟩
abbrev S_ : Shape := ⟨0, ![]⟩

class Facts : Prop where
  bitsLt_bf16_f32 : FTy.bits .bf16 < FTy.bits .f32
  bcast_S_S8x32x4096x128 : S_.BroadcastsInDim S8x32x4096x128 (![] : Fin 0 → Fin S8x32x4096x128.rank)
  reducesTo_S8x32x4096x128_S_d0_1_2_3 : S8x32x4096x128.ReducesTo [0, 1, 2, 3] S_
  h_S_ : 0 < S_.numel

variable [Facts]

def fn {F : FTy → Type} [FloatOps F] (main_arg0 : FVec F S8x32x4096x128 .bf16) : IVec S_ 1 :=
  let main_v0 : FVec F S8x32x4096x128 .f32 := (extf .f32 · bitsLt_bf16_f32) main_arg0
  let main_v1 : FVec F S8x32x4096x128 .f32 := Host.absf main_v0
  let main_cst : FVec F S_ .f32 := constant S_ .f32 0x7F800000#32
  let main_v2 : FVec F S8x32x4096x128 .f32 := broadcastInDim S8x32x4096x128 ![] bcast_S_S8x32x4096x128 main_cst
  let main_v3 : IVec S8x32x4096x128 1 := cmpf .olt main_v1 main_v2
  let main_c : IVec S_ 1 := constantI S_ 1 1#1
  let main_v4 : IVec S_ 1 := (fun x v => Host.reduce IntOp.andi x v reducesTo_S8x32x4096x128_S_d0_1_2_3 h_S_) main_v3 main_c
  main_v4
-- ==== Attn.lean ====
abbrev S8x32x4096x128 : Shape := ⟨4, ![8, 32, 4096, 128]⟩
abbrev S8 : Shape := ⟨1, ![8]⟩
abbrev S8x4x4096x128 : Shape := ⟨4, ![8, 4, 4096, 128]⟩
abbrev S1x1x2048x128 : Shape := ⟨4, ![1, 1, 2048, 128]⟩
abbrev S1x1x4096x128 : Shape := ⟨4, ![1, 1, 4096, 128]⟩
abbrev S2x2048x128 : Shape := ⟨3, ![2, 2048, 128]⟩
abbrev S2x2048x1 : Shape := ⟨3, ![2, 2048, 1]⟩
abbrev S16x128 : Shape := ⟨2, ![16, 128]⟩
abbrev S2x4096x128 : Shape := ⟨3, ![2, 4096, 128]⟩
abbrev S256x128 : Shape := ⟨2, ![256, 128]⟩
abbrev S1 : Shape := ⟨1, ![1]⟩
abbrev S1x1x256x128 : Shape := ⟨4, ![1, 1, 256, 128]⟩
abbrev S128 : Shape := ⟨1, ![128]⟩
abbrev S1x128 : Shape := ⟨2, ![1, 128]⟩
abbrev S1x256x128 : Shape := ⟨3, ![1, 256, 128]⟩
abbrev S2048x128 : Shape := ⟨2, ![2048, 128]⟩
abbrev S16x2048 : Shape := ⟨2, ![16, 2048]⟩
abbrev S128x2048 : Shape := ⟨2, ![128, 2048]⟩
abbrev S1x2048 : Shape := ⟨2, ![1, 2048]⟩
abbrev S2048 : Shape := ⟨1, ![2048]⟩
abbrev S48x2048 : Shape := ⟨2, ![48, 2048]⟩
abbrev S64x2048 : Shape := ⟨2, ![64, 2048]⟩
abbrev S1x2048x128 : Shape := ⟨3, ![1, 2048, 128]⟩
abbrev S112x2048 : Shape := ⟨2, ![112, 2048]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x768x128 : Shape := ⟨3, ![1, 768, 128]⟩
abbrev S768x128 : Shape := ⟨2, ![768, 128]⟩
abbrev S768x256 : Shape := ⟨2, ![768, 256]⟩
abbrev S768 : Shape := ⟨1, ![768]⟩
abbrev S768x1 : Shape := ⟨2, ![768, 1]⟩
abbrev S1x1024x128 : Shape := ⟨3, ![1, 1024, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x1280x128 : Shape := ⟨3, ![1, 1280, 128]⟩
abbrev S1280x128 : Shape := ⟨2, ![1280, 128]⟩
abbrev S1280x256 : Shape := ⟨2, ![1280, 256]⟩
abbrev S1280 : Shape := ⟨1, ![1280]⟩
abbrev S1280x1 : Shape := ⟨2, ![1280, 1]⟩
abbrev S1x1536x128 : Shape := ⟨3, ![1, 1536, 128]⟩
abbrev S1536x128 : Shape := ⟨2, ![1536, 128]⟩
abbrev S1536x256 : Shape := ⟨2, ![1536, 256]⟩
abbrev S1536 : Shape := ⟨1, ![1536]⟩
abbrev S1536x1 : Shape := ⟨2, ![1536, 1]⟩
abbrev S1x1792x128 : Shape := ⟨3, ![1, 1792, 128]⟩
abbrev S1792x128 : Shape := ⟨2, ![1792, 128]⟩
abbrev S1792x256 : Shape := ⟨2, ![1792, 256]⟩
abbrev S1792 : Shape := ⟨1, ![1792]⟩
abbrev S1792x1 : Shape := ⟨2, ![1792, 1]⟩
abbrev S2048x256 : Shape := ⟨2, ![2048, 256]⟩
abbrev S2048x1 : Shape := ⟨2, ![2048, 1]⟩
abbrev S1x256x1 : Shape := ⟨3, ![1, 256, 1]⟩
abbrev S1x512x1 : Shape := ⟨3, ![1, 512, 1]⟩
abbrev S2x256x1 : Shape := ⟨3, ![2, 256, 1]⟩
abbrev S1x2x256x1 : Shape := ⟨4, ![1, 2, 256, 1]⟩
abbrev S1x1x1x1 : Shape := ⟨4, ![1, 1, 1, 1]⟩

abbrev nBuf : Space → Nat
  | .hbm => 4
  | .vmem => 25
  | .smem => 1
  | _ => 0

abbrev bufTy : (tb : Table) → Fin (tcTables nBuf tb) → BufTy
  | .hbm, ⟨0, _⟩ => ⟨S8x32x4096x128, .bf16⟩
  | .hbm, ⟨1, _⟩ => ⟨S8, .f32⟩
  | .hbm, ⟨2, _⟩ => ⟨S8x4x4096x128, .f32⟩
  | .hbm, ⟨3, _⟩ => ⟨S8x4x4096x128, .f32⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x1x4096x128, .bf16⟩
  | .local _ .vmem, ⟨11, _⟩ => ⟨S1x1x4096x128, .bf16⟩
  | .local _ .vmem, ⟨12, _⟩ => ⟨S1x1x2048x128, .f32⟩
  | .local _ .vmem, ⟨13, _⟩ => ⟨S1x1x2048x128, .f32⟩
  | .local _ .vmem, ⟨14, _⟩ => ⟨S1x1x2048x128, .f32⟩
  | .local _ .vmem, ⟨15, _⟩ => ⟨S1x1x2048x128, .f32⟩
  | .local _ .vmem, ⟨16, _⟩ => ⟨S2x2048x128, .bf16⟩
  | .local _ .vmem, ⟨17, _⟩ => ⟨S2x2048x128, .f32⟩
  | .local _ .vmem, ⟨18, _⟩ => ⟨S2x2048x1, .f32⟩
  | .local _ .vmem, ⟨19, _⟩ => ⟨S16x128, .f32⟩
  | .local _ .vmem, ⟨20, _⟩ => ⟨S2x4096x128, .bf16⟩
  | .local _ .vmem, ⟨21, _⟩ => ⟨S2x4096x128, .bf16⟩
  | .local _ .vmem, ⟨22, _⟩ => ⟨S2x2048x128, .bf16⟩
  | .local _ .vmem, ⟨23, _⟩ => ⟨S2x2048x128, .f32⟩
  | .local _ .vmem, ⟨24, _⟩ => ⟨S2x2048x128, .f32⟩
  | .local _ .smem, ⟨0, _⟩ => ⟨S8, .f32⟩
  | _, _ => ⟨S8x32x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) (c0_i32_1244 : BitVec 32) : Fin 1 → Nat :=
  let c2_i32_1243 : BitVec 32 := 2#32
  let arg1 : BitVec 32 := BitVec.ofNat 32 (i 1).val
  let v2584 : BitVec 32 := Scalar.muli c2_i32_1243 arg1
  let v2585 : BitVec 32 := Scalar.addi v2584 c0_i32_1244
  let v2586 : Index := Scalar.indexCast v2585
  ![v2586.toNat]
def k0_mult1 (i : grid0.Coords) : BitVec 32 :=
  let arg2 : BitVec 32 := BitVec.ofNat 32 (i 2).val
  let c8_i32_387 : BitVec 32 := 8#32
  let v1152 : BitVec 32 := Scalar.muli arg2 c8_i32_387
  let c7_i32_388 : BitVec 32 := 7#32
  let v1153 : BitVec 32 := Scalar.addi v1152 c7_i32_388
  let c256_i32_389 : BitVec 32 := 256#32
  let v1154 : BitVec 32 := Scalar.muli v1153 c256_i32_389
  v1154
def k0_off2 (i : grid0.Coords) (c7_i32_388 : BitVec 32) : Fin 3 → Nat :=
  let c0_390 : Index := 0#32
  let arg2 : BitVec 32 := BitVec.ofNat 32 (i 2).val
  let c8_i32_387 : BitVec 32 := 8#32
  let v1152 : BitVec 32 := Scalar.muli arg2 c8_i32_387
  let v1153 : BitVec 32 := Scalar.addi v1152 c7_i32_388
  let c256_i32_389 : BitVec 32 := 256#32
  let v1154 : BitVec 32 := Scalar.muli v1153 c256_i32_389
  let v1155 : BitVec 32 := v1154
  let v1156 : Index := Scalar.indexCast v1155
  let c0_391 : Index := 0#32
  ![0, v1156.toNat, 0]
def k0_off3 (i : grid0.Coords) (c7_i32_388 : BitVec 32) : Fin 3 → Nat :=
  let c1_412 : Index := 1#32
  let arg2 : BitVec 32 := BitVec.ofNat 32 (i 2).val
  let c8_i32_387 : BitVec 32 := 8#32
  let v1152 : BitVec 32 := Scalar.muli arg2 c8_i32_387
  let v1153 : BitVec 32 := Scalar.addi v1152 c7_i32_388
  let c256_i32_389 : BitVec 32 := 256#32
  let v1154 : BitVec 32 := Scalar.muli v1153 c256_i32_389
  let v1155 : BitVec 32 := v1154
  let v1190 : Index := Scalar.indexCast v1155
  let c0_413 : Index := 0#32
  ![1, v1190.toNat, 0]
def k0_mult2 (i : grid0.Coords) : BitVec 32 :=
  let arg2 : BitVec 32 := BitVec.ofNat 32 (i 2).val
  let c8_i32_435 : BitVec 32 := 8#32
  let v1224 : BitVec 32 := Scalar.muli arg2 c8_i32_435
  let c6_i32_436 : BitVec 32 := 6#32
  let v1225 : BitVec 32 := Scalar.addi v1224 c6_i32_436
  let c256_i32_437 : BitVec 32 := 256#32
  let v1226 : BitVec 32 := Scalar.muli v1225 c256_i32_437
  v1226
def k0_mult3 (i : grid0.Coords) : BitVec 32 :=
  let arg2 : BitVec 32 := BitVec.ofNat 32 (i 2).val
  let c8_i32_483 : BitVec 32 := 8#32
  let v1302 : BitVec 32 := Scalar.muli arg2 c8_i32_483
  let c5_i32_484 : BitVec 32 := 5#32
  let v1303 : BitVec 32 := Scalar.addi v1302 c5_i32_484
  let c256_i32_485 : BitVec 32 := 256#32
  let v1304 : BitVec 32 := Scalar.muli v1303 c256_i32_485
  v1304
def k0_mult4 (i : grid0.Coords) : BitVec 32 :=
  let arg2 : BitVec 32 := BitVec.ofNat 32 (i 2).val
  let c8_i32_531 : BitVec 32 := 8#32
  let v1380 : BitVec 32 := Scalar.muli arg2 c8_i32_531
  let c4_i32_532 : BitVec 32 := 4#32
  let v1381 : BitVec 32 := Scalar.addi v1380 c4_i32_532
  let c256_i32_533 : BitVec 32 := 256#32
  let v1382 : BitVec 32 := Scalar.muli v1381 c256_i32_533
  v1382
def k0_mult5 (i : grid0.Coords) : BitVec 32 :=
  let arg2 : BitVec 32 := BitVec.ofNat 32 (i 2).val
  let c8_i32_579 : BitVec 32 := 8#32
  let v1458 : BitVec 32 := Scalar.muli arg2 c8_i32_579
  let c3_i32_580 : BitVec 32 := 3#32
  let v1459 : BitVec 32 := Scalar.addi v1458 c3_i32_580
  let c256_i32_581 : BitVec 32 := 256#32
  let v1460 : BitVec 32 := Scalar.muli v1459 c256_i32_581
  v1460
def k0_mult6 (i : grid0.Coords) : BitVec 32 :=
  let arg2 : BitVec 32 := BitVec.ofNat 32 (i 2).val
  let c8_i32_627 : BitVec 32 := 8#32
  let v1536 : BitVec 32 := Scalar.muli arg2 c8_i32_627
  let c2_i32_628 : BitVec 32 := 2#32
  let v1537 : BitVec 32 := Scalar.addi v1536 c2_i32_628
  let c256_i32_629 : BitVec 32 := 256#32
  let v1538 : BitVec 32 := Scalar.muli v1537 c256_i32_629
  v1538
def k0_mult7 (i : grid0.Coords) : BitVec 32 :=
  let arg2 : BitVec 32 := BitVec.ofNat 32 (i 2).val
  let c8_i32_675 : BitVec 32 := 8#32
  let v1614 : BitVec 32 := Scalar.muli arg2 c8_i32_675
  let c1_i32_676 : BitVec 32 := 1#32
  let v1615 : BitVec 32 := Scalar.addi v1614 c1_i32_676
  let c256_i32_677 : BitVec 32 := 256#32
  let v1616 : BitVec 32 := Scalar.muli v1615 c256_i32_677
  v1616
def k0_mult8 (i : grid0.Coords) : BitVec 32 :=
  let arg2 : BitVec 32 := BitVec.ofNat 32 (i 2).val
  let c8_i32_723 : BitVec 32 := 8#32
  let v1692 : BitVec 32 := Scalar.muli arg2 c8_i32_723
  let c0_i32_724 : BitVec 32 := 0#32
  let v1693 : BitVec 32 := Scalar.addi v1692 c0_i32_724
  let c256_i32_725 : BitVec 32 := 256#32
  let v1694 : BitVec 32 := Scalar.muli v1693 c256_i32_725
  v1694
def k0_mult9 (i : grid0.Coords) : BitVec 32 :=
  let arg2 : BitVec 32 := BitVec.ofNat 32 (i 2).val
  let c8_i32_796 : BitVec 32 := 8#32
  let v1806 : BitVec 32 := Scalar.muli arg2 c8_i32_796
  let c7_i32_797 : BitVec 32 := 7#32
  let v1807 : BitVec 32 := Scalar.addi v1806 c7_i32_797
  let c256_i32_798 : BitVec 32 := 256#32
  let v1808 : BitVec 32 := Scalar.muli v1807 c256_i32_798
  v1808
def k0_off4 (i : grid0.Coords) (c7_i32_797 : BitVec 32) : Fin 4 → Nat :=
  let c0_799 : Index := 0#32
  let c0_800 : Index := 0#32
  let arg2 : BitVec 32 := BitVec.ofNat 32 (i 2).val
  let c8_i32_796 : BitVec 32 := 8#32
  let v1806 : BitVec 32 := Scalar.muli arg2 c8_i32_796
  let v1807 : BitVec 32 := Scalar.addi v1806 c7_i32_797
  let c256_i32_798 : BitVec 32 := 256#32
  let v1808 : BitVec 32 := Scalar.muli v1807 c256_i32_798
  let v1809 : BitVec 32 := v1808
  let v1810 : Index := Scalar.indexCast v1809
  let c0_801 : Index := 0#32
  ![0, 0, v1810.toNat, 0]
def k0_mult10 (i : grid0.Coords) : BitVec 32 :=
  let arg2 : BitVec 32 := BitVec.ofNat 32 (i 2).val
  let c8_i32_847 : BitVec 32 := 8#32
  let v1894 : BitVec 32 := Scalar.muli arg2 c8_i32_847
  let c6_i32_848 : BitVec 32 := 6#32
  let v1895 : BitVec 32 := Scalar.addi v1894 c6_i32_848
  let c256_i32_849 : BitVec 32 := 256#32
  let v1896 : BitVec 32 := Scalar.muli v1895 c256_i32_849
  v1896
def k0_mult11 (i : grid0.Coords) : BitVec 32 :=
  let arg2 : BitVec 32 := BitVec.ofNat 32 (i 2).val
  let c8_i32_898 : BitVec 32 := 8#32
  let v1986 : BitVec 32 := Scalar.muli arg2 c8_i32_898
  let c5_i32_899 : BitVec 32 := 5#32
  let v1987 : BitVec 32 := Scalar.addi v1986 c5_i32_899
  let c256_i32_900 : BitVec 32 := 256#32
  let v1988 : BitVec 32 := Scalar.muli v1987 c256_i32_900
  v1988
def k0_mult12 (i : grid0.Coords) : BitVec 32 :=
  let arg2 : BitVec 32 := BitVec.ofNat 32 (i 2).val
  let c8_i32_949 : BitVec 32 := 8#32
  let v2078 : BitVec 32 := Scalar.muli arg2 c8_i32_949
  let c4_i32_950 : BitVec 32 := 4#32
  let v2079 : BitVec 32 := Scalar.addi v2078 c4_i32_950
  let c256_i32_951 : BitVec 32 := 256#32
  let v2080 : BitVec 32 := Scalar.muli v2079 c256_i32_951
  v2080
def k0_mult13 (i : grid0.Coords) : BitVec 32 :=
  let arg2 : BitVec 32 := BitVec.ofNat 32 (i 2).val
  let c8_i32_1000 : BitVec 32 := 8#32
  let v2170 : BitVec 32 := Scalar.muli arg2 c8_i32_1000
  let c3_i32_1001 : BitVec 32 := 3#32
  let v2171 : BitVec 32 := Scalar.addi v2170 c3_i32_1001
  let c256_i32_1002 : BitVec 32 := 256#32
  let v2172 : BitVec 32 := Scalar.muli v2171 c256_i32_1002
  v2172
def k0_mult14 (i : grid0.Coords) : BitVec 32 :=
  let arg2 : BitVec 32 := BitVec.ofNat 32 (i 2).val
  let c8_i32_1051 : BitVec 32 := 8#32
  let v2262 : BitVec 32 := Scalar.muli arg2 c8_i32_1051
  let c2_i32_1052 : BitVec 32 := 2#32
  let v2263 : BitVec 32 := Scalar.addi v2262 c2_i32_1052
  let c256_i32_1053 : BitVec 32 := 256#32
  let v2264 : BitVec 32 := Scalar.muli v2263 c256_i32_1053
  v2264
def k0_mult15 (i : grid0.Coords) : BitVec 32 :=
  let arg2 : BitVec 32 := BitVec.ofNat 32 (i 2).val
  let c8_i32_1102 : BitVec 32 := 8#32
  let v2354 : BitVec 32 := Scalar.muli arg2 c8_i32_1102
  let c1_i32_1103 : BitVec 32 := 1#32
  let v2355 : BitVec 32 := Scalar.addi v2354 c1_i32_1103
  let c256_i32_1104 : BitVec 32 := 256#32
  let v2356 : BitVec 32 := Scalar.muli v2355 c256_i32_1104
  v2356
def k0_mult16 (i : grid0.Coords) : BitVec 32 :=
  let arg2 : BitVec 32 := BitVec.ofNat 32 (i 2).val
  let c8_i32_1153 : BitVec 32 := 8#32
  let v2446 : BitVec 32 := Scalar.muli arg2 c8_i32_1153
  let c0_i32_1154 : BitVec 32 := 0#32
  let v2447 : BitVec 32 := Scalar.addi v2446 c0_i32_1154
  let c256_i32_1155 : BitVec 32 := 256#32
  let v2448 : BitVec 32 := Scalar.muli v2447 c256_i32_1155
  v2448
@[reducible] def k0_t1_loop (i : grid0.Coords) : Scf.Loop 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1208 : BitVec 32 := 1#32
  ⟨c0_i32_1206, v2543, c1_i32_1208⟩
def k0_mult17 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1238 : BitVec 32 := 8#32
  let v2574 : BitVec 32 := Scalar.muli arg21 c8_i32_1238
  let c0_i32_1239 : BitVec 32 := 0#32
  let v2575 : BitVec 32 := Scalar.addi v2574 c0_i32_1239
  let c256_i32_1240 : BitVec 32 := 256#32
  let v2576 : BitVec 32 := Scalar.muli v2575 c256_i32_1240
  v2576
def k0_off5 (i : grid0.Coords) (k0_t1 : Fin (k0_t1_loop i).trips) (c0_i32_1239 : BitVec 32) : Fin 3 → Nat :=
  let c0_1241 : Index := 0#32
  let c0_i32_1206 : BitVec 32 := 0#32
  let c1_i32_1208 : BitVec 32 := 1#32
  let arg21 : BitVec 32 := Scf.iv c0_i32_1206 c1_i32_1208 k0_t1
  let c8_i32_1238 : BitVec 32 := 8#32
  let v2574 : BitVec 32 := Scalar.muli arg21 c8_i32_1238
  let v2575 : BitVec 32 := Scalar.addi v2574 c0_i32_1239
  let c256_i32_1240 : BitVec 32 := 256#32
  let v2576 : BitVec 32 := Scalar.muli v2575 c256_i32_1240
  let v2577 : BitVec 32 := v2576
  let v2578 : Index := Scalar.indexCast v2577
  let c0_1242 : Index := 0#32
  ![0, v2578.toNat, 0]
def k0_off6 (i : grid0.Coords) (k0_t1 : Fin (k0_t1_loop i).trips) (c0_i32_1239 : BitVec 32) : Fin 3 → Nat :=
  let c1_1263 : Index := 1#32
  let c0_i32_1206 : BitVec 32 := 0#32
  let c1_i32_1208 : BitVec 32 := 1#32
  let arg21 : BitVec 32 := Scf.iv c0_i32_1206 c1_i32_1208 k0_t1
  let c8_i32_1238 : BitVec 32 := 8#32
  let v2574 : BitVec 32 := Scalar.muli arg21 c8_i32_1238
  let v2575 : BitVec 32 := Scalar.addi v2574 c0_i32_1239
  let c256_i32_1240 : BitVec 32 := 256#32
  let v2576 : BitVec 32 := Scalar.muli v2575 c256_i32_1240
  let v2577 : BitVec 32 := v2576
  let v2610 : Index := Scalar.indexCast v2577
  let c0_1264 : Index := 0#32
  ![1, v2610.toNat, 0]
def k0_mult18 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1285 : BitVec 32 := 8#32
  let v2642 : BitVec 32 := Scalar.muli arg21 c8_i32_1285
  let c1_i32_1286 : BitVec 32 := 1#32
  let v2643 : BitVec 32 := Scalar.addi v2642 c1_i32_1286
  let c256_i32_1287 : BitVec 32 := 256#32
  let v2644 : BitVec 32 := Scalar.muli v2643 c256_i32_1287
  v2644
def k0_mult19 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1332 : BitVec 32 := 8#32
  let v2710 : BitVec 32 := Scalar.muli arg21 c8_i32_1332
  let c2_i32_1333 : BitVec 32 := 2#32
  let v2711 : BitVec 32 := Scalar.addi v2710 c2_i32_1333
  let c256_i32_1334 : BitVec 32 := 256#32
  let v2712 : BitVec 32 := Scalar.muli v2711 c256_i32_1334
  v2712
def k0_mult20 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1379 : BitVec 32 := 8#32
  let v2778 : BitVec 32 := Scalar.muli arg21 c8_i32_1379
  let c3_i32_1380 : BitVec 32 := 3#32
  let v2779 : BitVec 32 := Scalar.addi v2778 c3_i32_1380
  let c256_i32_1381 : BitVec 32 := 256#32
  let v2780 : BitVec 32 := Scalar.muli v2779 c256_i32_1381
  v2780
def k0_mult21 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1426 : BitVec 32 := 8#32
  let v2846 : BitVec 32 := Scalar.muli arg21 c8_i32_1426
  let c4_i32_1427 : BitVec 32 := 4#32
  let v2847 : BitVec 32 := Scalar.addi v2846 c4_i32_1427
  let c256_i32_1428 : BitVec 32 := 256#32
  let v2848 : BitVec 32 := Scalar.muli v2847 c256_i32_1428
  v2848
def k0_mult22 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1473 : BitVec 32 := 8#32
  let v2914 : BitVec 32 := Scalar.muli arg21 c8_i32_1473
  let c5_i32_1474 : BitVec 32 := 5#32
  let v2915 : BitVec 32 := Scalar.addi v2914 c5_i32_1474
  let c256_i32_1475 : BitVec 32 := 256#32
  let v2916 : BitVec 32 := Scalar.muli v2915 c256_i32_1475
  v2916
def k0_mult23 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1520 : BitVec 32 := 8#32
  let v2982 : BitVec 32 := Scalar.muli arg21 c8_i32_1520
  let c6_i32_1521 : BitVec 32 := 6#32
  let v2983 : BitVec 32 := Scalar.addi v2982 c6_i32_1521
  let c256_i32_1522 : BitVec 32 := 256#32
  let v2984 : BitVec 32 := Scalar.muli v2983 c256_i32_1522
  v2984
def k0_mult24 (i : grid0.Coords) (k0_t1 : Fin (k0_t1_loop i).trips) : BitVec 32 :=
  let c0_i32_1206 : BitVec 32 := 0#32
  let c1_i32_1208 : BitVec 32 := 1#32
  let arg21 : BitVec 32 := Scf.iv c0_i32_1206 c1_i32_1208 k0_t1
  let c8_i32_1567 : BitVec 32 := 8#32
  let v3050 : BitVec 32 := Scalar.muli arg21 c8_i32_1567
  let c7_i32_1568 : BitVec 32 := 7#32
  let v3051 : BitVec 32 := Scalar.addi v3050 c7_i32_1568
  let c256_i32_1569 : BitVec 32 := 256#32
  let v3052 : BitVec 32 := Scalar.muli v3051 c256_i32_1569
  v3052
@[reducible] def k0_t2_loop (i : grid0.Coords) : Scf.Loop 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let v2540 : BitVec 32 := Scalar.addi c0_i32_1206 v2539
  let c1_i32_1209 : BitVec 32 := 1#32
  ⟨v2543, v2540, c1_i32_1209⟩
def k0_mult25 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1238 : BitVec 32 := 8#32
  let v2574 : BitVec 32 := Scalar.muli arg21 c8_i32_1238
  let c0_i32_1239 : BitVec 32 := 0#32
  let v2575 : BitVec 32 := Scalar.addi v2574 c0_i32_1239
  let c256_i32_1240 : BitVec 32 := 256#32
  let v2576 : BitVec 32 := Scalar.muli v2575 c256_i32_1240
  v2576
def k0_off7 (i : grid0.Coords) (k0_t2 : Fin (k0_t2_loop i).trips) (c0_i32_1239 : BitVec 32) : Fin 3 → Nat :=
  let c0_1241 : Index := 0#32
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1238 : BitVec 32 := 8#32
  let v2574 : BitVec 32 := Scalar.muli arg21 c8_i32_1238
  let v2575 : BitVec 32 := Scalar.addi v2574 c0_i32_1239
  let c256_i32_1240 : BitVec 32 := 256#32
  let v2576 : BitVec 32 := Scalar.muli v2575 c256_i32_1240
  let v2577 : BitVec 32 := v2576
  let v2578 : Index := Scalar.indexCast v2577
  let c0_1242 : Index := 0#32
  ![0, v2578.toNat, 0]
def k0_off8 (i : grid0.Coords) (k0_t2 : Fin (k0_t2_loop i).trips) (c0_i32_1239 : BitVec 32) : Fin 3 → Nat :=
  let c1_1263 : Index := 1#32
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1238 : BitVec 32 := 8#32
  let v2574 : BitVec 32 := Scalar.muli arg21 c8_i32_1238
  let v2575 : BitVec 32 := Scalar.addi v2574 c0_i32_1239
  let c256_i32_1240 : BitVec 32 := 256#32
  let v2576 : BitVec 32 := Scalar.muli v2575 c256_i32_1240
  let v2577 : BitVec 32 := v2576
  let v2610 : Index := Scalar.indexCast v2577
  let c0_1264 : Index := 0#32
  ![1, v2610.toNat, 0]
def k0_mult26 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1285 : BitVec 32 := 8#32
  let v2642 : BitVec 32 := Scalar.muli arg21 c8_i32_1285
  let c1_i32_1286 : BitVec 32 := 1#32
  let v2643 : BitVec 32 := Scalar.addi v2642 c1_i32_1286
  let c256_i32_1287 : BitVec 32 := 256#32
  let v2644 : BitVec 32 := Scalar.muli v2643 c256_i32_1287
  v2644
def k0_mult27 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1332 : BitVec 32 := 8#32
  let v2710 : BitVec 32 := Scalar.muli arg21 c8_i32_1332
  let c2_i32_1333 : BitVec 32 := 2#32
  let v2711 : BitVec 32 := Scalar.addi v2710 c2_i32_1333
  let c256_i32_1334 : BitVec 32 := 256#32
  let v2712 : BitVec 32 := Scalar.muli v2711 c256_i32_1334
  v2712
def k0_mult28 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1379 : BitVec 32 := 8#32
  let v2778 : BitVec 32 := Scalar.muli arg21 c8_i32_1379
  let c3_i32_1380 : BitVec 32 := 3#32
  let v2779 : BitVec 32 := Scalar.addi v2778 c3_i32_1380
  let c256_i32_1381 : BitVec 32 := 256#32
  let v2780 : BitVec 32 := Scalar.muli v2779 c256_i32_1381
  v2780
def k0_mult29 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1426 : BitVec 32 := 8#32
  let v2846 : BitVec 32 := Scalar.muli arg21 c8_i32_1426
  let c4_i32_1427 : BitVec 32 := 4#32
  let v2847 : BitVec 32 := Scalar.addi v2846 c4_i32_1427
  let c256_i32_1428 : BitVec 32 := 256#32
  let v2848 : BitVec 32 := Scalar.muli v2847 c256_i32_1428
  v2848
def k0_mult30 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1473 : BitVec 32 := 8#32
  let v2914 : BitVec 32 := Scalar.muli arg21 c8_i32_1473
  let c5_i32_1474 : BitVec 32 := 5#32
  let v2915 : BitVec 32 := Scalar.addi v2914 c5_i32_1474
  let c256_i32_1475 : BitVec 32 := 256#32
  let v2916 : BitVec 32 := Scalar.muli v2915 c256_i32_1475
  v2916
def k0_mult31 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1520 : BitVec 32 := 8#32
  let v2982 : BitVec 32 := Scalar.muli arg21 c8_i32_1520
  let c6_i32_1521 : BitVec 32 := 6#32
  let v2983 : BitVec 32 := Scalar.addi v2982 c6_i32_1521
  let c256_i32_1522 : BitVec 32 := 256#32
  let v2984 : BitVec 32 := Scalar.muli v2983 c256_i32_1522
  v2984
def k0_mult32 (i : grid0.Coords) (k0_t2 : Fin (k0_t2_loop i).trips) : BitVec 32 :=
  let c0_i32_1206 : BitVec 32 := 0#32
  let arg2 : BitVec 32 := BitVec.ofNat 32 (i 2).val
  let c1_i32_1204 : BitVec 32 := 1#32
  let v2538 : BitVec 32 := Scalar.muli arg2 c1_i32_1204
  let v2539 : BitVec 32 := Scalar.subi v2538 c0_i32_1206
  let c1_i32_1207 : BitVec 32 := 1#32
  let v2541 : BitVec 32 := Scalar.divsi v2539 c1_i32_1207
  let v2542 : BitVec 32 := Scalar.muli v2541 c1_i32_1207
  let v2543 : BitVec 32 := Scalar.addi c0_i32_1206 v2542
  let c1_i32_1209 : BitVec 32 := 1#32
  let arg21 : BitVec 32 := Scf.iv v2543 c1_i32_1209 k0_t2
  let c8_i32_1567 : BitVec 32 := 8#32
  let v3050 : BitVec 32 := Scalar.muli arg21 c8_i32_1567
  let c7_i32_1568 : BitVec 32 := 7#32
  let v3051 : BitVec 32 := Scalar.addi v3050 c7_i32_1568
  let c256_i32_1569 : BitVec 32 := 256#32
  let v3052 : BitVec 32 := Scalar.muli v3051 c256_i32_1569
  v3052
def k0_cond2 (i : grid0.Coords) : BitVec 1 :=
  let arg2 : BitVec 32 := BitVec.ofNat 32 (i 2).val
  let c0_i32_1221 : BitVec 32 := 0#32
  let v2560 : BitVec 1 := Scalar.cmpi .sgt arg2 c0_i32_1221
  let v2561 : BitVec 32 := Scalar.extui v2560
  let c0_i32_1222 : BitVec 32 := 0#32
  let v2562 : BitVec 1 := Scalar.cmpi .ne v2561 c0_i32_1222
  v2562

def k0_mult33 (i : grid0.Coords) : BitVec 32 :=
  let arg2 : BitVec 32 := BitVec.ofNat 32 (i 2).val
  let c8_i32_1238 : BitVec 32 := 8#32
  let v2574 : BitVec 32 := Scalar.muli arg2 c8_i32_1238
  let c1_i32_1239 : BitVec 32 := 1#32
  let v2575 : BitVec 32 := Scalar.subi v2574 c1_i32_1239
  let c256_i32_1240 : BitVec 32 := 256#32
  let v2576 : BitVec 32 := Scalar.muli v2575 c256_i32_1240
  v2576
def k0_off9 (i : grid0.Coords) : Fin 4 → Nat :=
  let c0_1241 : Index := 0#32
  let c0_1242 : Index := 0#32
  let arg2 : BitVec 32 := BitVec.ofNat 32 (i 2).val
  let c8_i32_1238 : BitVec 32 := 8#32
  let v2574 : BitVec 32 := Scalar.muli arg2 c8_i32_1238
  let c1_i32_1239 : BitVec 32 := 1#32
  let v2575 : BitVec 32 := Scalar.subi v2574 c1_i32_1239
  let c256_i32_1240 : BitVec 32 := 256#32
  let v2576 : BitVec 32 := Scalar.muli v2575 c256_i32_1240
  let v2577 : BitVec 32 := v2576
  let v2578 : Index := Scalar.indexCast v2577
  let c0_1243 : Index := 0#32
  ![0, 0, v2578.toNat, 0]
@[reducible] def k0_t3_loop : Scf.Loop 32 :=
  let c0_i32_1223 : BitVec 32 := 0#32
  let c8_i32_1224 : BitVec 32 := 8#32
  let v2563 : BitVec 32 := Scalar.addi c0_i32_1223 c8_i32_1224
  let c1_i32_1225 : BitVec 32 := 1#32
  ⟨c0_i32_1223, v2563, c1_i32_1225⟩
def k0_mult34 (k0_t3 : Fin k0_t3_loop.trips) : BitVec 32 :=
  let c0_i32_1223 : BitVec 32 := 0#32
  let c1_i32_1225 : BitVec 32 := 1#32
  let arg21 : BitVec 32 := Scf.iv c0_i32_1223 c1_i32_1225 k0_t3
  let c256_i32_1238 : BitVec 32 := 256#32
  let v2574 : BitVec 32 := Scalar.muli arg21 c256_i32_1238
  v2574
def k0_off10 (k0_t3 : Fin k0_t3_loop.trips) : Fin 3 → Nat :=
  let c0_1241 : Index := 0#32
  let c0_i32_1223 : BitVec 32 := 0#32
  let c1_i32_1225 : BitVec 32 := 1#32
  let arg21 : BitVec 32 := Scf.iv c0_i32_1223 c1_i32_1225 k0_t3
  let c256_i32_1238 : BitVec 32 := 256#32
  let v2574 : BitVec 32 := Scalar.muli arg21 c256_i32_1238
  let v2575 : BitVec 32 := v2574
  let v2580 : Index := Scalar.indexCast v2575
  let c0_1242 : Index := 0#32
  ![0, v2580.toNat, 0]
def k0_mult35 (arg22 : BitVec 32) : BitVec 32 :=
  let c256_i32_1241 : BitVec 32 := 256#32
  let v2580 : BitVec 32 := Scalar.muli arg22 c256_i32_1241
  v2580

def k0_off11 (arg22 : BitVec 32) : Fin 4 → Nat :=
  let c0_1242 : Index := 0#32
  let c0_1243 : Index := 0#32
  let c256_i32_1241 : BitVec 32 := 256#32
  let v2580 : BitVec 32 := Scalar.muli arg22 c256_i32_1241
  let v2581 : BitVec 32 := v2580
  let v2582 : Index := Scalar.indexCast v2581
  let c0_1244 : Index := 0#32
  ![0, 0, v2582.toNat, 0]

def k0_chk1 (arg22 : BitVec 32) : Prop :=
  (256 ∣ (k0_mult35 arg22).toNat) ∧
  (∀ a, (k0_off11 arg22) a + S1x1x256x128.size a ≤ S1x1x4096x128.size a)
theorem k0_mult35_dvd : ∀ (arg22 : BitVec 32) (k0_hw1 : k0_chk1 arg22), 256 ∣ (k0_mult35 arg22).toNat := fun arg22 k0_hw1 => k0_hw1.1
theorem k0_off11_inb : ∀ (arg22 : BitVec 32) (k0_hw1 : k0_chk1 arg22), ∀ a, (k0_off11 arg22) a + S1x1x256x128.size a ≤ S1x1x4096x128.size a := fun arg22 k0_hw1 => k0_hw1.2

def k0_off12 (k0_t3 : Fin k0_t3_loop.trips) : Fin 3 → Nat :=
  let c0_1248 : Index := 0#32
  let c0_i32_1223 : BitVec 32 := 0#32
  let c1_i32_1225 : BitVec 32 := 1#32
  let arg21 : BitVec 32 := Scf.iv c0_i32_1223 c1_i32_1225 k0_t3
  let c256_i32_1238 : BitVec 32 := 256#32
  let v2574 : BitVec 32 := Scalar.muli arg21 c256_i32_1238
  let v2575 : BitVec 32 := v2574
  let v2588 : Index := Scalar.indexCast v2575
  let c0_1249 : Index := 0#32
  ![0, v2588.toNat, 0]
def k0_off13 (k0_t3 : Fin k0_t3_loop.trips) : Fin 3 → Nat :=
  let c1_1250 : Index := 1#32
  let c0_i32_1223 : BitVec 32 := 0#32
  let c1_i32_1225 : BitVec 32 := 1#32
  let arg21 : BitVec 32 := Scf.iv c0_i32_1223 c1_i32_1225 k0_t3
  let c256_i32_1238 : BitVec 32 := 256#32
  let v2574 : BitVec 32 := Scalar.muli arg21 c256_i32_1238
  let v2575 : BitVec 32 := v2574
  let v2591 : Index := Scalar.indexCast v2575
  let c0_1251 : Index := 0#32
  ![1, v2591.toNat, 0]
def k0_off14 (k0_t3 : Fin k0_t3_loop.trips) : Fin 3 → Nat :=
  let c0_1258 : Index := 0#32
  let c0_i32_1223 : BitVec 32 := 0#32
  let c1_i32_1225 : BitVec 32 := 1#32
  let arg21 : BitVec 32 := Scf.iv c0_i32_1223 c1_i32_1225 k0_t3
  let c256_i32_1238 : BitVec 32 := 256#32
  let v2574 : BitVec 32 := Scalar.muli arg21 c256_i32_1238
  let v2575 : BitVec 32 := v2574
  let v2616 : Index := Scalar.indexCast v2575
  let c0_1259 : Index := 0#32
  ![0, v2616.toNat, 0]
def k0_off15 (k0_t3 : Fin k0_t3_loop.trips) : Fin 3 → Nat :=
  let c1_1267 : Index := 1#32
  let c0_i32_1223 : BitVec 32 := 0#32
  let c1_i32_1225 : BitVec 32 := 1#32
  let arg21 : BitVec 32 := Scf.iv c0_i32_1223 c1_i32_1225 k0_t3
  let c256_i32_1238 : BitVec 32 := 256#32
  let v2574 : BitVec 32 := Scalar.muli arg21 c256_i32_1238
  let v2575 : BitVec 32 := v2574
  let v2639 : Index := Scalar.indexCast v2575
  let c0_1268 : Index := 0#32
  ![1, v2639.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, v0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, arg2.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, arg2.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "dead" => some ⊤
  | "masked" => some ⊥
  | "neg_log2e" => some ((-((Real.log 2)⁻¹) : ℝ) : EReal)
  | _ => none
-- ==== AttnRefIdeal.lean ====
abbrev S8x32x4096x128 : Shape := ⟨4, ![8, 32, 4096, 128]⟩
abbrev S8x4x4096x128 : Shape := ⟨4, ![8, 4, 4096, 128]⟩
abbrev S8x4x4096x2x64 : Shape := ⟨5, ![8, 4, 4096, 2, 64]⟩
abbrev S8x4x2x4096x64 : Shape := ⟨5, ![8, 4, 2, 4096, 64]⟩
abbrev S8x8x4096x64 : Shape := ⟨4, ![8, 8, 4096, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 78
  | .vmem => 0
  | .smem => 0
  | _ => 0

abbrev bufTy : (tb : Table) → Fin (tcTables nBuf tb) → BufTy
  | .hbm, ⟨0, _⟩ => ⟨S8x32x4096x128, .bf16⟩
  | .hbm, ⟨1, _⟩ => ⟨S8x32x4096x128, .f32⟩
  | .hbm, ⟨2, _⟩ => ⟨S8x4x4096x128, .f32⟩
  | .hbm, ⟨3, _⟩ => ⟨S8x4x4096x2x64, .f32⟩
  | .hbm, ⟨4, _⟩ => ⟨S8x4x2x4096x64, .f32⟩
  | .hbm, ⟨5, _⟩ => ⟨S8x8x4096x64, .f32⟩
  | .hbm, ⟨6, _⟩ => ⟨S8x4x4096x128, .f32⟩
  | .hbm, ⟨7, _⟩ => ⟨S8x4x4096x2x64, .f32⟩
  | .hbm, ⟨8, _⟩ => ⟨S8x4x2x4096x64, .f32⟩
  | .hbm, ⟨9, _⟩ => ⟨S8x8x4096x64, .f32⟩
  | .hbm, ⟨10, _⟩ => ⟨S8x4x4096x128, .f32⟩
  | .hbm, ⟨11, _⟩ => ⟨S8x4x4096x2x64, .f32⟩
  | .hbm, ⟨12, _⟩ => ⟨S8x4x2x4096x64, .f32⟩
  | .hbm, ⟨13, _⟩ => ⟨S8x8x4096x64, .f32⟩
  | .hbm, ⟨14, _⟩ => ⟨S8x8x4096x4096, .f32⟩
  | .hbm, ⟨15, _⟩ => ⟨S_, .f32⟩
  | .hbm, ⟨16, _⟩ => ⟨S8x8x4096x4096, .f32⟩
  | .hbm, ⟨17, _⟩ => ⟨S8x8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S8x8x4096x4096, .f32⟩
  | .hbm, ⟨26, _⟩ => ⟨S8x8x4096x4096, .f32⟩
  | .hbm, ⟨27, _⟩ => ⟨S_, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .i1⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S8x8x4096x4096, .f32⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S_, .f32⟩
  | .hbm, ⟨44, _⟩ => ⟨S8x8x4096x4096, .i1⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S_, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S_, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .i1⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S8x8x4096x4096, .f32⟩
  | .hbm, ⟨66, _⟩ => ⟨S8x8x4096x4096, .f32⟩
  | .hbm, ⟨67, _⟩ => ⟨S8x8x4096x4096, .f32⟩
  | .hbm, ⟨68, _⟩ => ⟨S8x8x4096x4096, .f32⟩
  | .hbm, ⟨69, _⟩ => ⟨S_, .f32⟩
  | .hbm, ⟨70, _⟩ => ⟨S_, .f32⟩
  | .hbm, ⟨71, _⟩ => ⟨S8x8x4096x4096, .i1⟩
  | .hbm, ⟨72, _⟩ => ⟨S8x8x4096x4096, .f32⟩
  | .hbm, ⟨73, _⟩ => ⟨S8x8x4096x4096, .f32⟩
  | .hbm, ⟨74, _⟩ => ⟨S8x8x4096x64, .f32⟩
  | .hbm, ⟨75, _⟩ => ⟨S8x4x2x4096x64, .f32⟩
  | .hbm, ⟨76, _⟩ => ⟨S8x4x4096x2x64, .f32⟩
  | .hbm, ⟨77, _⟩ => ⟨S8x4x4096x128, .f32⟩
  | _, _ => ⟨S8x32x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v24 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_call2_cst : Ref sig .tc := ⟨.hbm, 47, rfl⟩
abbrev main_call2_v0 : Ref sig .tc := ⟨.hbm, 48, rfl⟩
abbrev main_v26 : Ref sig .tc := ⟨.hbm, 49, rfl⟩
abbrev main_v27 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x4096 : Shape := ⟨3, ![1, 1024, 4096]⟩
abbrev S32768x1024 : Shape := ⟨2, ![32768, 1024]⟩
abbrev S1024 : Shape := ⟨1, ![1024]⟩
abbrev S1024x4096 : Shape := ⟨2, ![1024, 4096]⟩
abbrev S8x32x4096x128 : Shape := ⟨4, ![8, 32, 4096, 128]⟩
abbrev S512x1024 : Shape := ⟨2, ![512, 1024]⟩
abbrev S1x32x512x128 : Shape := ⟨4, ![1, 32, 512, 128]⟩
abbrev S512 : Shape := ⟨1, ![512]⟩
abbrev S512x1 : Shape := ⟨2, ![512, 1]⟩
abbrev S512x4096 : Shape := ⟨2, ![512, 4096]⟩
abbrev S512x128 : Shape := ⟨2, ![512, 128]⟩
abbrev S1x1x512x128 : Shape := ⟨4, ![1, 1, 512, 128]⟩

abbrev nBuf : Space → Nat
  | .hbm => 9
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4096, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x4096, .f32⟩
  | .hbm, ⟨7, _⟩ => ⟨S1024x4096, .bf16⟩
  | .hbm, ⟨8, _⟩ => ⟨S8x32x4096x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x32x512x128, .bf16⟩
  | .local _ .vmem, ⟨5, _⟩ => ⟨S1x32x512x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S8x4096x1024 : Shape := ⟨3, ![8, 4096, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S8x4096x32x128 : Shape := ⟨4, ![8, 4096, 32, 128]⟩
abbrev S8x32x4096x128 : Shape := ⟨4, ![8, 32, 4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x4096, .f32⟩
  | .hbm, ⟨21, _⟩ => ⟨S8x4096x4096, .f32⟩
  | .hbm, ⟨22, _⟩ => ⟨S8x4096x32x128, .f32⟩
  | .hbm, ⟨23, _⟩ => ⟨S8x32x4096x128, .f32⟩
  | .hbm, ⟨24, _⟩ => ⟨S8x32x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Out.lean ====
abbrev S8x4096x1024 : Shape := ⟨3, ![8, 4096, 1024]⟩
abbrev S8x4x4096x128 : Shape := ⟨4, ![8, 4, 4096, 128]⟩
abbrev S8x32x4096x128 : Shape := ⟨4, ![8, 32, 4096, 128]⟩
abbrev S1x8x4096x256 : Shape := ⟨4, ![1, 8, 4096, 256]⟩
abbrev S1x512 : Shape := ⟨2, ![1, 512]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S32768x1024 : Shape := ⟨2, ![32768, 1024]⟩
abbrev S8x4096x256 : Shape := ⟨3, ![8, 4096, 256]⟩
abbrev S32768x256 : Shape := ⟨2, ![32768, 256]⟩
abbrev S512 : Shape := ⟨1, ![512]⟩
abbrev S1024x1024 : Shape := ⟨2, ![1024, 1024]⟩
abbrev S256x1024 : Shape := ⟨2, ![256, 1024]⟩
abbrev S512x1024 : Shape := ⟨2, ![512, 1024]⟩
abbrev S1x4x512x128 : Shape := ⟨4, ![1, 4, 512, 128]⟩
abbrev S512x256 : Shape := ⟨2, ![512, 256]⟩
abbrev S1x1x512x128 : Shape := ⟨4, ![1, 1, 512, 128]⟩
abbrev S512x128 : Shape := ⟨2, ![512, 128]⟩
abbrev S512x512 : Shape := ⟨2, ![512, 512]⟩
abbrev S512x1 : Shape := ⟨2, ![512, 1]⟩

abbrev nBuf : Space → Nat
  | .hbm => 29
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x4x4096x128, .f32⟩
  | .hbm, ⟨2, _⟩ => ⟨S8x4x4096x128, .f32⟩
  | .hbm, ⟨3, _⟩ => ⟨S8x32x4096x128, .bf16⟩
  | .hbm, ⟨4, _⟩ => ⟨S1x8x4096x256, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x256x1024, .f32⟩
  | .hbm, ⟨9, _⟩ => ⟨S1x1024, .f32⟩
  | .hbm, ⟨10, _⟩ => ⟨S1x1024x1024, .f32⟩
  | .hbm, ⟨11, _⟩ => ⟨S1024, .f32⟩
  | .hbm, ⟨12, _⟩ => ⟨S32768x1024, .f32⟩
  | .hbm, ⟨13, _⟩ => ⟨S8x4096x256, .f32⟩
  | .hbm, ⟨14, _⟩ => ⟨S32768x256, .f32⟩
  | .hbm, ⟨15, _⟩ => ⟨S512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024x1024, .f32⟩
  | .hbm, ⟨24, _⟩ => ⟨S1024x1024, .bf16⟩
  | .hbm, ⟨25, _⟩ => ⟨S256x1024, .f32⟩
  | .hbm, ⟨26, _⟩ => ⟨S256x1024, .bf16⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x4x512x128, .f32⟩
  | .local _ .vmem, ⟨3, _⟩ => ⟨S1x4x512x128, .f32⟩
  | .local _ .vmem, ⟨4, _⟩ => ⟨S1x4x512x128, .f32⟩
  | .local _ .vmem, ⟨5, _⟩ => ⟨S1x4x512x128, .f32⟩
  | .local _ .vmem, ⟨6, _⟩ => ⟨S1x4x512x128, .bf16⟩
  | .local _ .vmem, ⟨7, _⟩ => ⟨S1x4x512x128, .bf16⟩
  | .local _ .vmem, ⟨8, _⟩ => ⟨S1x4x512x128, .bf16⟩
  | .local _ .vmem, ⟨9, _⟩ => ⟨S1x4x512x128, .bf16⟩
  | .local _ .vmem, ⟨10, _⟩ => ⟨S512x256, .f32⟩
  | .local _ .vmem, ⟨11, _⟩ => ⟨S512x256, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![v16.toNat, c3_i32.toNat, v26.toNat, c0_i32_10.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let c0_i32_10 : BitVec 32 := 0#32
  let c0_i32_11 : BitVec 32 := 0#32
  ![v16.toNat, c7_i32.toNat, v26.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutRefIdeal.lean ====
abbrev S8x4096x1024 : Shape := ⟨3, ![8, 4096, 1024]⟩
abbrev S8x4x4096x128 : Shape := ⟨4, ![8, 4, 4096, 128]⟩
abbrev S8x32x4096x128 : Shape := ⟨4, ![8, 32, 4096, 128]⟩
abbrev S1x8x4096x256 : Shape := ⟨4, ![1, 8, 4096, 256]⟩
abbrev S1x512 : Shape := ⟨2, ![1, 512]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S8x4096x4x128 : Shape := ⟨4, ![8, 4096, 4, 128]⟩
abbrev S8x4096x512 : Shape := ⟨3, ![8, 4096, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1024x1024 : Shape := ⟨2, ![1024, 1024]⟩
abbrev S1x1x1024 : Shape := ⟨3, ![1, 1, 1024]⟩
abbrev S8x4096x256 : Shape := ⟨3, ![8, 4096, 256]⟩
abbrev S256x1024 : Shape := ⟨2, ![256, 1024]⟩
abbrev S32768x1024 : Shape := ⟨2, ![32768, 1024]⟩

abbrev nBuf : Space → Nat
  | .hbm => 130
  | .vmem => 0
  | .smem => 0
  | _ => 0

abbrev hbmTy0_0 (i : Nat) : BufTy := match i % 128 with
  | 0 => ⟨S8x4096x1024, .f32⟩
  | 1 => ⟨S8x4x4096x128, .f32⟩
  | 2 => ⟨S8x4x4096x128, .f32⟩
  | 3 => ⟨S8x32x4096x128, .bf16⟩
  | 4 => ⟨S1x8x4096x256, .f32⟩
  | 5 => ⟨S1x512, .f32⟩
  | 6 => ⟨S1x512, .f32⟩
  | 7 => ⟨S1x1024x1024, .f32⟩
  | 8 => ⟨S1x256x1024, .f32⟩
  | 9 => ⟨S1x1024, .f32⟩
  | 10 => ⟨S1x1024x1024, .f32⟩
  | 11 => ⟨S1024, .f32⟩
  | 12 => ⟨S8x32x4096x128, .f32⟩
  | 13 => ⟨S8x4x4096x128, .f32⟩
  | 14 => ⟨S8x4096x4x128, .f32⟩
  | 15 => ⟨S8x4096x512, .f32⟩
  | 16 => ⟨S8x4x4096x128, .f32⟩
  | 17 => ⟨S8x4096x4x128, .f32⟩
  | 18 => ⟨S8x4096x512, .f32⟩
  | 19 => ⟨S8x4096x4x128, .f32⟩
  | 20 => ⟨S8x4096x512, .f32⟩
  | 21 => ⟨S512, .f32⟩
  | 22 => ⟨S8x4096x512, .f32⟩
  | 23 => ⟨S_, .f32⟩
  | 24 => ⟨S8x4096, .f32⟩
  | 25 => ⟨S8x4096x1, .f32⟩
  | 26 => ⟨S_, .f32⟩
  | 27 => ⟨S8x4096x1, .f32⟩
  | 28 => ⟨S8x4096x1, .f32⟩
  | 29 => ⟨S_, .f32⟩
  | 30 => ⟨S8x4096x1, .f32⟩
  | 31 => ⟨S8x4096x1, .f32⟩
  | 32 => ⟨S8x4096x1, .f32⟩
  | 33 => ⟨S8x4096x512, .f32⟩
  | 34 => ⟨S8x4096x512, .f32⟩
  | 35 => ⟨S1x1x512, .f32⟩
  | 36 => ⟨S8x4096x512, .f32⟩
  | 37 => ⟨S8x4096x512, .f32⟩
  | 38 => ⟨S8x4096x512, .f32⟩
  | 39 => ⟨S8x4096x512, .f32⟩
  | 40 => ⟨S_, .f32⟩
  | 41 => ⟨S8x4096x512, .f32⟩
  | 42 => ⟨S8x4096x512, .f32⟩
  | 43 => ⟨S_, .f32⟩
  | 44 => ⟨S8x4096x512, .f32⟩
  | 45 => ⟨S8x4096x512, .f32⟩
  | 46 => ⟨S8x4096x512, .f32⟩
  | 47 => ⟨S8x4096x512, .f32⟩
  | 48 => ⟨S8x4096x4x128, .f32⟩
  | 49 => ⟨S8x4096x512, .f32⟩
  | 50 => ⟨S512, .f32⟩
  | 51 => ⟨S8x4096x512, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S_, .f32⟩
  | 59 => ⟨S8x4096x1, .f32⟩
  | 60 => ⟨S8x4096x1, .f32⟩
  | 61 => ⟨S8x4096x1, .f32⟩
  | 62 => ⟨S8x4096x512, .f32⟩
  | 63 => ⟨S8x4096x512, .f32⟩
  | 64 => ⟨S1x1x512, .f32⟩
  | 65 => ⟨S8x4096x512, .f32⟩
  | 66 => ⟨S8x4096x512, .f32⟩
  | 67 => ⟨S8x4096x512, .f32⟩
  | 68 => ⟨S8x4096x512, .f32⟩
  | 69 => ⟨S_, .f32⟩
  | 70 => ⟨S8x4096x512, .f32⟩
  | 71 => ⟨S8x4096x512, .f32⟩
  | 72 => ⟨S_, .f32⟩
  | 73 => ⟨S8x4096x512, .f32⟩
  | 74 => ⟨S8x4096x512, .f32⟩
  | 75 => ⟨S8x4096x512, .f32⟩
  | 76 => ⟨S8x4096x512, .f32⟩
  | 77 => ⟨S8x4096x1024, .f32⟩
  | 78 => ⟨S1024x1024, .f32⟩
  | 79 => ⟨S8x4096x1024, .f32⟩
  | 80 => ⟨S8x4096x1024, .f32⟩
  | 81 => ⟨S1024, .f32⟩
  | 82 => ⟨S8x4096x1024, .f32⟩
  | 83 => ⟨S_, .f32⟩
  | 84 => ⟨S8x4096, .f32⟩
  | 85 => ⟨S8x4096x1, .f32⟩
  | 86 => ⟨S_, .f32⟩
  | 87 => ⟨S8x4096x1, .f32⟩
  | 88 => ⟨S8x4096x1, .f32⟩
  | 89 => ⟨S_, .f32⟩
  | 90 => ⟨S8x4096x1, .f32⟩
  | 91 => ⟨S8x4096x1, .f32⟩
  | 92 => ⟨S8x4096x1, .f32⟩
  | 93 => ⟨S8x4096x1024, .f32⟩
  | 94 => ⟨S8x4096x1024, .f32⟩
  | 95 => ⟨S1x1x1024, .f32⟩
  | 96 => ⟨S8x4096x1024, .f32⟩
  | 97 => ⟨S8x4096x1024, .f32⟩
  | 98 => ⟨S1024x1024, .f32⟩
  | 99 => ⟨S8x4096x1024, .f32⟩
  | 100 => ⟨S8x4096x1024, .f32⟩
  | 101 => ⟨S8x4096x1024, .f32⟩
  | 102 => ⟨S_, .f32⟩
  | 103 => ⟨S8x4096x1024, .f32⟩
  | 104 => ⟨S8x4096x1024, .f32⟩
  | 105 => ⟨S_, .f32⟩
  | 106 => ⟨S8x4096x1024, .f32⟩
  | 107 => ⟨S8x4096x1024, .f32⟩
  | 108 => ⟨S8x4096x256, .f32⟩
  | 109 => ⟨S256x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S_, .f32⟩
  | 115 => ⟨S8x4096, .f32⟩
  | 116 => ⟨S8x4096x1, .f32⟩
  | 117 => ⟨S_, .f32⟩
  | 118 => ⟨S8x4096x1, .f32⟩
  | 119 => ⟨S8x4096x1, .f32⟩
  | 120 => ⟨S_, .f32⟩
  | 121 => ⟨S8x4096x1, .f32⟩
  | 122 => ⟨S8x4096x1, .f32⟩
  | 123 => ⟨S8x4096x1, .f32⟩
  | 124 => ⟨S8x4096x1024, .f32⟩
  | 125 => ⟨S8x4096x1024, .f32⟩
  | 126 => ⟨S1x1x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Proof.AttnIdealState.lean ====
/-
  The attention kernel's buffers and what one operation of its body does to them. `Ops` is the eighteen operands the body
  is called with; `Ins` what the seven read-only ones hold, `Sb` what the four buffers of the stick-breaking half hold, `Mb`
  what the seven buffers of the block-sparse half hold. `Runs` says of a piece of the body that it takes one `Sb` to another
  and yields a value; `Quiet` that it leaves the `Sb` alone.
-/
module

public import proofs.«01_k».proof.Proof.Gen.AttnIdeal.Skeleton
public import proofs.«01_k».proof.Proof.Gen.AttnIdeal.Launch
public import Idealize.ShloMosaic.Lib.VecWindow
public import Idealize.ShloMosaic.Lib.Scf
public import Idealize.ShloMosaic.Lib.Tactic

@[expose] public section

noncomputable section

namespace Cert.AttnIdeal.Body

open Cert.AttnIdeal Cert.AttnIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The operands of the kernel's body, in its order: the slopes, the six input blocks, the two result blocks, the nine
    scratch buffers. -/
structure Ops where
  a3 : Memref sig .tc .smem S8 .f32
  h3 : a3.IsWhole
  a4 : Memref sig .tc .vmem S1x1x2048x128 .bf16
  h4 : a4.IsWhole
  a5 : Memref sig .tc .vmem S1x1x4096x128 .bf16
  h5 : a5.IsWhole
  a6 : Memref sig .tc .vmem S1x1x4096x128 .bf16
  h6 : a6.IsWhole
  a7 : Memref sig .tc .vmem S1x1x2048x128 .bf16
  h7 : a7.IsWhole
  a8 : Memref sig .tc .vmem S1x1x4096x128 .bf16
  h8 : a8.IsWhole
  a9 : Memref sig .tc .vmem S1x1x4096x128 .bf16
  h9 : a9.IsWhole
  a10 : Memref sig .tc .vmem S1x1x2048x128 .f32
  h10 : a10.IsWhole
  a11 : Memref sig .tc .vmem S1x1x2048x128 .f32
  h11 : a11.IsWhole
  a12 : Memref sig .tc .vmem S2x2048x128 .bf16
  h12 : a12.IsWhole
  a13 : Memref sig .tc .vmem S2x2048x128 .f32
  h13 : a13.IsWhole
  a14 : Memref sig .tc .vmem S2x2048x1 .f32
  h14 : a14.IsWhole
  a15 : Memref sig .tc .vmem S16x128 .f32
  h15 : a15.IsWhole
  a16 : Memref sig .tc .vmem S2x4096x128 .bf16
  h16 : a16.IsWhole
  a17 : Memref sig .tc .vmem S2x4096x128 .bf16
  h17 : a17.IsWhole
  a18 : Memref sig .tc .vmem S2x2048x128 .bf16
  h18 : a18.IsWhole
  a19 : Memref sig .tc .vmem S2x2048x128 .f32
  h19 : a19.IsWhole
  a20 : Memref sig .tc .vmem S2x2048x128 .f32
  h20 : a20.IsWhole

/-- What the read-only operands hold. -/
structure Ins (F : FTy → Type) where
  x3 : S8.Idx → Elt F .f32
  x4 : S1x1x2048x128.Idx → Elt F .bf16
  x5 : S1x1x4096x128.Idx → Elt F .bf16
  x6 : S1x1x4096x128.Idx → Elt F .bf16
  x7 : S1x1x2048x128.Idx → Elt F .bf16
  x8 : S1x1x4096x128.Idx → Elt F .bf16
  x9 : S1x1x4096x128.Idx → Elt F .bf16

/-- What the buffers of the stick-breaking half hold: its result block, the two heads' queries, the weighted sums of the values and the accumulated logarithms. -/
structure Sb (F : FTy → Type) where
  os : S1x1x2048x128.Idx → Elt F .f32
  qh : S2x2048x128.Idx → Elt F .bf16
  acc : S2x2048x128.Idx → Elt F .f32
  c : S2x2048x1.Idx → Elt F .f32

/-- What the buffers of the block-sparse half hold. -/
structure Mb (F : FTy → Type) where
  x11 : S1x1x2048x128.Idx → Elt F .f32
  x15 : S16x128.Idx → Elt F .f32
  x16 : S2x4096x128.Idx → Elt F .bf16
  x17 : S2x4096x128.Idx → Elt F .bf16
  x18 : S2x2048x128.Idx → Elt F .bf16
  x19 : S2x2048x128.Idx → Elt F .f32
  x20 : S2x2048x128.Idx → Elt F .f32

/-- The body's operands owned, at what they hold. -/
def Own (o : Ops) (d : Dev nD) (X : Ins F) (s : Sb F) (m : Mb F) : sProp 𝕄 :=
  iprop(owns (d : Thread nD τ) o.a3 fullShare X.x3 ∗ owns (d : Thread nD τ) o.a4 fullShare X.x4 ∗ owns (d : Thread nD τ) o.a5 fullShare X.x5 ∗ owns (d : Thread nD τ) o.a6 fullShare X.x6 ∗ owns (d : Thread nD τ) o.a7 fullShare X.x7 ∗ owns (d : Thread nD τ) o.a8 fullShare X.x8 ∗ owns (d : Thread nD τ) o.a9 fullShare X.x9 ∗ owns (d : Thread nD τ) o.a10 fullShare s.os ∗ owns (d : Thread nD τ) o.a12 fullShare s.qh ∗ owns (d : Thread nD τ) o.a13 fullShare s.acc ∗ owns (d : Thread nD τ) o.a14 fullShare s.c ∗ owns (d : Thread nD τ) o.a11 fullShare m.x11 ∗ owns (d : Thread nD τ) o.a15 fullShare m.x15 ∗ owns (d : Thread nD τ) o.a16 fullShare m.x16 ∗ owns (d : Thread nD τ) o.a17 fullShare m.x17 ∗ owns (d : Thread nD τ) o.a18 fullShare m.x18 ∗ owns (d : Thread nD τ) o.a19 fullShare m.x19 ∗ owns (d : Thread nD τ) o.a20 fullShare m.x20)

/-- The piece `p` of the body takes `s` to `r.2` and yields `r.1`, whatever the block-sparse half's buffers hold before and after. -/
def Runs (o : Ops) (d : Dev nD) (bd : Option Variants.nat.V) (X : Ins F) {α : Type} (p : Prog (TpuEff nD τ sig (Elt F) (Λ₀ F) .tc) α) (s : Sb F) (r : α × Sb F) : Prop :=
  ∀ (m : Mb F) (Q : α → sProp 𝕄), iprop(Own o d X s m ∗ (∀ m', Own o d X r.2 m' -∗ Q r.1)) ⊢ wp frame (wpE (defs₀ (F := F)) Variants.nat (d : Thread nD τ) bd) Set.univ p Q

/-- The piece `p` of the body leaves the stick-breaking half's buffers alone and yields a value with `P`. -/
def Quiet (o : Ops) {α : Type} (p : Prog (TpuEff nD τ sig (Elt F) (Λ₀ F) .tc) α) (P : α → Prop) : Prop :=
  ∀ (d : Dev nD) (bd : Option Variants.nat.V) (X : Ins F) (s : Sb F) (m : Mb F) (Q : α → sProp 𝕄),
    iprop(Own o d X s m ∗ (∀ r m', ⌜P r⌝ -∗ Own o d X s m' -∗ Q r)) ⊢ wp frame (wpE (defs₀ (F := F)) Variants.nat (d : Thread nD τ) bd) Set.univ p Q

variable {o : Ops} {d : Dev nD} {bd : Option Variants.nat.V} {X : Ins F} {α β : Type}

theorem Runs.pure (a : α) (s : Sb F) : Runs o d bd X (Pure.pure a) s (a, s) := by
  intro m Q
  show _ ⊢ wp _ _ _ (.ret a) Q
  rw [wp_ret]
  iintro ⟨H, HQ⟩
  imodintro
  iapply HQ; iexact H

theorem Runs.bind {p : Prog (TpuEff nD τ sig (Elt F) (Λ₀ F) .tc) α} {k : α → Prog (TpuEff nD τ sig (Elt F) (Λ₀ F) .tc) β} {s : Sb F} {r : α × Sb F} {r' : β × Sb F}
    (hp : Runs o d bd X p s r) (hk : Runs o d bd X (k r.1) r.2 r') : Runs o d bd X (p >>= k) s r' := by
  intro m Q
  rw [wp_bind]
  iintro ⟨H, HQ⟩
  iapply (hp m _)
  isplitl [H]; · iexact H
  iintro %m' H
  iapply (hk m' Q)
  isplitl [H]; · iexact H
  iexact HQ

theorem Quiet.pure {P : α → Prop} {a : α} (h : P a) : Quiet (F := F) o (Pure.pure a) P := by
  intro d bd X s m Q
  show _ ⊢ wp _ _ _ (.ret a) Q
  rw [wp_ret]
  iintro ⟨H, HQ⟩
  imodintro
  iapply HQ
  · ipureintro; exact h
  iexact H

theorem Quiet.bind {p : Prog (TpuEff nD τ sig (Elt F) (Λ₀ F) .tc) α} {k : α → Prog (TpuEff nD τ sig (Elt F) (Λ₀ F) .tc) β} {P : α → Prop} {P' : β → Prop}
    (hp : Quiet o p P) (hk : ∀ r, P r → Quiet o (k r) P') : Quiet o (p >>= k) P' := by
  intro d bd X s m Q
  rw [wp_bind]
  iintro ⟨H, HQ⟩
  iapply (hp d bd X s m _)
  isplitl [H]; · iexact H
  iintro %r %m' %h H
  iapply (hk r h d bd X s m' Q)
  isplitl [H]; · iexact H
  iexact HQ

/-- A piece that leaves the stick-breaking half alone, followed by one that takes `s` to a state. -/
theorem Quiet.runs_bind {p : Prog (TpuEff nD τ sig (Elt F) (Λ₀ F) .tc) α} {k : α → Prog (TpuEff nD τ sig (Elt F) (Λ₀ F) .tc) β} {P : α → Prop} {s : Sb F} {r' : β × Sb F}
    (hp : Quiet o p P) (hk : ∀ r, P r → Runs o d bd X (k r) s r') : Runs o d bd X (p >>= k) s r' := by
  intro m Q
  rw [wp_bind]
  iintro ⟨H, HQ⟩
  iapply (hp d bd X s m _)
  isplitl [H]; · iexact H
  iintro %r %m' %h H
  iapply (hk r h m' Q)
  isplitl [H]; · iexact H
  iexact HQ

variable (F) in
/-- An operand whose contents the body may read. -/
class Reads (o : Ops) {sp : Space} {S : Shape} {e : EltTy} (a : Memref sig .tc sp S e)  where
  get : Ins F → Sb F → Mb F → S.Idx → Elt F e
  split : ∀ (d : Dev nD) (X : Ins F) (s : Sb F) (m : Mb F), ∃ R : sProp 𝕄,
    (Own o d X s m ⊢ iprop(owns (d : Thread nD τ) a fullShare (get X s m) ∗ R)) ∧ (iprop(owns (d : Thread nD τ) a fullShare (get X s m) ∗ R) ⊢ Own o d X s m)

variable (F) in
/-- An operand of the stick-breaking half the body writes. -/
class WritesSb (o : Ops) {sp : Space} {S : Shape} {e : EltTy} (a : Memref sig .tc sp S e)  where
  get : Sb F → S.Idx → Elt F e
  set : Sb F → (S.Idx → Elt F e) → Sb F
  split : ∀ (d : Dev nD) (X : Ins F) (s : Sb F) (m : Mb F), ∃ R : sProp 𝕄,
    (Own o d X s m ⊢ iprop(owns (d : Thread nD τ) a fullShare (get s) ∗ R)) ∧ ∀ w, (iprop(owns (d : Thread nD τ) a fullShare w ∗ R) ⊢ Own o d X (set s w) m)

variable (F) in
/-- An operand of the block-sparse half the body writes. -/
class WritesMb (o : Ops) {sp : Space} {S : Shape} {e : EltTy} (a : Memref sig .tc sp S e)  where
  get : Mb F → S.Idx → Elt F e
  set : Mb F → (S.Idx → Elt F e) → Mb F
  split : ∀ (d : Dev nD) (X : Ins F) (s : Sb F) (m : Mb F), ∃ R : sProp 𝕄,
    (Own o d X s m ⊢ iprop(owns (d : Thread nD τ) a fullShare (get m) ∗ R)) ∧ ∀ w, (iprop(owns (d : Thread nD τ) a fullShare w ∗ R) ⊢ Own o d X s (set m w))

/-- The assertions of `l` and then `q`. -/
def chain (l : List (sProp 𝕄)) (q : sProp 𝕄) : sProp 𝕄 := l.foldr (fun p r => iprop(p ∗ r)) q

theorem chain_pull (q : sProp 𝕄) : ∀ (l : List (sProp 𝕄)) (k : Fin l.length), (chain l q ⊢ iprop(l.get k ∗ chain (l.eraseIdx k) q)) ∧ (iprop(l.get k ∗ chain (l.eraseIdx k) q) ⊢ chain l q)
  | [], k => k.elim0
  | a :: l, ⟨0, _⟩ => ⟨.rfl, .rfl⟩
  | a :: l, ⟨k + 1, hk⟩ => by
    obtain ⟨h1, h2⟩ := chain_pull q l ⟨k, Nat.lt_of_succ_lt_succ hk⟩
    constructor
    · show iprop(a ∗ chain l q) ⊢ iprop(l.get ⟨k, Nat.lt_of_succ_lt_succ hk⟩ ∗ a ∗ chain (l.eraseIdx k) q)
      iintro ⟨Ha, Hl⟩
      ihave Hl := h1 $$ Hl
      icases Hl with ⟨Hk, Hl⟩
      isplitl [Hk]; · iexact Hk
      isplitl [Ha]; · iexact Ha
      iexact Hl
    · show iprop(l.get ⟨k, Nat.lt_of_succ_lt_succ hk⟩ ∗ a ∗ chain (l.eraseIdx k) q) ⊢ iprop(a ∗ chain l q)
      iintro ⟨Hk, Ha, Hl⟩
      isplitl [Ha]; · iexact Ha
      iapply h2
      isplitl [Hk]; · iexact Hk
      iexact Hl

/-- The operands' ownership, the last apart. -/
def sides (o : Ops) (d : Dev nD) (X : Ins F) (s : Sb F) (m : Mb F) : List (sProp 𝕄) :=
  [owns (d : Thread nD τ) o.a3 fullShare X.x3, owns (d : Thread nD τ) o.a4 fullShare X.x4, owns (d : Thread nD τ) o.a5 fullShare X.x5, owns (d : Thread nD τ) o.a6 fullShare X.x6, owns (d : Thread nD τ) o.a7 fullShare X.x7, owns (d : Thread nD τ) o.a8 fullShare X.x8, owns (d : Thread nD τ) o.a9 fullShare X.x9, owns (d : Thread nD τ) o.a10 fullShare s.os, owns (d : Thread nD τ) o.a12 fullShare s.qh, owns (d : Thread nD τ) o.a13 fullShare s.acc, owns (d : Thread nD τ) o.a14 fullShare s.c, owns (d : Thread nD τ) o.a11 fullShare m.x11, owns (d : Thread nD τ) o.a15 fullShare m.x15, owns (d : Thread nD τ) o.a16 fullShare m.x16, owns (d : Thread nD τ) o.a17 fullShare m.x17, owns (d : Thread nD τ) o.a18 fullShare m.x18, owns (d : Thread nD τ) o.a19 fullShare m.x19]

theorem Own_pull (o : Ops) (d : Dev nD) (X : Ins F) (s : Sb F) (m : Mb F) (k : Fin 17) :
    (Own o d X s m ⊢ iprop((sides o d X s m).get k ∗ chain ((sides o d X s m).eraseIdx k) (owns (d : Thread nD τ) o.a20 fullShare m.x20)))
      ∧ (iprop((sides o d X s m).get k ∗ chain ((sides o d X s m).eraseIdx k) (owns (d : Thread nD τ) o.a20 fullShare m.x20)) ⊢ Own o d X s m) :=
  chain_pull (owns (d : Thread nD τ) o.a20 fullShare m.x20) (sides o d X s m) k

theorem chain_last (q : sProp 𝕄) : ∀ l : List (sProp 𝕄), (chain l q ⊢ iprop(q ∗ chain l iprop(emp))) ∧ (iprop(q ∗ chain l iprop(emp)) ⊢ chain l q)
  | [] => ⟨by show q ⊢ iprop(q ∗ emp); iintro H; isplitl [H]; · iexact H
              iempintro, by show iprop(q ∗ emp) ⊢ q; iintro ⟨H, -⟩; iexact H⟩
  | a :: l => by
    obtain ⟨h1, h2⟩ := chain_last q l
    constructor
    · show iprop(a ∗ chain l q) ⊢ iprop(q ∗ a ∗ chain l iprop(emp))
      iintro ⟨Ha, Hl⟩
      ihave Hl := h1 $$ Hl
      icases Hl with ⟨Hk, Hl⟩
      isplitl [Hk]; · iexact Hk
      isplitl [Ha]; · iexact Ha
      iexact Hl
    · show iprop(q ∗ a ∗ chain l iprop(emp)) ⊢ iprop(a ∗ chain l q)
      iintro ⟨Hk, Ha, Hl⟩
      isplitl [Ha]; · iexact Ha
      iapply h2
      isplitl [Hk]; · iexact Hk
      iexact Hl

theorem Own_last (o : Ops) (d : Dev nD) (X : Ins F) (s : Sb F) (m : Mb F) :
    (Own o d X s m ⊢ iprop(owns (d : Thread nD τ) o.a20 fullShare m.x20 ∗ chain (sides o d X s m) iprop(emp)))
      ∧ (iprop(owns (d : Thread nD τ) o.a20 fullShare m.x20 ∗ chain (sides o d X s m) iprop(emp)) ⊢ Own o d X s m) :=
  chain_last (owns (d : Thread nD τ) o.a20 fullShare m.x20) (sides o d X s m)

instance (o : Ops) : Reads F o o.a3 where
  get X s m := X.x3
  split d X s m := ⟨_, (Own_pull o d X s m 0).1, (Own_pull o d X s m 0).2⟩
instance (o : Ops) : Reads F o o.a4 where
  get X s m := X.x4
  split d X s m := ⟨_, (Own_pull o d X s m 1).1, (Own_pull o d X s m 1).2⟩
instance (o : Ops) : Reads F o o.a5 where
  get X s m := X.x5
  split d X s m := ⟨_, (Own_pull o d X s m 2).1, (Own_pull o d X s m 2).2⟩
instance (o : Ops) : Reads F o o.a6 where
  get X s m := X.x6
  split d X s m := ⟨_, (Own_pull o d X s m 3).1, (Own_pull o d X s m 3).2⟩
instance (o : Ops) : Reads F o o.a7 where
  get X s m := X.x7
  split d X s m := ⟨_, (Own_pull o d X s m 4).1, (Own_pull o d X s m 4).2⟩
instance (o : Ops) : Reads F o o.a8 where
  get X s m := X.x8
  split d X s m := ⟨_, (Own_pull o d X s m 5).1, (Own_pull o d X s m 5).2⟩
instance (o : Ops) : Reads F o o.a9 where
  get X s m := X.x9
  split d X s m := ⟨_, (Own_pull o d X s m 6).1, (Own_pull o d X s m 6).2⟩
instance (o : Ops) : Reads F o o.a10 where
  get X s m := s.os
  split d X s m := ⟨_, (Own_pull o d X s m 7).1, (Own_pull o d X s m 7).2⟩
instance (o : Ops) : WritesSb F o o.a10 where
  get s := s.os
  set s w := { s with os := w }
  split d X s m := ⟨_, (Own_pull o d X s m 7).1, fun w => (Own_pull o d X { s with os := w } m 7).2⟩
instance (o : Ops) : Reads F o o.a12 where
  get X s m := s.qh
  split d X s m := ⟨_, (Own_pull o d X s m 8).1, (Own_pull o d X s m 8).2⟩
instance (o : Ops) : WritesSb F o o.a12 where
  get s := s.qh
  set s w := { s with qh := w }
  split d X s m := ⟨_, (Own_pull o d X s m 8).1, fun w => (Own_pull o d X { s with qh := w } m 8).2⟩
instance (o : Ops) : Reads F o o.a13 where
  get X s m := s.acc
  split d X s m := ⟨_, (Own_pull o d X s m 9).1, (Own_pull o d X s m 9).2⟩
instance (o : Ops) : WritesSb F o o.a13 where
  get s := s.acc
  set s w := { s with acc := w }
  split d X s m := ⟨_, (Own_pull o d X s m 9).1, fun w => (Own_pull o d X { s with acc := w } m 9).2⟩
instance (o : Ops) : Reads F o o.a14 where
  get X s m := s.c
  split d X s m := ⟨_, (Own_pull o d X s m 10).1, (Own_pull o d X s m 10).2⟩
instance (o : Ops) : WritesSb F o o.a14 where
  get s := s.c
  set s w := { s with c := w }
  split d X s m := ⟨_, (Own_pull o d X s m 10).1, fun w => (Own_pull o d X { s with c := w } m 10).2⟩
instance (o : Ops) : Reads F o o.a11 where
  get X s m := m.x11
  split d X s m := ⟨_, (Own_pull o d X s m 11).1, (Own_pull o d X s m 11).2⟩
instance (o : Ops) : WritesMb F o o.a11 where
  get m := m.x11
  set m w := { m with x11 := w }
  split d X s m := ⟨_, (Own_pull o d X s m 11).1, fun w => (Own_pull o d X s { m with x11 := w } 11).2⟩
instance (o : Ops) : Reads F o o.a15 where
  get X s m := m.x15
  split d X s m := ⟨_, (Own_pull o d X s m 12).1, (Own_pull o d X s m 12).2⟩
instance (o : Ops) : WritesMb F o o.a15 where
  get m := m.x15
  set m w := { m with x15 := w }
  split d X s m := ⟨_, (Own_pull o d X s m 12).1, fun w => (Own_pull o d X s { m with x15 := w } 12).2⟩
instance (o : Ops) : Reads F o o.a16 where
  get X s m := m.x16
  split d X s m := ⟨_, (Own_pull o d X s m 13).1, (Own_pull o d X s m 13).2⟩
instance (o : Ops) : WritesMb F o o.a16 where
  get m := m.x16
  set m w := { m with x16 := w }
  split d X s m := ⟨_, (Own_pull o d X s m 13).1, fun w => (Own_pull o d X s { m with x16 := w } 13).2⟩
instance (o : Ops) : Reads F o o.a17 where
  get X s m := m.x17
  split d X s m := ⟨_, (Own_pull o d X s m 14).1, (Own_pull o d X s m 14).2⟩
instance (o : Ops) : WritesMb F o o.a17 where
  get m := m.x17
  set m w := { m with x17 := w }
  split d X s m := ⟨_, (Own_pull o d X s m 14).1, fun w => (Own_pull o d X s { m with x17 := w } 14).2⟩
instance (o : Ops) : Reads F o o.a18 where
  get X s m := m.x18
  split d X s m := ⟨_, (Own_pull o d X s m 15).1, (Own_pull o d X s m 15).2⟩
instance (o : Ops) : WritesMb F o o.a18 where
  get m := m.x18
  set m w := { m with x18 := w }
  split d X s m := ⟨_, (Own_pull o d X s m 15).1, fun w => (Own_pull o d X s { m with x18 := w } 15).2⟩
instance (o : Ops) : Reads F o o.a19 where
  get X s m := m.x19
  split d X s m := ⟨_, (Own_pull o d X s m 16).1, (Own_pull o d X s m 16).2⟩
instance (o : Ops) : WritesMb F o o.a19 where
  get m := m.x19
  set m w := { m with x19 := w }
  split d X s m := ⟨_, (Own_pull o d X s m 16).1, fun w => (Own_pull o d X s { m with x19 := w } 16).2⟩
instance (o : Ops) : Reads F o o.a20 where
  get X s m := m.x20
  split d X s m := ⟨_, (Own_last o d X s m).1, (Own_last o d X s m).2⟩
instance (o : Ops) : WritesMb F o o.a20 where
  get m := m.x20
  set m w := { m with x20 := w }
  split d X s m := ⟨_, (Own_last o d X s m).1, fun w => (Own_last o d X s { m with x20 := w }).2⟩

/-- A read of an operand, then the rest: at what the operand's contents are over the rectangle read. -/
theorem load_wp {sp : CoreSpace} {S : Shape} {e : EltTy} (a : Memref sig .tc sp S e) [ha : Reads F o a] {off size : Fin S.rank → ℕ} {inb : ∀ x, off x + size x ≤ S.size x}
    {hl : a.view.LoadsAt (Rect.unit off size inb).toLoadRect} {k : ((Rect.unit off size inb).toLoadRect.shape.Idx → Elt F e) → Prog (TpuEff nD τ sig (Elt F) (Λ₀ F) .tc) β} {s : Sb F} {m : Mb F} {Q : β → sProp 𝕄} :
    iprop(Own o d X s m ∗ (Own o d X s m -∗ wp frame (wpE (defs₀ (F := F)) Variants.nat (d : Thread nD τ) bd) Set.univ (k (VecWindow.window (ha.get X s m) off size inb)) Q))
      ⊢ wp frame (wpE (defs₀ (F := F)) Variants.nat (d : Thread nD τ) bd) Set.univ (Prog.lift (.load a (Rect.unit off size inb).toLoadRect hl) >>= k) Q := by
  obtain ⟨R, h1, h2⟩ := ha.split d X s m
  show _ ⊢ wp _ _ _ (.op (.load a (Rect.unit off size inb).toLoadRect hl) k) Q
  refine (sep_mono_left h1).trans ?_
  unfold owns
  iintro ⟨⟨⟨%f, %hf, Hf⟩, HR⟩, HK⟩
  iapply (wp_load (defs := defs₀ (F := F)) Variants.nat (d : Thread nD τ) bd Set.univ (m := a) (q := fullShare) (f := f) (S := a.view.set) (a.view.setOn_subset_set _)) $$ Hf
  iintro Hf
  rw [View.readAt_unit a.view f inb rfl inb, hf]
  iapply HK
  iapply h2
  isplitl [Hf]
  · unfold owns
    iexists f
    isplitr
    · ipureintro; exact hf
    iexact Hf
  iexact HR

/-- A write to an operand, then the rest: with the rectangle's elements replaced. -/
theorem store_wp {sp : CoreSpace} {S : Shape} {e : EltTy} (a : Memref sig .tc sp S e) {off size : Fin S.rank → ℕ} {inb : ∀ x, off x + size x ≤ S.size x}
    {w : (Rect.unit off size inb).shape.Idx → Elt F e} {hx : (a.access (Rect.unit off size inb)).Stores Finset.univ} {hm : Finset.univ = Finset.univ ∨ ∀ x, (Rect.unit off size inb).stride x = 1}
    {k : PUnit → Prog (TpuEff nD τ sig (Elt F) (Λ₀ F) .tc) β} {x : S.Idx → Elt F e} {O O' R : sProp 𝕄} {Q : β → sProp 𝕄}
    (h1 : O ⊢ iprop(owns (d : Thread nD τ) a fullShare x ∗ R))
    (h2 : iprop(owns (d : Thread nD τ) a fullShare (VecWindow.put x off size w) ∗ R) ⊢ O') :
    iprop(O ∗ (O' -∗ wp frame (wpE (defs₀ (F := F)) Variants.nat (d : Thread nD τ) bd) Set.univ (k ⟨⟩) Q))
      ⊢ wp frame (wpE (defs₀ (F := F)) Variants.nat (d : Thread nD τ) bd) Set.univ (Prog.lift (.store a (Rect.unit off size inb) w Finset.univ hx hm) >>= k) Q := by
  show _ ⊢ wp _ _ _ (.op (.store a (Rect.unit off size inb) w Finset.univ hx hm) k) Q
  refine (sep_mono_left h1).trans ?_
  unfold owns
  iintro ⟨⟨⟨%f, %hf, Hf⟩, HR⟩, HK⟩
  iapply (wp_store_writes₀ (defs := defs₀ (F := F)) Variants.nat (d : Thread nD τ) bd Set.univ (m := a) (f := f) (S := a.view.set) (a.setOn_access_subset _ Finset.univ)) $$ Hf
  iintro Hf
  iapply HK
  iapply h2
  isplitl [Hf]
  · unfold owns
    iexists (a.view.writes (Elt F) f [⟨Rect.unit off size inb, w⟩])
    isplitr
    · ipureintro
      rw [View.read_writes_cons_put a.view f inb w [] rfl, View.writes_nil, hf]
    iexact Hf
  iexact HR

theorem Runs.load {sp : CoreSpace} {S : Shape} {e : EltTy} {a : Memref sig .tc sp S e} [ha : Reads F o a] {off size : Fin S.rank → ℕ} {inb : ∀ x, off x + size x ≤ S.size x}
    {hl : a.view.LoadsAt (Rect.unit off size inb).toLoadRect} {k : ((Rect.unit off size inb).toLoadRect.shape.Idx → Elt F e) → Prog (TpuEff nD τ sig (Elt F) (Λ₀ F) .tc) β} {s : Sb F} {r : β × Sb F}
    (hk : ∀ m, Runs o d bd X (k (VecWindow.window (ha.get X s m) off size inb)) s r) :
    Runs o d bd X (Prog.lift (.load a (Rect.unit off size inb).toLoadRect hl) >>= k) s r := by
  intro m Q
  iintro ⟨H, HQ⟩
  iapply (load_wp (F := F) (o := o) (X := X) (s := s) (m := m) a)
  isplitl [H]; · iexact H
  iintro H
  iapply (hk m m Q)
  isplitl [H]; · iexact H
  iexact HQ

theorem Quiet.load {sp : CoreSpace} {S : Shape} {e : EltTy} {a : Memref sig .tc sp S e} [ha : Reads F o a] {off size : Fin S.rank → ℕ} {inb : ∀ x, off x + size x ≤ S.size x}
    {hl : a.view.LoadsAt (Rect.unit off size inb).toLoadRect} {k : ((Rect.unit off size inb).toLoadRect.shape.Idx → Elt F e) → Prog (TpuEff nD τ sig (Elt F) (Λ₀ F) .tc) β} {P : β → Prop}
    (hk : ∀ v, Quiet o (k v) P) :
    Quiet o (Prog.lift (.load a (Rect.unit off size inb).toLoadRect hl) >>= k) P := by
  intro d bd X s m Q
  iintro ⟨H, HQ⟩
  iapply (load_wp (F := F) (o := o) (X := X) (s := s) (m := m) a)
  isplitl [H]; · iexact H
  iintro H
  iapply (hk _ d bd X s m Q)
  isplitl [H]; · iexact H
  iexact HQ

theorem Runs.store {sp : CoreSpace} {S : Shape} {e : EltTy} {a : Memref sig .tc sp S e} [ha : WritesSb F o a] {off size : Fin S.rank → ℕ} {inb : ∀ x, off x + size x ≤ S.size x}
    {w : (Rect.unit off size inb).shape.Idx → Elt F e} {hx : (a.access (Rect.unit off size inb)).Stores Finset.univ} {hm : Finset.univ = Finset.univ ∨ ∀ x, (Rect.unit off size inb).stride x = 1}
    {k : PUnit → Prog (TpuEff nD τ sig (Elt F) (Λ₀ F) .tc) β} {s : Sb F} {r : β × Sb F}
    (hk : Runs o d bd X (k ⟨⟩) (ha.set s (VecWindow.put (ha.get s) off size w)) r) :
    Runs o d bd X (Prog.lift (.store a (Rect.unit off size inb) w Finset.univ hx hm) >>= k) s r := by
  intro m Q
  obtain ⟨R, h1, h2⟩ := ha.split d X s m
  iintro ⟨H, HQ⟩
  iapply (store_wp (F := F) a h1 (h2 _))
  isplitl [H]; · iexact H
  iintro H
  iapply (hk m Q)
  isplitl [H]; · iexact H
  iexact HQ

theorem Runs.store_mb {sp : CoreSpace} {S : Shape} {e : EltTy} {a : Memref sig .tc sp S e} [ha : WritesMb F o a] {off size : Fin S.rank → ℕ} {inb : ∀ x, off x + size x ≤ S.size x}
    {w : (Rect.unit off size inb).shape.Idx → Elt F e} {hx : (a.access (Rect.unit off size inb)).Stores Finset.univ} {hm : Finset.univ = Finset.univ ∨ ∀ x, (Rect.unit off size inb).stride x = 1}
    {k : PUnit → Prog (TpuEff nD τ sig (Elt F) (Λ₀ F) .tc) β} {s : Sb F} {r : β × Sb F}
    (hk : Runs o d bd X (k ⟨⟩) s r) :
    Runs o d bd X (Prog.lift (.store a (Rect.unit off size inb) w Finset.univ hx hm) >>= k) s r := by
  intro m Q
  obtain ⟨R, h1, h2⟩ := ha.split d X s m
  iintro ⟨H, HQ⟩
  iapply (store_wp (F := F) a h1 (h2 _))
  isplitl [H]; · iexact H
  iintro H
  iapply (hk _ Q)
  isplitl [H]; · iexact H
  iexact HQ

theorem Quiet.store {sp : CoreSpace} {S : Shape} {e : EltTy} {a : Memref sig .tc sp S e} [ha : WritesMb F o a] {off size : Fin S.rank → ℕ} {inb : ∀ x, off x + size x ≤ S.size x}
    {w : (Rect.unit off size inb).shape.Idx → Elt F e} {hx : (a.access (Rect.unit off size inb)).Stores Finset.univ} {hm : Finset.univ = Finset.univ ∨ ∀ x, (Rect.unit off size inb).stride x = 1}
    {k : PUnit → Prog (TpuEff nD τ sig (Elt F) (Λ₀ F) .tc) β} {P : β → Prop}
    (hk : Quiet o (k ⟨⟩) P) :
    Quiet o (Prog.lift (.store a (Rect.unit off size inb) w Finset.univ hx hm) >>= k) P := by
  intro d bd X s m Q
  obtain ⟨R, h1, h2⟩ := ha.split d X s m
  iintro ⟨H, HQ⟩
  iapply (store_wp (F := F) a h1 (h2 _))
  isplitl [H]; · iexact H
  iintro H
  iapply (hk d bd X s _ Q)
  isplitl [H]; · iexact H
  iexact HQ

/-- One slope read. -/
theorem Quiet.slope {off size : Fin S8.rank → ℕ} {inb : ∀ x, off x + size x ≤ S8.size x} {h1 : (Rect.unit off size inb).shape.numel = 1} {h2 : EltTy.f32.packing = 1}
    {k : Elt F .f32 → Prog (TpuEff nD τ sig (Elt F) (Λ₀ F) .tc) β} {P : β → Prop} (hk : ∀ v, Quiet o (k v) P) :
    Quiet o (smemLoad o.a3 (Rect.unit off size inb) h1 h2 >>= k) P := by
  intro d bd X s m Q
  iintro ⟨H, HQ⟩
  iapply (load_wp (F := F) (o := o) (X := X) (s := s) (m := m) o.a3)
  isplitl [H]; · iexact H
  iintro H
  iapply (hk _ d bd X s m Q)
  isplitl [H]; · iexact H
  iexact HQ

theorem Quiet.dite {c : Prop} [Decidable c] {p : c → Prog (TpuEff nD τ sig (Elt F) (Λ₀ F) .tc) α} {q : ¬ c → Prog (TpuEff nD τ sig (Elt F) (Λ₀ F) .tc) α} {P : α → Prop}
    (hp : ∀ h, Quiet o (p h) P) (hq : ∀ h, Quiet o (q h) P) : Quiet o (if h : c then p h else q h) P := by
  by_cases h : c
  · rw [dif_pos h]; exact hp h
  · rw [dif_neg h]; exact hq h

theorem Runs.assume {P : Prop} {hd : Decidable P} {k : PLift P → Prog (TpuEff nD τ sig (Elt F) (Λ₀ F) .tc) β} {s : Sb F} {r : β × Sb F} (h : P)
    (hk : Runs o d bd X (k ⟨h⟩) s r) : Runs o d bd X (Prog.lift (.assume P hd) >>= k) s r := by
  intro m Q
  refine (hk m Q).trans ?_
  exact wp_assume (defs := defs₀ (F := F)) Variants.nat (d : Thread nD τ) bd Set.univ h

theorem Quiet.for {wd : ℕ} {lb ub st : BitVec wd} {hok : Scf.OK lb ub st} {init : PUnit} {body : Fin (Scf.trips lb ub st) → PUnit → Prog (TpuEff nD τ sig (Elt F) (Λ₀ F) .tc) PUnit}
    (hb : ∀ k a, Quiet o (body k a) fun _ => True) : Quiet o (Scf.for lb ub st hok init body) fun _ => True := by
  intro d bd X s m Q
  iintro ⟨H, HQ⟩
  iapply (Scf.wp_for frame (wpE (defs₀ (F := F)) Variants.nat (d : Thread nD τ) bd) Set.univ lb ub st hok init body (fun _ _ => iprop(∃ m, Own o d X s m)))
  · intro k acc
    iintro ⟨%m, H⟩
    iapply (hb k acc d bd X s m _)
    isplitl [H]; · iexact H
    iintro %r %m' - H
    iexists m'; iexact H
  isplitl [H]
  · iexists m; iexact H
  iintro %acc ⟨%m', H⟩
  iapply HQ
  · ipureintro; trivial
  iexact H

/-- A counted loop whose trip `k` takes `S k` to `S (k + 1)`. -/
theorem Runs.for {wd : ℕ} {lb ub st : BitVec wd} {hok : Scf.OK lb ub st} {init : PUnit} {body : Fin (Scf.trips lb ub st) → PUnit → Prog (TpuEff nD τ sig (Elt F) (Λ₀ F) .tc) PUnit}
    (S : ℕ → Sb F) (hb : ∀ k a, Runs o d bd X (body k a) (S k.val) (⟨⟩, S (k.val + 1))) :
    Runs o d bd X (Scf.for lb ub st hok init body) (S 0) (⟨⟩, S (Scf.trips lb ub st)) := by
  intro m Q
  iintro ⟨H, HQ⟩
  iapply (Scf.wp_for frame (wpE (defs₀ (F := F)) Variants.nat (d : Thread nD τ) bd) Set.univ lb ub st hok init body (fun k _ => iprop(∃ m, Own o d X (S k) m)))
  · intro k acc
    iintro ⟨%m, H⟩
    iapply (hb k acc m _)
    isplitl [H]; · iexact H
    iintro %m' H
    iexists m'; iexact H
  isplitl [H]
  · iexists m; iexact H
  iintro %acc ⟨%m', H⟩
  iapply HQ
  iexact H

end Cert.AttnIdeal.Body

end
-- ==== Proof.AttnIdealSb.lean ====
/-
  The stick-breaking half of the attention kernel's body, stretch by stretch: what each stretch of its memory operations
  yields and leaves in the buffers, as functions of what they held (`sbN`), and that the stretch does that (`partN_runs`).
-/
module

public import proofs.«01_k».proof.Proof.AttnIdealState

@[expose] public section

set_option maxRecDepth 65536
set_option maxHeartbeats 4000000

noncomputable section

namespace Cert.AttnIdeal.Body

open Cert.AttnIdeal Cert.AttnIdeal.Gen
open Idealize.ShloMosaic Idealize.ShloMosaic.TcCoe Idealize.SL.Sem

variable {F : FTy → Type} [FloatOps F] [Named F] (o : Ops) (d : Dev nD) (bd : Option Variants.nat.V) (X : Ins F) (i : grid0.Coords)

def sb119 (X : Ins F) (i : grid0.Coords)  (s : Sb F) :
    (Σ' (v1770 : IVec S2048x128 32) (v1774 : FVec F S2048x128 .bf16) (v1775 : FVec F S2048x128 .bf16), IVec S2048x128 1) × Sb F :=
  have v1770 : IVec S2048x128 32 := iota .tc S2048x128 32 [1] iota_S2048x128_d1_w32
  let v1771 := VecWindow.window X.x4 ![0, 0, 0, 0] S1x1x2048x128.size inb_S1x1x2048x128_S1x1x2048x128_0_0_0_0
  let v1779 := VecWindow.window s.qh ![0, 0, 0] S1x2048x128.size inb_S2x2048x128_S1x2048x128_0_0_0
  let s : Sb F := { s with qh := VecWindow.put s.qh ![0, 0, 0] S1x2048x128.size (k0_pay628 v1771) }
  (⟨v1770, k0_pay626 v1771, k0_pay627 (F := F), k0_pay629⟩, s)

theorem part119_runs (v1738 : FVec F S256x128 .bf16) (v1746 : FVec F S2048x256 .f32) (v1748 : FVec F S2048x128 .f32) (s : Sb F) :
    Runs o d bd X (k0_part119 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1738 v1746 v1748) s (sb119 X i  s) := by
  rw [k0_part119_eq_skeleton]; unfold k0_part119_skel sb119
  refine .load fun _ => ?_
  refine .load fun _ => ?_
  refine .store_mb ?_
  refine .load fun _ => ?_
  refine .store_mb ?_
  refine .load fun _ => ?_
  refine .load fun _ => ?_
  refine .store ?_
  exact .pure _ _

def sb120 (X : Ins F) (i : grid0.Coords) (arg2 : BitVec 32) (v1774 : FVec F S2048x128 .bf16) (v1775 : FVec F S2048x128 .bf16) (v1783 : IVec S2048x128 1) (s : Sb F) :
    (Σ' (v1802 : FVec F S256x256 .bf16) (v1805 : IVec S256x256 1) (v1812 : FVec F S256x128 .bf16), FVec F S256x128 .bf16) × Sb F :=
  let v1785 := VecWindow.window s.qh ![1, 0, 0] S1x2048x128.size inb_S2x2048x128_S1x2048x128_1_0_0
  let s : Sb F := { s with qh := VecWindow.put s.qh ![1, 0, 0] S1x2048x128.size (k0_pay630 v1774 v1775 v1783) }
  let v1789 := VecWindow.window s.acc ![0, 0, 0] S2x2048x128.size inb_S2x2048x128_S2x2048x128_0_0_0
  let s : Sb F := { s with acc := VecWindow.put s.acc ![0, 0, 0] S2x2048x128.size (k0_pay631 (F := F)) }
  let v1793 := VecWindow.window s.c ![0, 0, 0] S2x2048x1.size inb_S2x2048x1_S2x2048x1_0_0_0
  let s : Sb F := { s with c := VecWindow.put s.c ![0, 0, 0] S2x2048x1.size (k0_pay632 (F := F)) }
  let v1811 := VecWindow.window X.x5 (k0_off4 i 7#32) S1x1x256x128.size (k0_off4_inb i 7)
  let v1814 := VecWindow.window X.x6 (k0_off4 i 7#32) S1x1x256x128.size (k0_off4_inb i 7)
  (⟨k0_pay633 (F := F), k0_pay634, k0_pay635 v1811, k0_pay636 v1814⟩, s)

theorem part120_runs (arg2 : BitVec 32) (v1774 : FVec F S2048x128 .bf16) (v1775 : FVec F S2048x128 .bf16) (v1783 : IVec S2048x128 1) (s : Sb F) :
    Runs o d bd X (k0_part120 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1774 v1775 v1783) s (sb120 X i arg2 v1774 v1775 v1783 s) := by
  rw [k0_part120_eq_skeleton]; unfold k0_part120_skel sb120
  refine .load fun _ => ?_
  refine .store ?_
  refine .load fun _ => ?_
  refine .store ?_
  refine .load fun _ => ?_
  refine .store ?_
  refine .load fun _ => ?_
  refine .load fun _ => ?_
  exact .pure _ _

def sb121 (X : Ins F) (i : grid0.Coords) (v1802 : FVec F S256x256 .bf16) (v1805 : IVec S256x256 1) (v1812 : FVec F S256x128 .bf16) (v1815 : FVec F S256x128 .bf16) (s : Sb F) :
    (Σ' (v1852 : FVec F S512x128 .f32) (v1855 : FVec F S512x1 .f32), FVec F S256x1 .f32) × Sb F :=
  let v1816 := VecWindow.window s.qh ![0, 1792, 0] S1x256x128.size inb_S2x2048x128_S1x256x128_0_1792_0
  let v1818 := VecWindow.window s.qh ![1, 1792, 0] S1x256x128.size inb_S2x2048x128_S1x256x128_1_1792_0
  let v1856 := VecWindow.window s.c ![0, 1792, 0] S1x256x1.size inb_S2x2048x1_S1x256x1_0_1792_0
  (⟨k0_pay640 v1802 v1805 v1812 v1815 v1816 v1818, k0_pay641 v1802 v1805 v1812 v1816 v1818, k0_pay642 v1856⟩, s)

theorem part121_runs (v1802 : FVec F S256x256 .bf16) (v1805 : IVec S256x256 1) (v1812 : FVec F S256x128 .bf16) (v1815 : FVec F S256x128 .bf16) (s : Sb F) :
    Runs o d bd X (k0_part121 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1802 v1805 v1812 v1815) s (sb121 X i v1802 v1805 v1812 v1815 s) := by
  rw [k0_part121_eq_skeleton]; unfold k0_part121_skel sb121
  refine .load fun _ => ?_
  refine .load fun _ => ?_
  refine .load fun _ => ?_
  exact .pure _ _

def sb122 (X : Ins F) (i : grid0.Coords) (v1852 : FVec F S512x128 .f32) (v1855 : FVec F S512x1 .f32) (v1857 : FVec F S256x1 .f32) (s : Sb F) :
    (FVec F S1x256x1 .f32) × Sb F :=
  let v1858 := VecWindow.window s.acc ![0, 1792, 0] S1x256x128.size inb_S2x2048x128_S1x256x128_0_1792_0
  let v1867 := VecWindow.window s.acc ![0, 1792, 0] S1x256x128.size inb_S2x2048x128_S1x256x128_0_1792_0
  let s : Sb F := { s with acc := VecWindow.put s.acc ![0, 1792, 0] S1x256x128.size (k0_pay643 v1852 v1857 v1858) }
  let v1872 := VecWindow.window s.c ![0, 1792, 0] S1x256x1.size inb_S2x2048x1_S1x256x1_0_1792_0
  let s : Sb F := { s with c := VecWindow.put s.c ![0, 1792, 0] S1x256x1.size (k0_pay644 v1855 v1857) }
  let v1875 := VecWindow.window s.c ![1, 1792, 0] S1x256x1.size inb_S2x2048x1_S1x256x1_1_1792_0
  let v1877 := VecWindow.window s.acc ![1, 1792, 0] S1x256x128.size inb_S2x2048x128_S1x256x128_1_1792_0
  let v1886 := VecWindow.window s.acc ![1, 1792, 0] S1x256x128.size inb_S2x2048x128_S1x256x128_1_1792_0
  let s : Sb F := { s with acc := VecWindow.put s.acc ![1, 1792, 0] S1x256x128.size (k0_pay646 v1852 v1875 v1877) }
  let v1891 := VecWindow.window s.c ![1, 1792, 0] S1x256x1.size inb_S2x2048x1_S1x256x1_1_1792_0
  ((k0_pay647 v1855 v1875), s)

theorem part122_runs (v1852 : FVec F S512x128 .f32) (v1855 : FVec F S512x1 .f32) (v1857 : FVec F S256x1 .f32) (s : Sb F) :
    Runs o d bd X (k0_part122 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1852 v1855 v1857) s (sb122 X i v1852 v1855 v1857 s) := by
  rw [k0_part122_eq_skeleton]; unfold k0_part122_skel sb122
  refine .load fun _ => ?_
  refine .load fun _ => ?_
  refine .store ?_
  refine .load fun _ => ?_
  refine .store ?_
  refine .load fun _ => ?_
  refine .load fun _ => ?_
  refine .load fun _ => ?_
  refine .store ?_
  refine .load fun _ => ?_
  exact .pure _ _

def sb123 (X : Ins F) (i : grid0.Coords) (arg2 : BitVec 32) (v1802 : FVec F S256x256 .bf16) (v1805 : IVec S256x256 1) (v1893 : FVec F S1x256x1 .f32) (s : Sb F) :
    (Σ' (v1903 : FVec F S256x128 .bf16) (v1909 : FVec F S1024x256 .f32) (v1928 : FVec F S1024x256 .f32), FVec F S1024x256 .f32) × Sb F :=
  let s : Sb F := { s with c := VecWindow.put s.c ![1, 1792, 0] S1x256x1.size v1893 }
  let v1899 := VecWindow.window X.x5 (k0_off4 i 6#32) S1x1x256x128.size (k0_off4_inb i 6)
  let v1902 := VecWindow.window X.x6 (k0_off4 i 6#32) S1x1x256x128.size (k0_off4_inb i 6)
  let v1904 := VecWindow.window s.qh ![0, 1536, 0] S1x512x128.size inb_S2x2048x128_S1x512x128_0_1536_0
  let v1906 := VecWindow.window s.qh ![1, 1536, 0] S1x512x128.size inb_S2x2048x128_S1x512x128_1_1536_0
  (⟨k0_pay648 v1902, k0_pay649 v1899 v1904 v1906, k0_pay650 v1805 v1899 v1904 v1906, k0_pay651 v1802 v1805 v1899 v1904 v1906⟩, s)

theorem part123_runs (arg2 : BitVec 32) (v1802 : FVec F S256x256 .bf16) (v1805 : IVec S256x256 1) (v1893 : FVec F S1x256x1 .f32) (s : Sb F) :
    Runs o d bd X (k0_part123 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1802 v1805 v1893) s (sb123 X i arg2 v1802 v1805 v1893 s) := by
  rw [k0_part123_eq_skeleton]; unfold k0_part123_skel sb123
  refine .store ?_
  refine .load fun _ => ?_
  refine .load fun _ => ?_
  refine .load fun _ => ?_
  refine .load fun _ => ?_
  exact .pure _ _

def sb124 (X : Ins F) (i : grid0.Coords) (v1805 : IVec S256x256 1) (v1903 : FVec F S256x128 .bf16) (v1909 : FVec F S1024x256 .f32) (v1928 : FVec F S1024x256 .f32) (v1930 : FVec F S1024x256 .f32) (s : Sb F) :
    (Σ' (v1944 : FVec F S1024x128 .f32) (v1947 : FVec F S1024x1 .f32), FVec F S512x1 .f32) × Sb F :=
  let v1948 := VecWindow.window s.c ![0, 1536, 0] S1x512x1.size inb_S2x2048x1_S1x512x1_0_1536_0
  let v1950 := VecWindow.window s.acc ![0, 1536, 0] S1x512x128.size inb_S2x2048x128_S1x512x128_0_1536_0
  let v1959 := VecWindow.window s.acc ![0, 1536, 0] S1x512x128.size inb_S2x2048x128_S1x512x128_0_1536_0
  let s : Sb F := { s with acc := VecWindow.put s.acc ![0, 1536, 0] S1x512x128.size (k0_pay655 v1805 v1903 v1909 v1928 v1930 v1948 v1950) }
  let v1964 := VecWindow.window s.c ![0, 1536, 0] S1x512x1.size inb_S2x2048x1_S1x512x1_0_1536_0
  let s : Sb F := { s with c := VecWindow.put s.c ![0, 1536, 0] S1x512x1.size (k0_pay656 v1928 v1930 v1948) }
  let v1967 := VecWindow.window s.c ![1, 1536, 0] S1x512x1.size inb_S2x2048x1_S1x512x1_1_1536_0
  (⟨k0_pay652 v1805 v1903 v1909 v1928 v1930, k0_pay653 v1928 v1930, k0_pay657 v1967⟩, s)

theorem part124_runs (v1805 : IVec S256x256 1) (v1903 : FVec F S256x128 .bf16) (v1909 : FVec F S1024x256 .f32) (v1928 : FVec F S1024x256 .f32) (v1930 : FVec F S1024x256 .f32) (s : Sb F) :
    Runs o d bd X (k0_part124 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1805 v1903 v1909 v1928 v1930) s (sb124 X i v1805 v1903 v1909 v1928 v1930 s) := by
  rw [k0_part124_eq_skeleton]; unfold k0_part124_skel sb124
  refine .load fun _ => ?_
  refine .load fun _ => ?_
  refine .load fun _ => ?_
  refine .store ?_
  refine .load fun _ => ?_
  refine .store ?_
  refine .load fun _ => ?_
  exact .pure _ _

def sb125 (X : Ins F) (i : grid0.Coords) (arg2 : BitVec 32) (v1944 : FVec F S1024x128 .f32) (v1947 : FVec F S1024x1 .f32) (v1968 : FVec F S512x1 .f32) (s : Sb F) :
    (Σ' (v1995 : FVec F S256x128 .bf16), FVec F S1024x256 .f32) × Sb F :=
  let v1969 := VecWindow.window s.acc ![1, 1536, 0] S1x512x128.size inb_S2x2048x128_S1x512x128_1_1536_0
  let v1978 := VecWindow.window s.acc ![1, 1536, 0] S1x512x128.size inb_S2x2048x128_S1x512x128_1_1536_0
  let s : Sb F := { s with acc := VecWindow.put s.acc ![1, 1536, 0] S1x512x128.size (k0_pay658 v1944 v1968 v1969) }
  let v1983 := VecWindow.window s.c ![1, 1536, 0] S1x512x1.size inb_S2x2048x1_S1x512x1_1_1536_0
  let s : Sb F := { s with c := VecWindow.put s.c ![1, 1536, 0] S1x512x1.size (k0_pay659 v1947 v1968) }
  let v1991 := VecWindow.window X.x5 (k0_off4 i 5#32) S1x1x256x128.size (k0_off4_inb i 5)
  let v1994 := VecWindow.window X.x6 (k0_off4 i 5#32) S1x1x256x128.size (k0_off4_inb i 5)
  let v1996 := VecWindow.window s.qh ![0, 1280, 0] S1x512x128.size inb_S2x2048x128_S1x512x128_0_1280_0
  let v1998 := VecWindow.window s.qh ![1, 1280, 0] S1x512x128.size inb_S2x2048x128_S1x512x128_1_1280_0
  (⟨k0_pay660 v1994, k0_pay661 v1991 v1996 v1998⟩, s)

theorem part125_runs (arg2 : BitVec 32) (v1944 : FVec F S1024x128 .f32) (v1947 : FVec F S1024x1 .f32) (v1968 : FVec F S512x1 .f32) (s : Sb F) :
    Runs o d bd X (k0_part125 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1944 v1947 v1968) s (sb125 X i arg2 v1944 v1947 v1968 s) := by
  rw [k0_part125_eq_skeleton]; unfold k0_part125_skel sb125
  refine .load fun _ => ?_
  refine .load fun _ => ?_
  refine .store ?_
  refine .load fun _ => ?_
  refine .store ?_
  refine .load fun _ => ?_
  refine .load fun _ => ?_
  refine .load fun _ => ?_
  refine .load fun _ => ?_
  exact .pure _ _

def sb126 (X : Ins F) (i : grid0.Coords) (v1802 : FVec F S256x256 .bf16) (v1805 : IVec S256x256 1) (v1995 : FVec F S256x128 .bf16) (v2001 : FVec F S1024x256 .f32) (s : Sb F) :
    (Σ' (v2036 : FVec F S1024x128 .f32) (v2039 : FVec F S1024x1 .f32) (v2041 : FVec F S512x1 .f32) (v2043 : FVec F S512x128 .f32), FVec F S512x1 .f32) × Sb F :=
  let v2040 := VecWindow.window s.c ![0, 1280, 0] S1x512x1.size inb_S2x2048x1_S1x512x1_0_1280_0
  let v2042 := VecWindow.window s.acc ![0, 1280, 0] S1x512x128.size inb_S2x2048x128_S1x512x128_0_1280_0
  (⟨k0_pay664 v1802 v1805 v1995 v2001, k0_pay665 v1802 v1805 v2001, k0_pay666 v2040, k0_pay667 v2042, k0_pay668 v2040⟩, s)

theorem part126_runs (v1802 : FVec F S256x256 .bf16) (v1805 : IVec S256x256 1) (v1995 : FVec F S256x128 .bf16) (v2001 : FVec F S1024x256 .f32) (s : Sb F) :
    Runs o d bd X (k0_part126 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1802 v1805 v1995 v2001) s (sb126 X i v1802 v1805 v1995 v2001 s) := by
  rw [k0_part126_eq_skeleton]; unfold k0_part126_skel sb126
  refine .load fun _ => ?_
  refine .load fun _ => ?_
  exact .pure _ _

def sb127 (X : Ins F) (i : grid0.Coords) (arg2 : BitVec 32) (v2036 : FVec F S1024x128 .f32) (v2039 : FVec F S1024x1 .f32) (v2041 : FVec F S512x1 .f32) (v2043 : FVec F S512x128 .f32) (v2045 : FVec F S512x1 .f32) (s : Sb F) :
    (Σ' (v2079 : BitVec 32), BitVec 32) × Sb F :=
  let v2051 := VecWindow.window s.acc ![0, 1280, 0] S1x512x128.size inb_S2x2048x128_S1x512x128_0_1280_0
  let s : Sb F := { s with acc := VecWindow.put s.acc ![0, 1280, 0] S1x512x128.size (k0_pay669 v2036 v2043 v2045) }
  let v2056 := VecWindow.window s.c ![0, 1280, 0] S1x512x1.size inb_S2x2048x1_S1x512x1_0_1280_0
  let s : Sb F := { s with c := VecWindow.put s.c ![0, 1280, 0] S1x512x1.size (k0_pay670 v2039 v2041) }
  let v2059 := VecWindow.window s.c ![1, 1280, 0] S1x512x1.size inb_S2x2048x1_S1x512x1_1_1280_0
  let v2061 := VecWindow.window s.acc ![1, 1280, 0] S1x512x128.size inb_S2x2048x128_S1x512x128_1_1280_0
  let v2070 := VecWindow.window s.acc ![1, 1280, 0] S1x512x128.size inb_S2x2048x128_S1x512x128_1_1280_0
  let s : Sb F := { s with acc := VecWindow.put s.acc ![1, 1280, 0] S1x512x128.size (k0_pay672 v2036 v2059 v2061) }
  let v2075 := VecWindow.window s.c ![1, 1280, 0] S1x512x1.size inb_S2x2048x1_S1x512x1_1_1280_0
  let s : Sb F := { s with c := VecWindow.put s.c ![1, 1280, 0] S1x512x1.size (k0_pay673 v2039 v2059) }
  let v2078 : BitVec 32 := Scalar.muli arg2 8#32
  let v2079 : BitVec 32 := Scalar.addi v2078 4#32
  (⟨v2079, 256#32⟩, s)

theorem part127_runs (arg2 : BitVec 32) (v2036 : FVec F S1024x128 .f32) (v2039 : FVec F S1024x1 .f32) (v2041 : FVec F S512x1 .f32) (v2043 : FVec F S512x128 .f32) (v2045 : FVec F S512x1 .f32) (s : Sb F) :
    Runs o d bd X (k0_part127 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v2036 v2039 v2041 v2043 v2045) s (sb127 X i arg2 v2036 v2039 v2041 v2043 v2045 s) := by
  rw [k0_part127_eq_skeleton]; unfold k0_part127_skel sb127
  refine .load fun _ => ?_
  refine .store ?_
  refine .load fun _ => ?_
  refine .store ?_
  refine .load fun _ => ?_
  refine .load fun _ => ?_
  refine .load fun _ => ?_
  refine .store ?_
  refine .load fun _ => ?_
  refine .store ?_
  exact .pure _ _

def sb128 (X : Ins F) (i : grid0.Coords) (v1802 : FVec F S256x256 .bf16) (v1805 : IVec S256x256 1) (v2079 : BitVec 32) (c256_i32_951 : BitVec 32) (s : Sb F) :
    (Σ' (v2087 : FVec F S256x128 .bf16) (v2112 : FVec F S1024x256 .f32) (v2114 : FVec F S1024x256 .f32) (v2117 : FVec F S1024x256 .f32) (v2118 : FVec F S256x256 .f32), FVec F S256x256 .f32) × Sb F :=
  let v2083 := VecWindow.window X.x5 (k0_off4 i 4#32) S1x1x256x128.size (k0_off4_inb i 4)
  let v2086 := VecWindow.window X.x6 (k0_off4 i 4#32) S1x1x256x128.size (k0_off4_inb i 4)
  let v2088 := VecWindow.window s.qh ![0, 1024, 0] S1x512x128.size inb_S2x2048x128_S1x512x128_0_1024_0
  let v2090 := VecWindow.window s.qh ![1, 1024, 0] S1x512x128.size inb_S2x2048x128_S1x512x128_1_1024_0
  (⟨k0_pay674 v2086, k0_pay676 v1805 v2083 v2088 v2090, k0_pay677 v1802 v1805 v2083 v2088 v2090, k0_pay678 v1802 v1805 v2083 v2088 v2090, k0_pay679 v1802 v1805 v2083 v2088 v2090, k0_pay680 (F := F)⟩, s)

theorem part128_runs (v1802 : FVec F S256x256 .bf16) (v1805 : IVec S256x256 1) (v2079 : BitVec 32) (c256_i32_951 : BitVec 32) (s : Sb F) :
    Runs o d bd X (k0_part128 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1802 v1805 v2079 c256_i32_951) s (sb128 X i v1802 v1805 v2079 c256_i32_951 s) := by
  rw [k0_part128_eq_skeleton]; unfold k0_part128_skel sb128
  refine .load fun _ => ?_
  refine .load fun _ => ?_
  refine .load fun _ => ?_
  refine .load fun _ => ?_
  exact .pure _ _

def sb129 (X : Ins F) (i : grid0.Coords) (v1805 : IVec S256x256 1) (v2087 : FVec F S256x128 .bf16) (v2112 : FVec F S1024x256 .f32) (v2114 : FVec F S1024x256 .f32) (v2117 : FVec F S1024x256 .f32) (v2118 : FVec F S256x256 .f32) (v2119 : FVec F S256x256 .f32) (s : Sb F) :
    (Σ' (v2128 : FVec F S1024x128 .f32) (v2131 : FVec F S1024x1 .f32) (v2152 : FVec F S512x1 .f32) (v2154 : FVec F S512x128 .f32), FVec F S512x1 .f32) × Sb F :=
  let v2132 := VecWindow.window s.c ![0, 1024, 0] S1x512x1.size inb_S2x2048x1_S1x512x1_0_1024_0
  let v2134 := VecWindow.window s.acc ![0, 1024, 0] S1x512x128.size inb_S2x2048x128_S1x512x128_0_1024_0
  let v2143 := VecWindow.window s.acc ![0, 1024, 0] S1x512x128.size inb_S2x2048x128_S1x512x128_0_1024_0
  let s : Sb F := { s with acc := VecWindow.put s.acc ![0, 1024, 0] S1x512x128.size (k0_pay684 v1805 v2087 v2117 v2118 v2119 v2132 v2134) }
  let v2148 := VecWindow.window s.c ![0, 1024, 0] S1x512x1.size inb_S2x2048x1_S1x512x1_0_1024_0
  let s : Sb F := { s with c := VecWindow.put s.c ![0, 1024, 0] S1x512x1.size (k0_pay685 v2112 v2114 v2132) }
  let v2151 := VecWindow.window s.c ![1, 1024, 0] S1x512x1.size inb_S2x2048x1_S1x512x1_1_1024_0
  let v2153 := VecWindow.window s.acc ![1, 1024, 0] S1x512x128.size inb_S2x2048x128_S1x512x128_1_1024_0
  (⟨k0_pay681 v1805 v2087 v2117 v2118 v2119, k0_pay682 v2112 v2114, k0_pay686 v2151, k0_pay687 v2153, k0_pay688 (F := F)⟩, s)

theorem part129_runs (v1805 : IVec S256x256 1) (v2087 : FVec F S256x128 .bf16) (v2112 : FVec F S1024x256 .f32) (v2114 : FVec F S1024x256 .f32) (v2117 : FVec F S1024x256 .f32) (v2118 : FVec F S256x256 .f32) (v2119 : FVec F S256x256 .f32) (s : Sb F) :
    Runs o d bd X (k0_part129 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1805 v2087 v2112 v2114 v2117 v2118 v2119) s (sb129 X i v1805 v2087 v2112 v2114 v2117 v2118 v2119 s) := by
  rw [k0_part129_eq_skeleton]; unfold k0_part129_skel sb129
  refine .load fun _ => ?_
  refine .load fun _ => ?_
  refine .load fun _ => ?_
  refine .store ?_
  refine .load fun _ => ?_
  refine .store ?_
  refine .load fun _ => ?_
  refine .load fun _ => ?_
  exact .pure _ _

def sb130 (X : Ins F) (i : grid0.Coords) (arg2 : BitVec 32) (v2128 : FVec F S1024x128 .f32) (v2131 : FVec F S1024x1 .f32) (v2152 : FVec F S512x1 .f32) (v2154 : FVec F S512x128 .f32) (v2155 : FVec F S512x1 .f32) (s : Sb F) :
    (Σ' (v2179 : FVec F S256x128 .bf16) (v2185 : FVec F S1024x256 .f32) (v2187 : FVec F S1024x256 .f32) (v2188 : FVec F S1024x256 .f32), FVec F S1024x256 .f32) × Sb F :=
  let v2162 := VecWindow.window s.acc ![1, 1024, 0] S1x512x128.size inb_S2x2048x128_S1x512x128_1_1024_0
  let s : Sb F := { s with acc := VecWindow.put s.acc ![1, 1024, 0] S1x512x128.size (k0_pay689 v2128 v2152 v2154 v2155) }
  let v2167 := VecWindow.window s.c ![1, 1024, 0] S1x512x1.size inb_S2x2048x1_S1x512x1_1_1024_0
  let s : Sb F := { s with c := VecWindow.put s.c ![1, 1024, 0] S1x512x1.size (k0_pay690 v2131 v2152) }
  let v2175 := VecWindow.window X.x5 (k0_off4 i 3#32) S1x1x256x128.size (k0_off4_inb i 3)
  let v2178 := VecWindow.window X.x6 (k0_off4 i 3#32) S1x1x256x128.size (k0_off4_inb i 3)
  let v2180 := VecWindow.window s.qh ![0, 768, 0] S1x512x128.size inb_S2x2048x128_S1x512x128_0_768_0
  let v2182 := VecWindow.window s.qh ![1, 768, 0] S1x512x128.size inb_S2x2048x128_S1x512x128_1_768_0
  (⟨k0_pay691 v2178, k0_pay692 v2175 v2180 v2182, k0_pay693 v2175 v2180 v2182, k0_pay694 v2175 v2180 v2182, k0_pay695 (F := F)⟩, s)

theorem part130_runs (arg2 : BitVec 32) (v2128 : FVec F S1024x128 .f32) (v2131 : FVec F S1024x1 .f32) (v2152 : FVec F S512x1 .f32) (v2154 : FVec F S512x128 .f32) (v2155 : FVec F S512x1 .f32) (s : Sb F) :
    Runs o d bd X (k0_part130 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v2128 v2131 v2152 v2154 v2155) s (sb130 X i arg2 v2128 v2131 v2152 v2154 v2155 s) := by
  rw [k0_part130_eq_skeleton]; unfold k0_part130_skel sb130
  refine .load fun _ => ?_
  refine .store ?_
  refine .load fun _ => ?_
  refine .store ?_
  refine .load fun _ => ?_
  refine .load fun _ => ?_
  refine .load fun _ => ?_
  refine .load fun _ => ?_
  exact .pure _ _

def sb131 (X : Ins F) (i : grid0.Coords) (v1802 : FVec F S256x256 .bf16) (v1805 : IVec S256x256 1) (v2179 : FVec F S256x128 .bf16) (v2185 : FVec F S1024x256 .f32) (v2187 : FVec F S1024x256 .f32) (v2188 : FVec F S1024x256 .f32) (v2189 : FVec F S1024x256 .f32) (s : Sb F) :
    (Σ' (v2220 : FVec F S1024x128 .f32) (v2223 : FVec F S1024x1 .f32) (v2225 : FVec F S512x1 .f32), FVec F S512x128 .f32) × Sb F :=
  let v2224 := VecWindow.window s.c ![0, 768, 0] S1x512x1.size inb_S2x2048x1_S1x512x1_0_768_0
  let v2226 := VecWindow.window s.acc ![0, 768, 0] S1x512x128.size inb_S2x2048x128_S1x512x128_0_768_0
  (⟨k0_pay698 v1802 v1805 v2179 v2185 v2187 v2188 v2189, k0_pay699 v1802 v1805 v2187 v2188 v2189, k0_pay700 v2224, k0_pay701 v1802 v1805 v2179 v2185 v2187 v2188 v2189 v2224 v2226⟩, s)

theorem part131_runs (v1802 : FVec F S256x256 .bf16) (v1805 : IVec S256x256 1) (v2179 : FVec F S256x128 .bf16) (v2185 : FVec F S1024x256 .f32) (v2187 : FVec F S1024x256 .f32) (v2188 : FVec F S1024x256 .f32) (v2189 : FVec F S1024x256 .f32) (s : Sb F) :
    Runs o d bd X (k0_part131 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1802 v1805 v2179 v2185 v2187 v2188 v2189) s (sb131 X i v1802 v1805 v2179 v2185 v2187 v2188 v2189 s) := by
  rw [k0_part131_eq_skeleton]; unfold k0_part131_skel sb131
  refine .load fun _ => ?_
  refine .load fun _ => ?_
  exact .pure _ _

def sb132 (X : Ins F) (i : grid0.Coords) (arg2 : BitVec 32) (v2220 : FVec F S1024x128 .f32) (v2223 : FVec F S1024x1 .f32) (v2225 : FVec F S512x1 .f32) (v2234 : FVec F S512x128 .f32) (s : Sb F) :
    (BitVec 32) × Sb F :=
  let v2235 := VecWindow.window s.acc ![0, 768, 0] S1x512x128.size inb_S2x2048x128_S1x512x128_0_768_0
  let s : Sb F := { s with acc := VecWindow.put s.acc ![0, 768, 0] S1x512x128.size (k0_pay702 v2234) }
  let v2240 := VecWindow.window s.c ![0, 768, 0] S1x512x1.size inb_S2x2048x1_S1x512x1_0_768_0
  let s : Sb F := { s with c := VecWindow.put s.c ![0, 768, 0] S1x512x1.size (k0_pay703 v2223 v2225) }
  let v2243 := VecWindow.window s.c ![1, 768, 0] S1x512x1.size inb_S2x2048x1_S1x512x1_1_768_0
  let v2245 := VecWindow.window s.acc ![1, 768, 0] S1x512x128.size inb_S2x2048x128_S1x512x128_1_768_0
  let v2254 := VecWindow.window s.acc ![1, 768, 0] S1x512x128.size inb_S2x2048x128_S1x512x128_1_768_0
  let s : Sb F := { s with acc := VecWindow.put s.acc ![1, 768, 0] S1x512x128.size (k0_pay705 v2220 v2243 v2245) }
  let v2259 := VecWindow.window s.c ![1, 768, 0] S1x512x1.size inb_S2x2048x1_S1x512x1_1_768_0
  let s : Sb F := { s with c := VecWindow.put s.c ![1, 768, 0] S1x512x1.size (k0_pay706 v2223 v2243) }
  let v2262 : BitVec 32 := Scalar.muli arg2 8#32
  let v2263 : BitVec 32 := Scalar.addi v2262 2#32
  let v2264 : BitVec 32 := Scalar.muli v2263 256#32
  let v2265 : BitVec 32 := v2264
  (v2265, s)

theorem part132_runs (arg2 : BitVec 32) (v2220 : FVec F S1024x128 .f32) (v2223 : FVec F S1024x1 .f32) (v2225 : FVec F S512x1 .f32) (v2234 : FVec F S512x128 .f32) (s : Sb F) :
    Runs o d bd X (k0_part132 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v2220 v2223 v2225 v2234) s (sb132 X i arg2 v2220 v2223 v2225 v2234 s) := by
  rw [k0_part132_eq_skeleton]; unfold k0_part132_skel sb132
  refine .load fun _ => ?_
  refine .store ?_
  refine .load fun _ => ?_
  refine .store ?_
  refine .load fun _ => ?_
  refine .load fun _ => ?_
  refine .load fun _ => ?_
  refine .store ?_
  refine .load fun _ => ?_
  refine .store ?_
  exact .pure _ _

def sb133 (X : Ins F) (i : grid0.Coords) (v1802 : FVec F S256x256 .bf16) (v1805 : IVec S256x256 1) (v2265 : BitVec 32) (s : Sb F) :
    (Σ' (v2271 : FVec F S256x128 .bf16) (v2296 : FVec F S1024x256 .f32) (v2298 : FVec F S1024x256 .f32) (v2301 : FVec F S1024x256 .f32) (v2304 : FVec F S256x256 .f32) (v2305 : FVec F S256x256 .f32), FVec F S256x256 .f32) × Sb F :=
  let v2267 := VecWindow.window X.x5 (k0_off4 i 2#32) S1x1x256x128.size (k0_off4_inb i 2)
  let v2270 := VecWindow.window X.x6 (k0_off4 i 2#32) S1x1x256x128.size (k0_off4_inb i 2)
  let v2272 := VecWindow.window s.qh ![0, 512, 0] S1x512x128.size inb_S2x2048x128_S1x512x128_0_512_0
  let v2274 := VecWindow.window s.qh ![1, 512, 0] S1x512x128.size inb_S2x2048x128_S1x512x128_1_512_0
  (⟨k0_pay707 v2270, k0_pay709 v1805 v2267 v2272 v2274, k0_pay710 v1802 v1805 v2267 v2272 v2274, k0_pay711 v1802 v1805 v2267 v2272 v2274, k0_pay712 v1802 v1805 v2267 v2272 v2274, k0_pay713 v1802 v1805 v2267 v2272 v2274, k0_pay714 v1802 v1805 v2267 v2272 v2274⟩, s)

theorem part133_runs (v1802 : FVec F S256x256 .bf16) (v1805 : IVec S256x256 1) (v2265 : BitVec 32) (s : Sb F) :
    Runs o d bd X (k0_part133 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1802 v1805 v2265) s (sb133 X i v1802 v1805 v2265 s) := by
  rw [k0_part133_eq_skeleton]; unfold k0_part133_skel sb133
  refine .load fun _ => ?_
  refine .load fun _ => ?_
  refine .load fun _ => ?_
  refine .load fun _ => ?_
  exact .pure _ _

def sb134 (X : Ins F) (i : grid0.Coords) (v2271 : FVec F S256x128 .bf16) (v2296 : FVec F S1024x256 .f32) (v2298 : FVec F S1024x256 .f32) (v2301 : FVec F S1024x256 .f32) (v2304 : FVec F S256x256 .f32) (v2305 : FVec F S256x256 .f32) (v2308 : FVec F S256x256 .f32) (s : Sb F) :
    (Σ' (v2315 : FVec F S1024x1 .f32) (v2336 : FVec F S512x1 .f32), FVec F S512x128 .f32) × Sb F :=
  let v2316 := VecWindow.window s.c ![0, 512, 0] S1x512x1.size inb_S2x2048x1_S1x512x1_0_512_0
  let v2318 := VecWindow.window s.acc ![0, 512, 0] S1x512x128.size inb_S2x2048x128_S1x512x128_0_512_0
  let v2327 := VecWindow.window s.acc ![0, 512, 0] S1x512x128.size inb_S2x2048x128_S1x512x128_0_512_0
  let s : Sb F := { s with acc := VecWindow.put s.acc ![0, 512, 0] S1x512x128.size (k0_pay718 v2271 v2301 v2304 v2305 v2308 v2316 v2318) }
  let v2332 := VecWindow.window s.c ![0, 512, 0] S1x512x1.size inb_S2x2048x1_S1x512x1_0_512_0
  let s : Sb F := { s with c := VecWindow.put s.c ![0, 512, 0] S1x512x1.size (k0_pay719 v2296 v2298 v2316) }
  let v2335 := VecWindow.window s.c ![1, 512, 0] S1x512x1.size inb_S2x2048x1_S1x512x1_1_512_0
  let v2337 := VecWindow.window s.acc ![1, 512, 0] S1x512x128.size inb_S2x2048x128_S1x512x128_1_512_0
  (⟨k0_pay716 v2296 v2298, k0_pay720 v2335, k0_pay721 v2271 v2301 v2304 v2305 v2308 v2335 v2337⟩, s)

theorem part134_runs (v2271 : FVec F S256x128 .bf16) (v2296 : FVec F S1024x256 .f32) (v2298 : FVec F S1024x256 .f32) (v2301 : FVec F S1024x256 .f32) (v2304 : FVec F S256x256 .f32) (v2305 : FVec F S256x256 .f32) (v2308 : FVec F S256x256 .f32) (s : Sb F) :
    Runs o d bd X (k0_part134 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2271 v2296 v2298 v2301 v2304 v2305 v2308) s (sb134 X i v2271 v2296 v2298 v2301 v2304 v2305 v2308 s) := by
  rw [k0_part134_eq_skeleton]; unfold k0_part134_skel sb134
  refine .load fun _ => ?_
  refine .load fun _ => ?_
  refine .load fun _ => ?_
  refine .store ?_
  refine .load fun _ => ?_
  refine .store ?_
  refine .load fun _ => ?_
  refine .load fun _ => ?_
  exact .pure _ _

def sb135 (X : Ins F) (i : grid0.Coords) (arg2 : BitVec 32) (v2315 : FVec F S1024x1 .f32) (v2336 : FVec F S512x1 .f32) (v2345 : FVec F S512x128 .f32) (s : Sb F) :
    (Σ' (v2363 : FVec F S256x128 .bf16) (v2369 : FVec F S1024x256 .f32) (v2371 : FVec F S1024x256 .f32), FVec F S1024x256 .f32) × Sb F :=
  let v2346 := VecWindow.window s.acc ![1, 512, 0] S1x512x128.size inb_S2x2048x128_S1x512x128_1_512_0
  let s : Sb F := { s with acc := VecWindow.put s.acc ![1, 512, 0] S1x512x128.size (k0_pay722 v2345) }
  let v2351 := VecWindow.window s.c ![1, 512, 0] S1x512x1.size inb_S2x2048x1_S1x512x1_1_512_0
  let s : Sb F := { s with c := VecWindow.put s.c ![1, 512, 0] S1x512x1.size (k0_pay723 v2315 v2336) }
  let v2359 := VecWindow.window X.x5 (k0_off4 i 1#32) S1x1x256x128.size (k0_off4_inb i 1)
  let v2362 := VecWindow.window X.x6 (k0_off4 i 1#32) S1x1x256x128.size (k0_off4_inb i 1)
  let v2364 := VecWindow.window s.qh ![0, 256, 0] S1x512x128.size inb_S2x2048x128_S1x512x128_0_256_0
  let v2366 := VecWindow.window s.qh ![1, 256, 0] S1x512x128.size inb_S2x2048x128_S1x512x128_1_256_0
  (⟨k0_pay724 v2362, k0_pay725 v2359 v2364 v2366, k0_pay726 v2359 v2364 v2366, k0_pay727 v2359 v2364 v2366⟩, s)

theorem part135_runs (arg2 : BitVec 32) (v2315 : FVec F S1024x1 .f32) (v2336 : FVec F S512x1 .f32) (v2345 : FVec F S512x128 .f32) (s : Sb F) :
    Runs o d bd X (k0_part135 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v2315 v2336 v2345) s (sb135 X i arg2 v2315 v2336 v2345 s) := by
  rw [k0_part135_eq_skeleton]; unfold k0_part135_skel sb135
  refine .load fun _ => ?_
  refine .store ?_
  refine .load fun _ => ?_
  refine .store ?_
  refine .load fun _ => ?_
  refine .load fun _ => ?_
  refine .load fun _ => ?_
  refine .load fun _ => ?_
  exact .pure _ _

def sb136 (X : Ins F) (i : grid0.Coords) (v1802 : FVec F S256x256 .bf16) (v1805 : IVec S256x256 1) (v2363 : FVec F S256x128 .bf16) (v2369 : FVec F S1024x256 .f32) (v2371 : FVec F S1024x256 .f32) (v2378 : FVec F S1024x256 .f32) (s : Sb F) :
    (Σ' (v2404 : FVec F S1024x128 .f32) (v2407 : FVec F S1024x1 .f32), FVec F S512x1 .f32) × Sb F :=
  let v2408 := VecWindow.window s.c ![0, 256, 0] S1x512x1.size inb_S2x2048x1_S1x512x1_0_256_0
  let v2410 := VecWindow.window s.acc ![0, 256, 0] S1x512x128.size inb_S2x2048x128_S1x512x128_0_256_0
  let v2419 := VecWindow.window s.acc ![0, 256, 0] S1x512x128.size inb_S2x2048x128_S1x512x128_0_256_0
  let s : Sb F := { s with acc := VecWindow.put s.acc ![0, 256, 0] S1x512x128.size (k0_pay733 v1802 v1805 v2363 v2369 v2371 v2378 v2408 v2410) }
  (⟨k0_pay730 v1802 v1805 v2363 v2369 v2371 v2378, k0_pay731 v1802 v1805 v2371 v2378, k0_pay732 v2408⟩, s)

theorem part136_runs (v1802 : FVec F S256x256 .bf16) (v1805 : IVec S256x256 1) (v2363 : FVec F S256x128 .bf16) (v2369 : FVec F S1024x256 .f32) (v2371 : FVec F S1024x256 .f32) (v2378 : FVec F S1024x256 .f32) (s : Sb F) :
    Runs o d bd X (k0_part136 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1802 v1805 v2363 v2369 v2371 v2378) s (sb136 X i v1802 v1805 v2363 v2369 v2371 v2378 s) := by
  rw [k0_part136_eq_skeleton]; unfold k0_part136_skel sb136
  refine .load fun _ => ?_
  refine .load fun _ => ?_
  refine .load fun _ => ?_
  refine .store ?_
  exact .pure _ _

def sb137 (X : Ins F) (i : grid0.Coords) (arg2 : BitVec 32) (v2404 : FVec F S1024x128 .f32) (v2407 : FVec F S1024x1 .f32) (v2409 : FVec F S512x1 .f32) (s : Sb F) :
    (FVec F S256x128 .bf16) × Sb F :=
  let v2424 := VecWindow.window s.c ![0, 256, 0] S1x512x1.size inb_S2x2048x1_S1x512x1_0_256_0
  let s : Sb F := { s with c := VecWindow.put s.c ![0, 256, 0] S1x512x1.size (k0_pay734 v2407 v2409) }
  let v2427 := VecWindow.window s.c ![1, 256, 0] S1x512x1.size inb_S2x2048x1_S1x512x1_1_256_0
  let v2429 := VecWindow.window s.acc ![1, 256, 0] S1x512x128.size inb_S2x2048x128_S1x512x128_1_256_0
  let v2438 := VecWindow.window s.acc ![1, 256, 0] S1x512x128.size inb_S2x2048x128_S1x512x128_1_256_0
  let s : Sb F := { s with acc := VecWindow.put s.acc ![1, 256, 0] S1x512x128.size (k0_pay736 v2404 v2427 v2429) }
  let v2443 := VecWindow.window s.c ![1, 256, 0] S1x512x1.size inb_S2x2048x1_S1x512x1_1_256_0
  let s : Sb F := { s with c := VecWindow.put s.c ![1, 256, 0] S1x512x1.size (k0_pay737 v2407 v2427) }
  let v2451 := VecWindow.window X.x5 (k0_off4 i 0#32) S1x1x256x128.size (k0_off4_inb i 0)
  ((k0_pay738 v2451), s)

theorem part137_runs (arg2 : BitVec 32) (v2404 : FVec F S1024x128 .f32) (v2407 : FVec F S1024x1 .f32) (v2409 : FVec F S512x1 .f32) (s : Sb F) :
    Runs o d bd X (k0_part137 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v2404 v2407 v2409) s (sb137 X i arg2 v2404 v2407 v2409 s) := by
  rw [k0_part137_eq_skeleton]; unfold k0_part137_skel sb137
  refine .load fun _ => ?_
  refine .store ?_
  refine .load fun _ => ?_
  refine .load fun _ => ?_
  refine .load fun _ => ?_
  refine .store ?_
  refine .load fun _ => ?_
  refine .store ?_
  refine .load fun _ => ?_
  exact .pure _ _

def sb138 (X : Ins F) (i : grid0.Coords) (v1802 : FVec F S256x256 .bf16) (v1805 : IVec S256x256 1) (v2452 : FVec F S256x128 .bf16) (s : Sb F) :
    (Σ' (v2480 : FVec F S1024x256 .f32) (v2496 : FVec F S1024x128 .f32), FVec F S1024x1 .f32) × Sb F :=
  let v2454 := VecWindow.window X.x6 (k0_off4 i 0#32) S1x1x256x128.size (k0_off4_inb i 0)
  let v2456 := VecWindow.window s.qh ![0, 0, 0] S1x512x128.size inb_S2x2048x128_S1x512x128_0_0_0
  let v2458 := VecWindow.window s.qh ![1, 0, 0] S1x512x128.size inb_S2x2048x128_S1x512x128_1_0_0
  (⟨k0_pay740 v1805 v2452 v2456 v2458, k0_pay742 v1802 v1805 v2452 v2454 v2456 v2458, k0_pay743 v1802 v1805 v2452 v2456 v2458⟩, s)

theorem part138_runs (v1802 : FVec F S256x256 .bf16) (v1805 : IVec S256x256 1) (v2452 : FVec F S256x128 .bf16) (s : Sb F) :
    Runs o d bd X (k0_part138 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1802 v1805 v2452) s (sb138 X i v1802 v1805 v2452 s) := by
  rw [k0_part138_eq_skeleton]; unfold k0_part138_skel sb138
  refine .load fun _ => ?_
  refine .load fun _ => ?_
  refine .load fun _ => ?_
  exact .pure _ _

def sb139 (X : Ins F) (i : grid0.Coords) (v2480 : FVec F S1024x256 .f32) (v2496 : FVec F S1024x128 .f32) (v2497 : FVec F S1024x1 .f32) (s : Sb F) :
    (Σ' (v2499 : FVec F S1024x1 .f32) (v2520 : FVec F S512x1 .f32), FVec F S1x512x128 .f32) × Sb F :=
  let v2500 := VecWindow.window s.c ![0, 0, 0] S1x512x1.size inb_S2x2048x1_S1x512x1_0_0_0
  let v2502 := VecWindow.window s.acc ![0, 0, 0] S1x512x128.size inb_S2x2048x128_S1x512x128_0_0_0
  let v2511 := VecWindow.window s.acc ![0, 0, 0] S1x512x128.size inb_S2x2048x128_S1x512x128_0_0_0
  let s : Sb F := { s with acc := VecWindow.put s.acc ![0, 0, 0] S1x512x128.size (k0_pay746 v2496 v2500 v2502) }
  let v2516 := VecWindow.window s.c ![0, 0, 0] S1x512x1.size inb_S2x2048x1_S1x512x1_0_0_0
  let s : Sb F := { s with c := VecWindow.put s.c ![0, 0, 0] S1x512x1.size (k0_pay747 v2480 v2497 v2500) }
  let v2519 := VecWindow.window s.c ![1, 0, 0] S1x512x1.size inb_S2x2048x1_S1x512x1_1_0_0
  let v2521 := VecWindow.window s.acc ![1, 0, 0] S1x512x128.size inb_S2x2048x128_S1x512x128_1_0_0
  let v2530 := VecWindow.window s.acc ![1, 0, 0] S1x512x128.size inb_S2x2048x128_S1x512x128_1_0_0
  (⟨k0_pay744 v2480 v2497, k0_pay748 v2519, k0_pay749 v2496 v2519 v2521⟩, s)

theorem part139_runs (v2480 : FVec F S1024x256 .f32) (v2496 : FVec F S1024x128 .f32) (v2497 : FVec F S1024x1 .f32) (s : Sb F) :
    Runs o d bd X (k0_part139 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2480 v2496 v2497) s (sb139 X i v2480 v2496 v2497 s) := by
  rw [k0_part139_eq_skeleton]; unfold k0_part139_skel sb139
  refine .load fun _ => ?_
  refine .load fun _ => ?_
  refine .load fun _ => ?_
  refine .store ?_
  refine .load fun _ => ?_
  refine .store ?_
  refine .load fun _ => ?_
  refine .load fun _ => ?_
  refine .load fun _ => ?_
  exact .pure _ _

def sb74 (X : Ins F) (i : grid0.Coords) (arg2 : BitVec 32) (v1802 : FVec F S256x256 .bf16) (k0_h2 : k0_cond2 i = 1#1) (s : Sb F) :
    (Σ' (v2606 : FVec F S512x128 .f32), FVec F S512x1 .f32) × Sb F :=
  let v2579 := VecWindow.window X.x5 (k0_off9 i) S1x1x256x128.size (k0_off9_inb i k0_h2)
  let v2582 := VecWindow.window X.x6 (k0_off9 i) S1x1x256x128.size (k0_off9_inb i k0_h2)
  let v2584 := VecWindow.window s.qh ![0, 0, 0] S1x256x128.size inb_S2x2048x128_S1x256x128_0_0_0
  let v2586 := VecWindow.window s.qh ![1, 0, 0] S1x256x128.size inb_S2x2048x128_S1x256x128_1_0_0
  (⟨k0_pay424 v1802 v2579 v2582 v2584 v2586, k0_pay425 v1802 v2579 v2584 v2586⟩, s)

theorem part74_runs (arg2 : BitVec 32) (v1802 : FVec F S256x256 .bf16) (k0_h2 : k0_cond2 i = 1#1) (s : Sb F) :
    Runs o d bd X (k0_part74 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1802 k0_h2) s (sb74 X i arg2 v1802 k0_h2 s) := by
  rw [k0_part74_eq_skeleton]; unfold k0_part74_skel sb74
  refine .load fun _ => ?_
  refine .load fun _ => ?_
  refine .load fun _ => ?_
  refine .load fun _ => ?_
  exact .pure _ _

def sb75 (X : Ins F) (i : grid0.Coords) (v2606 : FVec F S512x128 .f32) (v2609 : FVec F S512x1 .f32) (s : Sb F) :
    (FVec F S256x1 .f32) × Sb F :=
  let v2610 := VecWindow.window s.c ![0, 0, 0] S1x256x1.size inb_S2x2048x1_S1x256x1_0_0_0
  let v2612 := VecWindow.window s.acc ![0, 0, 0] S1x256x128.size inb_S2x2048x128_S1x256x128_0_0_0
  let v2621 := VecWindow.window s.acc ![0, 0, 0] S1x256x128.size inb_S2x2048x128_S1x256x128_0_0_0
  let s : Sb F := { s with acc := VecWindow.put s.acc ![0, 0, 0] S1x256x128.size (k0_pay427 v2606 v2610 v2612) }
  let v2626 := VecWindow.window s.c ![0, 0, 0] S1x256x1.size inb_S2x2048x1_S1x256x1_0_0_0
  let s : Sb F := { s with c := VecWindow.put s.c ![0, 0, 0] S1x256x1.size (k0_pay428 v2609 v2610) }
  let v2629 := VecWindow.window s.c ![1, 0, 0] S1x256x1.size inb_S2x2048x1_S1x256x1_1_0_0
  let v2631 := VecWindow.window s.acc ![1, 0, 0] S1x256x128.size inb_S2x2048x128_S1x256x128_1_0_0
  let v2640 := VecWindow.window s.acc ![1, 0, 0] S1x256x128.size inb_S2x2048x128_S1x256x128_1_0_0
  let s : Sb F := { s with acc := VecWindow.put s.acc ![1, 0, 0] S1x256x128.size (k0_pay430 v2606 v2629 v2631) }
  ((k0_pay431 v2609 v2629), s)

theorem part75_runs (v2606 : FVec F S512x128 .f32) (v2609 : FVec F S512x1 .f32) (s : Sb F) :
    Runs o d bd X (k0_part75 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2606 v2609) s (sb75 X i v2606 v2609 s) := by
  rw [k0_part75_eq_skeleton]; unfold k0_part75_skel sb75
  refine .load fun _ => ?_
  refine .load fun _ => ?_
  refine .load fun _ => ?_
  refine .store ?_
  refine .load fun _ => ?_
  refine .store ?_
  refine .load fun _ => ?_
  refine .load fun _ => ?_
  refine .load fun _ => ?_
  refine .store ?_
  exact .pure _ _

def sb142 (X : Ins F) (i : grid0.Coords) (k0_t3 : Fin k0_t3_loop.trips) (v1802 : FVec F S256x256 .bf16) (arg22 : BitVec 32) (v2575 : BitVec 32) (k0_hw1 : k0_chk1 arg22) (s : Sb F) :
    (Σ' (v2612 : FVec F S512x128 .f32) (v2615 : FVec F S512x1 .f32), FVec F S256x1 .f32) × Sb F :=
  let v2583 := VecWindow.window X.x5 (k0_off11 arg22) S1x1x256x128.size (k0_off11_inb arg22 k0_hw1)
  let v2586 := VecWindow.window X.x6 (k0_off11 arg22) S1x1x256x128.size (k0_off11_inb arg22 k0_hw1)
  let v2589 := VecWindow.window s.qh (k0_off12 k0_t3) S1x256x128.size (k0_off12_inb k0_t3)
  let v2592 := VecWindow.window s.qh (k0_off13 k0_t3) S1x256x128.size (k0_off13_inb k0_t3)
  let v2617 := VecWindow.window s.c (k0_off14 k0_t3) S1x256x1.size (k0_off14_inb k0_t3)
  (⟨k0_pay758 v1802 v2583 v2586 v2589 v2592, k0_pay759 v1802 v2583 v2589 v2592, k0_pay760 v2617⟩, s)

theorem part142_runs (k0_t3 : Fin k0_t3_loop.trips) (v1802 : FVec F S256x256 .bf16) (arg22 : BitVec 32) (v2575 : BitVec 32) (k0_hw1 : k0_chk1 arg22) (s : Sb F) :
    Runs o d bd X (k0_part142 i k0_t3 o.a14 o.h14 o.a5 o.h5 o.a6 o.h6 o.a12 o.h12 v1802 o.a13 o.h13 arg22 v2575) s (sb142 X i k0_t3 v1802 arg22 v2575 k0_hw1 s) := by
  rw [k0_part142_eq_skeleton]; unfold k0_part142_skel sb142
  refine .assume k0_hw1 ?_
  refine .load fun _ => ?_
  refine .load fun _ => ?_
  refine .load fun _ => ?_
  refine .load fun _ => ?_
  refine .load fun _ => ?_
  exact .pure _ _

def sb143 (X : Ins F) (i : grid0.Coords) (k0_t3 : Fin k0_t3_loop.trips) (v1802 : FVec F S256x256 .bf16) (arg22 : BitVec 32) (v2575 : BitVec 32) (v2612 : FVec F S512x128 .f32) (v2615 : FVec F S512x1 .f32) (v2618 : FVec F S256x1 .f32) (s : Sb F) :
    (FVec F S256x1 .f32) × Sb F :=
  let v2620 := VecWindow.window s.acc (k0_off12 k0_t3) S1x256x128.size (k0_off12_inb k0_t3)
  let v2630 := VecWindow.window s.acc (k0_off12 k0_t3) S1x256x128.size (k0_off12_inb k0_t3)
  let s : Sb F := { s with acc := VecWindow.put s.acc (k0_off12 k0_t3) S1x256x128.size (k0_pay761 v2612 v2618 v2620) }
  let v2636 := VecWindow.window s.c (k0_off14 k0_t3) S1x256x1.size (k0_off14_inb k0_t3)
  let s : Sb F := { s with c := VecWindow.put s.c (k0_off14 k0_t3) S1x256x1.size (k0_pay762 v2615 v2618) }
  let v2640 := VecWindow.window s.c (k0_off15 k0_t3) S1x256x1.size (k0_off15_inb k0_t3)
  let v2643 := VecWindow.window s.acc (k0_off13 k0_t3) S1x256x128.size (k0_off13_inb k0_t3)
  let v2653 := VecWindow.window s.acc (k0_off13 k0_t3) S1x256x128.size (k0_off13_inb k0_t3)
  let s : Sb F := { s with acc := VecWindow.put s.acc (k0_off13 k0_t3) S1x256x128.size (k0_pay764 v2612 v2640 v2643) }
  let v2659 := VecWindow.window s.c (k0_off15 k0_t3) S1x256x1.size (k0_off15_inb k0_t3)
  ((k0_pay765 v2615 v2640), s)

theorem part143_runs (k0_t3 : Fin k0_t3_loop.trips) (v1802 : FVec F S256x256 .bf16) (arg22 : BitVec 32) (v2575 : BitVec 32) (v2612 : FVec F S512x128 .f32) (v2615 : FVec F S512x1 .f32) (v2618 : FVec F S256x1 .f32) (s : Sb F) :
    Runs o d bd X (k0_part143 i k0_t3 o.a14 o.h14 o.a5 o.h5 o.a6 o.h6 o.a12 o.h12 v1802 o.a13 o.h13 arg22 v2575 v2612 v2615 v2618) s (sb143 X i k0_t3 v1802 arg22 v2575 v2612 v2615 v2618 s) := by
  rw [k0_part143_eq_skeleton]; unfold k0_part143_skel sb143
  refine .load fun _ => ?_
  refine .load fun _ => ?_
  refine .store ?_
  refine .load fun _ => ?_
  refine .store ?_
  refine .load fun _ => ?_
  refine .load fun _ => ?_
  refine .load fun _ => ?_
  refine .store ?_
  refine .load fun _ => ?_
  exact .pure _ _

attribute [irreducible] sb119 sb120 sb121 sb122 sb123 sb124 sb125 sb126 sb127 sb128 sb129 sb130 sb131 sb132 sb133 sb134 sb135 sb136 sb137 sb138 sb139 sb74 sb75 sb142 sb143

end Cert.AttnIdeal.Body

end
-- ==== Proof.AttnIdealQuietB.lean ====
/-
  The block-sparse half of the attention kernel's body leaves the stick-breaking half's buffers alone: the two counted loops over blocks of keys.
  One statement a stretch of the body, by its memory operations in order.
-/
module

public import proofs.«01_k».proof.Proof.AttnIdealState

@[expose] public section

set_option maxRecDepth 65536
set_option maxHeartbeats 4000000

noncomputable section

namespace Cert.AttnIdeal.Body

open Cert.AttnIdeal Cert.AttnIdeal.Gen
open Idealize.ShloMosaic Idealize.ShloMosaic.TcCoe Idealize.SL.Sem

variable {F : FTy → Type} [FloatOps F] [Named F] (o : Ops) (i : grid0.Coords)

theorem part42_quiet (c0_i32_1206 : BitVec 32) (c1_i32_1208 : BitVec 32) (k0_t1 : Fin (k0_t1_loop i).trips) :
    Quiet (F := F) o (k0_part42 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 c0_i32_1206 c1_i32_1208 k0_t1) (fun _ => True) := by
  rw [k0_part42_eq_skeleton]; unfold k0_part42_skel
  refine .load fun _ => ?_
  refine .load fun _ => ?_
  refine .load fun _ => ?_
  refine .load fun _ => ?_
  refine .load fun _ => ?_
  refine .load fun _ => ?_
  refine .store ?_
  exact .pure trivial

theorem part43_quiet (k0_t1 : Fin (k0_t1_loop i).trips) (v2577 : BitVec 32) (v2592 : FVec F S2048x128 .f32) :
    Quiet (F := F) o (k0_part43 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 v2577 v2592) (fun _ => True) := by
  rw [k0_part43_eq_skeleton]; unfold k0_part43_skel
  refine .load fun _ => ?_
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part44_quiet (k0_t1 : Fin (k0_t1_loop i).trips) (arg21 : BitVec 32) :
    Quiet (F := F) o (k0_part44 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 arg21) (fun _ => True) := by
  rw [k0_part44_eq_skeleton]; unfold k0_part44_skel
  refine .load fun _ => ?_
  refine .load fun _ => ?_
  refine .load fun _ => ?_
  refine .load fun _ => ?_
  refine .load fun _ => ?_
  refine .load fun _ => ?_
  refine .store ?_
  refine .load fun _ => ?_
  exact .pure trivial

theorem part45_quiet (k0_t1 : Fin (k0_t1_loop i).trips) (v2645 : BitVec 32) (v2660 : FVec F S2048x128 .f32) (v2675 : Vec F S1x2048x128 .f32) :
    Quiet (F := F) o (k0_part45 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 v2645 v2660 v2675) (fun _ => True) := by
  rw [k0_part45_eq_skeleton]; unfold k0_part45_skel
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part46_quiet (k0_t1 : Fin (k0_t1_loop i).trips) (arg21 : BitVec 32) (c8_i32_1332 : BitVec 32) :
    Quiet (F := F) o (k0_part46 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 arg21 c8_i32_1332) (fun _ => True) := by
  rw [k0_part46_eq_skeleton]; unfold k0_part46_skel
  refine .load fun _ => ?_
  refine .load fun _ => ?_
  refine .load fun _ => ?_
  refine .load fun _ => ?_
  refine .load fun _ => ?_
  refine .load fun _ => ?_
  refine .store ?_
  refine .load fun _ => ?_
  exact .pure trivial

theorem part47_quiet (k0_t1 : Fin (k0_t1_loop i).trips) (arg21 : BitVec 32) (v2713 : BitVec 32) (v2728 : FVec F S2048x128 .f32) :
    Quiet (F := F) o (k0_part47 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 arg21 v2713 v2728) (fun _ => True) := by
  rw [k0_part47_eq_skeleton]; unfold k0_part47_skel
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part48_quiet (k0_t1 : Fin (k0_t1_loop i).trips) (v2778 : BitVec 32) :
    Quiet (F := F) o (k0_part48 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 v2778) (fun _ => True) := by
  rw [k0_part48_eq_skeleton]; unfold k0_part48_skel
  refine .load fun _ => ?_
  refine .load fun _ => ?_
  refine .load fun _ => ?_
  refine .load fun _ => ?_
  refine .load fun _ => ?_
  refine .load fun _ => ?_
  refine .store ?_
  refine .load fun _ => ?_
  exact .pure trivial

theorem part49_quiet (k0_t1 : Fin (k0_t1_loop i).trips) (arg21 : BitVec 32) (v2781 : BitVec 32) (v2813 : FVec F S1x2048x128 .f32) :
    Quiet (F := F) o (k0_part49 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 arg21 v2781 v2813) (fun _ => True) := by
  rw [k0_part49_eq_skeleton]; unfold k0_part49_skel
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part50_quiet (k0_t1 : Fin (k0_t1_loop i).trips) (v2846 : BitVec 32) (c4_i32_1427 : BitVec 32) :
    Quiet (F := F) o (k0_part50 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 v2846 c4_i32_1427) (fun _ => True) := by
  rw [k0_part50_eq_skeleton]; unfold k0_part50_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part51_quiet (k0_t1 : Fin (k0_t1_loop i).trips) (arg21 : BitVec 32) (v2849 : BitVec 32) :
    Quiet (F := F) o (k0_part51 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 arg21 v2849) (fun _ => True) := by
  rw [k0_part51_eq_skeleton]; unfold k0_part51_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part52_quiet (k0_t1 : Fin (k0_t1_loop i).trips) (v2915 : BitVec 32) :
    Quiet (F := F) o (k0_part52 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 v2915) (fun _ => True) := by
  rw [k0_part52_eq_skeleton]; unfold k0_part52_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part53_quiet (k0_t1 : Fin (k0_t1_loop i).trips) (arg21 : BitVec 32) (v2917 : BitVec 32) :
    Quiet (F := F) o (k0_part53 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 arg21 v2917) (fun _ => True) := by
  rw [k0_part53_eq_skeleton]; unfold k0_part53_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part54_quiet (k0_t1 : Fin (k0_t1_loop i).trips) (v2983 : BitVec 32) (c256_i32_1522 : BitVec 32) :
    Quiet (F := F) o (k0_part54 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 v2983 c256_i32_1522) (fun _ => True) := by
  rw [k0_part54_eq_skeleton]; unfold k0_part54_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part55_quiet (k0_t1 : Fin (k0_t1_loop i).trips) (arg21 : BitVec 32) (v2985 : BitVec 32) :
    Quiet (F := F) o (k0_part55 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 arg21 v2985) (fun _ => True) := by
  rw [k0_part55_eq_skeleton]; unfold k0_part55_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part56_quiet (k0_t1 : Fin (k0_t1_loop i).trips) (v3052 : BitVec 32) :
    Quiet (F := F) o (k0_part56 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t1 v3052) (fun _ => True) := by
  rw [k0_part56_eq_skeleton]; unfold k0_part56_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part57_quiet (c0_i32_1206 : BitVec 32) (c1_i32_1208 : BitVec 32) (k0_t1 : Fin (k0_t1_loop i).trips) :
    Quiet (F := F) o (k0_part57 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 c0_i32_1206 c1_i32_1208 k0_t1) (fun _ => True) := by
  rw [k0_part57_eq_skeleton]; unfold k0_part57_skel
  refine .bind (part42_quiet o i _ _ _) fun r _ => ?_
  refine .bind (part43_quiet o i _ _ _) fun r _ => ?_
  refine .bind (part44_quiet o i _ _) fun r _ => ?_
  refine .bind (part45_quiet o i _ _ _ _) fun r _ => ?_
  refine .bind (part46_quiet o i _ _ _) fun r _ => ?_
  refine .bind (part47_quiet o i _ _ _ _) fun r _ => ?_
  refine .bind (part48_quiet o i _ _) fun r _ => ?_
  refine .bind (part49_quiet o i _ _ _ _) fun r _ => ?_
  refine .bind (part50_quiet o i _ _ _) fun r _ => ?_
  refine .bind (part51_quiet o i _ _ _) fun r _ => ?_
  refine .bind (part52_quiet o i _ _) fun r _ => ?_
  refine .bind (part53_quiet o i _ _ _) fun r _ => ?_
  refine .bind (part54_quiet o i _ _ _) fun r _ => ?_
  refine .bind (part55_quiet o i _ _ _) fun r _ => ?_
  refine .bind (part56_quiet o i _ _) fun r _ => ?_
  refine .load fun _ => ?_
  refine .load fun _ => ?_
  refine .load fun _ => ?_
  refine .load fun _ => ?_
  refine .load fun _ => ?_
  refine .load fun _ => ?_
  exact .pure trivial

theorem part58_quiet (v2543 : BitVec 32) (c1_i32_1209 : BitVec 32) (k0_t2 : Fin (k0_t2_loop i).trips) :
    Quiet (F := F) o (k0_part58 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2543 c1_i32_1209 k0_t2) (fun _ => True) := by
  rw [k0_part58_eq_skeleton]; unfold k0_part58_skel
  refine .load fun _ => ?_
  refine .load fun _ => ?_
  refine .load fun _ => ?_
  refine .load fun _ => ?_
  refine .load fun _ => ?_
  refine .load fun _ => ?_
  refine .store ?_
  exact .pure trivial

theorem part59_quiet (k0_t2 : Fin (k0_t2_loop i).trips) (v2577 : BitVec 32) (v2592 : FVec F S2048x128 .f32) :
    Quiet (F := F) o (k0_part59 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 v2577 v2592) (fun _ => True) := by
  rw [k0_part59_eq_skeleton]; unfold k0_part59_skel
  refine .load fun _ => ?_
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part60_quiet (k0_t2 : Fin (k0_t2_loop i).trips) (arg21 : BitVec 32) :
    Quiet (F := F) o (k0_part60 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 arg21) (fun _ => True) := by
  rw [k0_part60_eq_skeleton]; unfold k0_part60_skel
  refine .load fun _ => ?_
  refine .load fun _ => ?_
  refine .load fun _ => ?_
  refine .load fun _ => ?_
  refine .load fun _ => ?_
  refine .load fun _ => ?_
  refine .store ?_
  refine .load fun _ => ?_
  exact .pure trivial

theorem part61_quiet (k0_t2 : Fin (k0_t2_loop i).trips) (v2645 : BitVec 32) (v2660 : FVec F S2048x128 .f32) (v2675 : Vec F S1x2048x128 .f32) :
    Quiet (F := F) o (k0_part61 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 v2645 v2660 v2675) (fun _ => True) := by
  rw [k0_part61_eq_skeleton]; unfold k0_part61_skel
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part62_quiet (k0_t2 : Fin (k0_t2_loop i).trips) (arg21 : BitVec 32) (c8_i32_1332 : BitVec 32) :
    Quiet (F := F) o (k0_part62 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 arg21 c8_i32_1332) (fun _ => True) := by
  rw [k0_part62_eq_skeleton]; unfold k0_part62_skel
  refine .load fun _ => ?_
  refine .load fun _ => ?_
  refine .load fun _ => ?_
  refine .load fun _ => ?_
  refine .load fun _ => ?_
  refine .load fun _ => ?_
  refine .store ?_
  refine .load fun _ => ?_
  exact .pure trivial

theorem part63_quiet (k0_t2 : Fin (k0_t2_loop i).trips) (arg21 : BitVec 32) (v2713 : BitVec 32) (v2728 : FVec F S2048x128 .f32) :
    Quiet (F := F) o (k0_part63 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 arg21 v2713 v2728) (fun _ => True) := by
  rw [k0_part63_eq_skeleton]; unfold k0_part63_skel
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part64_quiet (k0_t2 : Fin (k0_t2_loop i).trips) (v2778 : BitVec 32) :
    Quiet (F := F) o (k0_part64 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 v2778) (fun _ => True) := by
  rw [k0_part64_eq_skeleton]; unfold k0_part64_skel
  refine .load fun _ => ?_
  refine .load fun _ => ?_
  refine .load fun _ => ?_
  refine .load fun _ => ?_
  refine .load fun _ => ?_
  refine .load fun _ => ?_
  refine .store ?_
  refine .load fun _ => ?_
  exact .pure trivial

theorem part65_quiet (k0_t2 : Fin (k0_t2_loop i).trips) (arg21 : BitVec 32) (v2781 : BitVec 32) (v2813 : FVec F S1x2048x128 .f32) :
    Quiet (F := F) o (k0_part65 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 arg21 v2781 v2813) (fun _ => True) := by
  rw [k0_part65_eq_skeleton]; unfold k0_part65_skel
  refine .store ?_
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part66_quiet (k0_t2 : Fin (k0_t2_loop i).trips) (v2846 : BitVec 32) (c4_i32_1427 : BitVec 32) :
    Quiet (F := F) o (k0_part66 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 v2846 c4_i32_1427) (fun _ => True) := by
  rw [k0_part66_eq_skeleton]; unfold k0_part66_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part67_quiet (k0_t2 : Fin (k0_t2_loop i).trips) (arg21 : BitVec 32) (v2849 : BitVec 32) :
    Quiet (F := F) o (k0_part67 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 arg21 v2849) (fun _ => True) := by
  rw [k0_part67_eq_skeleton]; unfold k0_part67_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part68_quiet (k0_t2 : Fin (k0_t2_loop i).trips) (v2915 : BitVec 32) :
    Quiet (F := F) o (k0_part68 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 v2915) (fun _ => True) := by
  rw [k0_part68_eq_skeleton]; unfold k0_part68_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part69_quiet (k0_t2 : Fin (k0_t2_loop i).trips) (arg21 : BitVec 32) (v2917 : BitVec 32) :
    Quiet (F := F) o (k0_part69 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 arg21 v2917) (fun _ => True) := by
  rw [k0_part69_eq_skeleton]; unfold k0_part69_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part70_quiet (k0_t2 : Fin (k0_t2_loop i).trips) (v2983 : BitVec 32) (c256_i32_1522 : BitVec 32) :
    Quiet (F := F) o (k0_part70 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 v2983 c256_i32_1522) (fun _ => True) := by
  rw [k0_part70_eq_skeleton]; unfold k0_part70_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part71_quiet (k0_t2 : Fin (k0_t2_loop i).trips) (arg21 : BitVec 32) (v2985 : BitVec 32) :
    Quiet (F := F) o (k0_part71 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 arg21 v2985) (fun _ => True) := by
  rw [k0_part71_eq_skeleton]; unfold k0_part71_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part72_quiet (k0_t2 : Fin (k0_t2_loop i).trips) (v3052 : BitVec 32) :
    Quiet (F := F) o (k0_part72 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_t2 v3052) (fun _ => True) := by
  rw [k0_part72_eq_skeleton]; unfold k0_part72_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part73_quiet (v2543 : BitVec 32) (c1_i32_1209 : BitVec 32) (k0_t2 : Fin (k0_t2_loop i).trips) :
    Quiet (F := F) o (k0_part73 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2543 c1_i32_1209 k0_t2) (fun _ => True) := by
  rw [k0_part73_eq_skeleton]; unfold k0_part73_skel
  refine .bind (part58_quiet o i _ _ _) fun r _ => ?_
  refine .bind (part59_quiet o i _ _ _) fun r _ => ?_
  refine .bind (part60_quiet o i _ _) fun r _ => ?_
  refine .bind (part61_quiet o i _ _ _ _) fun r _ => ?_
  refine .bind (part62_quiet o i _ _ _) fun r _ => ?_
  refine .bind (part63_quiet o i _ _ _ _) fun r _ => ?_
  refine .bind (part64_quiet o i _ _) fun r _ => ?_
  refine .bind (part65_quiet o i _ _ _ _) fun r _ => ?_
  refine .bind (part66_quiet o i _ _ _) fun r _ => ?_
  refine .bind (part67_quiet o i _ _ _) fun r _ => ?_
  refine .bind (part68_quiet o i _ _) fun r _ => ?_
  refine .bind (part69_quiet o i _ _ _) fun r _ => ?_
  refine .bind (part70_quiet o i _ _ _) fun r _ => ?_
  refine .bind (part71_quiet o i _ _ _) fun r _ => ?_
  refine .bind (part72_quiet o i _ _) fun r _ => ?_
  refine .load fun _ => ?_
  refine .load fun _ => ?_
  refine .load fun _ => ?_
  refine .load fun _ => ?_
  refine .load fun _ => ?_
  refine .load fun _ => ?_
  exact .pure trivial

end Cert.AttnIdeal.Body

end
-- ==== Proof.AttnIdealQuietA.lean ====
/-
  The block-sparse half of the attention kernel's body leaves the stick-breaking half's buffers alone: the block means and the augmented keys and values, built when a head pair is first met.
  One statement a stretch of the body, by its memory operations in order.
-/
module

public import proofs.«01_k».proof.Proof.AttnIdealState

@[expose] public section

set_option maxRecDepth 65536
set_option maxHeartbeats 4000000

noncomputable section

namespace Cert.AttnIdeal.Body

open Cert.AttnIdeal Cert.AttnIdeal.Gen
open Idealize.ShloMosaic Idealize.ShloMosaic.TcCoe Idealize.SL.Sem

variable {F : FTy → Type} [FloatOps F] [Named F] (o : Ops) (i : grid0.Coords)

theorem part1_quiet (arg1 : BitVec 32) (k0_h1 : k0_cond1 i = 1#1) :
    Quiet (F := F) o (k0_part1 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1) (fun _ => True) := by
  rw [k0_part1_eq_skeleton]; unfold k0_part1_skel
  refine .load fun _ => ?_
  refine .store ?_
  refine .slope fun _ => ?_
  exact .pure trivial

theorem part2_quiet (arg1 : BitVec 32) (k0_h1 : k0_cond1 i = 1#1) (v2574 : IVec S256x128 32) (v2575 : IVec S256x128 32) (v2617 : IVec S256x128 32) :
    Quiet (F := F) o (k0_part2 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2574 v2575 v2617) (fun _ => True) := by
  rw [k0_part2_eq_skeleton]; unfold k0_part2_skel
  refine .slope fun _ => ?_
  refine .load fun _ => ?_
  refine .load fun _ => ?_
  exact .pure trivial

theorem part3_quiet (arg1 : BitVec 32) (k0_h1 : k0_cond1 i = 1#1) (v2581 : IVec S256x128 1) (v2583 : IVec S256x128 32) (v2610 : FVec F S256x128 .f32) (v2655 : FVec F S256x128 .bf16) (v2658 : FVec F S256x128 .f32) :
    Quiet (F := F) o (k0_part3 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2655 v2658) (fun _ => True) := by
  rw [k0_part3_eq_skeleton]; unfold k0_part3_skel
  refine .load fun _ => ?_
  refine .store ?_
  refine .slope fun _ => ?_
  refine .load fun _ => ?_
  exact .pure trivial

theorem part4_quiet (arg1 : BitVec 32) (k0_h1 : k0_cond1 i = 1#1) (v2581 : IVec S256x128 1) (v2616 : FVec F S256x128 .bf16) (v2618 : IVec S256x128 1) (v2620 : IVec S256x128 32) (v2647 : FVec F S256x128 .f32) (v2655 : FVec F S256x128 .bf16) (v2657 : FVec F S256x128 .bf16) (v2702 : FVec F S256x128 .bf16) (v2703 : Vec F S1x256x128 .bf16) :
    Quiet (F := F) o (k0_part4 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2616 v2618 v2620 v2647 v2655 v2657 v2702 v2703) (fun _ => True) := by
  rw [k0_part4_eq_skeleton]; unfold k0_part4_skel
  refine .store ?_
  refine .load fun _ => ?_
  refine .store ?_
  refine .slope fun _ => ?_
  refine .load fun _ => ?_
  exact .pure trivial

theorem part5_quiet (arg1 : BitVec 32) (k0_h1 : k0_cond1 i = 1#1) (v2583 : IVec S256x128 32) (v2618 : IVec S256x128 1) (v2653 : FVec F S256x128 .bf16) (v2657 : FVec F S256x128 .bf16) (v2746 : FVec F S256x128 .bf16) (v2747 : Vec F S1x256x128 .bf16) :
    Quiet (F := F) o (k0_part5 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2583 v2618 v2653 v2657 v2746 v2747) (fun _ => True) := by
  rw [k0_part5_eq_skeleton]; unfold k0_part5_skel
  refine .store ?_
  refine .load fun _ => ?_
  refine .store ?_
  refine .load fun _ => ?_
  refine .load fun _ => ?_
  refine .load fun _ => ?_
  refine .store ?_
  refine .slope fun _ => ?_
  exact .pure trivial

theorem part6_quiet (arg1 : BitVec 32) (k0_h1 : k0_cond1 i = 1#1) (v2581 : IVec S256x128 1) (v2583 : IVec S256x128 32) (v2610 : FVec F S256x128 .f32) (v2616 : FVec F S256x128 .bf16) (v2620 : IVec S256x128 32) (v2755 : FVec F S256x128 .bf16) (v2757 : FVec F S256x128 .bf16) (v2779 : FVec F S1x128 .f32) (v2780 : FVec F S1x128 .f32) (v2781 : FVec F S1x128 .f32) (v2783 : IVec S256x128 1) (v2784 : FVec F S256x128 .f32) :
    Quiet (F := F) o (k0_part6 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v2620 v2755 v2757 v2779 v2780 v2781 v2783 v2784) (fun _ => True) := by
  rw [k0_part6_eq_skeleton]; unfold k0_part6_skel
  refine .load fun _ => ?_
  refine .store ?_
  refine .load fun _ => ?_
  refine .store ?_
  refine .slope fun _ => ?_
  exact .pure trivial

theorem part7_quiet (v2618 : IVec S256x128 1) (v2620 : IVec S256x128 32) (v2647 : FVec F S256x128 .f32) (v2653 : FVec F S256x128 .bf16) (v2755 : FVec F S256x128 .bf16) (v2757 : FVec F S256x128 .bf16) (v2823 : FVec F S1x128 .f32) (v2824 : FVec F S1x128 .f32) (v2825 : FVec F S1x128 .f32) (v2827 : IVec S256x128 1) (v2828 : FVec F S256x128 .f32) :
    Quiet (F := F) o (k0_part7 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2618 v2620 v2647 v2653 v2755 v2757 v2823 v2824 v2825 v2827 v2828) (fun _ => True) := by
  rw [k0_part7_eq_skeleton]; unfold k0_part7_skel
  refine .load fun _ => ?_
  refine .store ?_
  refine .load fun _ => ?_
  refine .store ?_
  refine .load fun _ => ?_
  refine .load fun _ => ?_
  refine .load fun _ => ?_
  exact .pure trivial

theorem part8_quiet (arg1 : BitVec 32) (k0_h1 : k0_cond1 i = 1#1) (v2581 : IVec S256x128 1) (v2583 : IVec S256x128 32) (v2610 : FVec F S256x128 .f32) (v2616 : FVec F S256x128 .bf16) (v2855 : FVec F S256x128 .bf16) (v2857 : FVec F S256x128 .bf16) (v2865 : FVec F S1x128 .f32) :
    Quiet (F := F) o (k0_part8 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v2855 v2857 v2865) (fun _ => True) := by
  rw [k0_part8_eq_skeleton]; unfold k0_part8_skel
  refine .store ?_
  refine .slope fun _ => ?_
  refine .load fun _ => ?_
  refine .store ?_
  refine .load fun _ => ?_
  exact .pure trivial

theorem part9_quiet (arg1 : BitVec 32) (k0_h1 : k0_cond1 i = 1#1) (v2618 : IVec S256x128 1) (v2620 : IVec S256x128 32) (v2647 : FVec F S256x128 .f32) (v2653 : FVec F S256x128 .bf16) (v2855 : FVec F S256x128 .bf16) (v2857 : FVec F S256x128 .bf16) (v2909 : FVec F S1x256x128 .bf16) :
    Quiet (F := F) o (k0_part9 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2618 v2620 v2647 v2653 v2855 v2857 v2909) (fun _ => True) := by
  rw [k0_part9_eq_skeleton]; unfold k0_part9_skel
  refine .store ?_
  refine .slope fun _ => ?_
  refine .load fun _ => ?_
  refine .store ?_
  refine .load fun _ => ?_
  exact .pure trivial

theorem part10_quiet (arg1 : BitVec 32) (k0_h1 : k0_cond1 i = 1#1) (v2583 : IVec S256x128 32) (v2610 : FVec F S256x128 .f32) (v2953 : FVec F S1x256x128 .bf16) :
    Quiet (F := F) o (k0_part10 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2583 v2610 v2953) (fun _ => True) := by
  rw [k0_part10_eq_skeleton]; unfold k0_part10_skel
  refine .store ?_
  refine .load fun _ => ?_
  refine .load fun _ => ?_
  refine .load fun _ => ?_
  refine .store ?_
  refine .slope fun _ => ?_
  exact .pure trivial

theorem part11_quiet (arg1 : BitVec 32) (k0_h1 : k0_cond1 i = 1#1) (v2581 : IVec S256x128 1) (v2583 : IVec S256x128 32) (v2616 : FVec F S256x128 .bf16) (v2620 : IVec S256x128 32) (v2647 : FVec F S256x128 .f32) (v2955 : FVec F S256x128 .bf16) (v2957 : FVec F S256x128 .bf16) (v2980 : FVec F S1x128 .f32) (v2981 : FVec F S1x128 .f32) (v2990 : FVec F S256x128 .f32) (v2992 : IVec S256x128 1) :
    Quiet (F := F) o (k0_part11 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2616 v2620 v2647 v2955 v2957 v2980 v2981 v2990 v2992) (fun _ => True) := by
  rw [k0_part11_eq_skeleton]; unfold k0_part11_skel
  refine .load fun _ => ?_
  refine .store ?_
  refine .load fun _ => ?_
  refine .store ?_
  refine .slope fun _ => ?_
  exact .pure trivial

theorem part12_quiet (arg1 : BitVec 32) (k0_h1 : k0_cond1 i = 1#1) (v2618 : IVec S256x128 1) (v2620 : IVec S256x128 32) (v2653 : FVec F S256x128 .bf16) (v2955 : FVec F S256x128 .bf16) (v2957 : FVec F S256x128 .bf16) (v3024 : FVec F S1x128 .f32) (v3025 : FVec F S1x128 .f32) (v3034 : FVec F S256x128 .f32) (v3036 : IVec S256x128 1) :
    Quiet (F := F) o (k0_part12 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2618 v2620 v2653 v2955 v2957 v3024 v3025 v3034 v3036) (fun _ => True) := by
  rw [k0_part12_eq_skeleton]; unfold k0_part12_skel
  refine .load fun _ => ?_
  refine .store ?_
  refine .load fun _ => ?_
  refine .store ?_
  refine .load fun _ => ?_
  refine .load fun _ => ?_
  refine .load fun _ => ?_
  refine .store ?_
  refine .slope fun _ => ?_
  exact .pure trivial

theorem part13_quiet (arg1 : BitVec 32) (k0_h1 : k0_cond1 i = 1#1) (v2581 : IVec S256x128 1) (v2583 : IVec S256x128 32) (v2610 : FVec F S256x128 .f32) (v2616 : FVec F S256x128 .bf16) (v3055 : FVec F S256x128 .bf16) (v3057 : FVec F S256x128 .bf16) (v3071 : FVec F S1x128 .f32) :
    Quiet (F := F) o (k0_part13 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v3055 v3057 v3071) (fun _ => True) := by
  rw [k0_part13_eq_skeleton]; unfold k0_part13_skel
  refine .load fun _ => ?_
  refine .store ?_
  refine .load fun _ => ?_
  refine .store ?_
  refine .slope fun _ => ?_
  exact .pure trivial

theorem part14_quiet (v2618 : IVec S256x128 1) (v2620 : IVec S256x128 32) (v2647 : FVec F S256x128 .f32) (v2653 : FVec F S256x128 .bf16) (v3055 : FVec F S256x128 .bf16) (v3057 : FVec F S256x128 .bf16) (v3115 : FVec F S1x128 .f32) :
    Quiet (F := F) o (k0_part14 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2618 v2620 v2647 v2653 v3055 v3057 v3115) (fun _ => True) := by
  rw [k0_part14_eq_skeleton]; unfold k0_part14_skel
  refine .load fun _ => ?_
  refine .store ?_
  refine .load fun _ => ?_
  refine .store ?_
  refine .load fun _ => ?_
  exact .pure trivial

theorem part15_quiet (arg1 : BitVec 32) (k0_h1 : k0_cond1 i = 1#1) (v2583 : IVec S256x128 32) (v2610 : FVec F S256x128 .f32) (v3155 : FVec F S256x128 .bf16) :
    Quiet (F := F) o (k0_part15 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2583 v2610 v3155) (fun _ => True) := by
  rw [k0_part15_eq_skeleton]; unfold k0_part15_skel
  refine .load fun _ => ?_
  refine .load fun _ => ?_
  refine .store ?_
  refine .slope fun _ => ?_
  exact .pure trivial

theorem part16_quiet (arg1 : BitVec 32) (k0_h1 : k0_cond1 i = 1#1) (v2581 : IVec S256x128 1) (v2616 : FVec F S256x128 .bf16) (v2620 : IVec S256x128 32) (v2647 : FVec F S256x128 .f32) (v3155 : FVec F S256x128 .bf16) (v3157 : FVec F S256x128 .bf16) (v3201 : FVec F S256x128 .bf16) :
    Quiet (F := F) o (k0_part16 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2616 v2620 v2647 v3155 v3157 v3201) (fun _ => True) := by
  rw [k0_part16_eq_skeleton]; unfold k0_part16_skel
  refine .load fun _ => ?_
  refine .store ?_
  refine .load fun _ => ?_
  refine .store ?_
  refine .slope fun _ => ?_
  exact .pure trivial

theorem part17_quiet (arg1 : BitVec 32) (k0_h1 : k0_cond1 i = 1#1) (v2618 : IVec S256x128 1) (v2653 : FVec F S256x128 .bf16) (v3155 : FVec F S256x128 .bf16) (v3157 : FVec F S256x128 .bf16) (v3245 : FVec F S256x128 .bf16) :
    Quiet (F := F) o (k0_part17 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2618 v2653 v3155 v3157 v3245) (fun _ => True) := by
  rw [k0_part17_eq_skeleton]; unfold k0_part17_skel
  refine .load fun _ => ?_
  refine .store ?_
  refine .load fun _ => ?_
  refine .store ?_
  refine .load fun _ => ?_
  refine .load fun _ => ?_
  refine .load fun _ => ?_
  refine .store ?_
  refine .slope fun _ => ?_
  exact .pure trivial

theorem part18_quiet (arg1 : BitVec 32) (k0_h1 : k0_cond1 i = 1#1) (v2581 : IVec S256x128 1) (v2583 : IVec S256x128 32) (v2610 : FVec F S256x128 .f32) (v2616 : FVec F S256x128 .bf16) (v3255 : FVec F S256x128 .bf16) (v3257 : FVec F S256x128 .bf16) (v3279 : FVec F S1x128 .f32) (v3280 : FVec F S1x128 .f32) (v3281 : FVec F S1x128 .f32) :
    Quiet (F := F) o (k0_part18 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v3255 v3257 v3279 v3280 v3281) (fun _ => True) := by
  rw [k0_part18_eq_skeleton]; unfold k0_part18_skel
  refine .load fun _ => ?_
  refine .store ?_
  refine .load fun _ => ?_
  refine .store ?_
  refine .slope fun _ => ?_
  exact .pure trivial

theorem part19_quiet (v2618 : IVec S256x128 1) (v2620 : IVec S256x128 32) (v2647 : FVec F S256x128 .f32) (v2653 : FVec F S256x128 .bf16) (v3255 : FVec F S256x128 .bf16) (v3257 : FVec F S256x128 .bf16) (v3323 : FVec F S1x128 .f32) (v3324 : FVec F S1x128 .f32) (v3325 : FVec F S1x128 .f32) :
    Quiet (F := F) o (k0_part19 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2618 v2620 v2647 v2653 v3255 v3257 v3323 v3324 v3325) (fun _ => True) := by
  rw [k0_part19_eq_skeleton]; unfold k0_part19_skel
  refine .load fun _ => ?_
  refine .store ?_
  refine .load fun _ => ?_
  refine .store ?_
  refine .load fun _ => ?_
  refine .load fun _ => ?_
  exact .pure trivial

theorem part20_quiet (arg1 : BitVec 32) (k0_h1 : k0_cond1 i = 1#1) (v2581 : IVec S256x128 1) (v2583 : IVec S256x128 32) (v2610 : FVec F S256x128 .f32) (v2616 : FVec F S256x128 .bf16) (v3355 : FVec F S256x128 .bf16) (v3357 : FVec F S256x128 .bf16) (v3362 : FVec F S1x128 .f32) :
    Quiet (F := F) o (k0_part20 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v3355 v3357 v3362) (fun _ => True) := by
  rw [k0_part20_eq_skeleton]; unfold k0_part20_skel
  refine .load fun _ => ?_
  refine .store ?_
  refine .slope fun _ => ?_
  refine .load fun _ => ?_
  refine .store ?_
  exact .pure trivial

theorem part21_quiet (arg1 : BitVec 32) (k0_h1 : k0_cond1 i = 1#1) (v2618 : IVec S256x128 1) (v2620 : IVec S256x128 32) (v2647 : FVec F S256x128 .f32) (v2653 : FVec F S256x128 .bf16) (v3355 : FVec F S256x128 .bf16) (v3357 : FVec F S256x128 .bf16) (v3406 : FVec F S256x128 .bf16) :
    Quiet (F := F) o (k0_part21 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2618 v2620 v2647 v2653 v3355 v3357 v3406) (fun _ => True) := by
  rw [k0_part21_eq_skeleton]; unfold k0_part21_skel
  refine .load fun _ => ?_
  refine .store ?_
  refine .slope fun _ => ?_
  refine .load fun _ => ?_
  refine .store ?_
  exact .pure trivial

theorem part22_quiet (arg1 : BitVec 32) (k0_h1 : k0_cond1 i = 1#1) (v2583 : IVec S256x128 32) (v2610 : FVec F S256x128 .f32) (v3450 : FVec F S256x128 .bf16) :
    Quiet (F := F) o (k0_part22 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2583 v2610 v3450) (fun _ => True) := by
  rw [k0_part22_eq_skeleton]; unfold k0_part22_skel
  refine .load fun _ => ?_
  refine .store ?_
  refine .load fun _ => ?_
  refine .load fun _ => ?_
  refine .load fun _ => ?_
  refine .store ?_
  refine .slope fun _ => ?_
  exact .pure trivial

theorem part23_quiet (arg1 : BitVec 32) (k0_h1 : k0_cond1 i = 1#1) (v2581 : IVec S256x128 1) (v2583 : IVec S256x128 32) (v2616 : FVec F S256x128 .bf16) (v2620 : IVec S256x128 32) (v2647 : FVec F S256x128 .f32) (v3455 : FVec F S256x128 .bf16) (v3457 : FVec F S256x128 .bf16) (v3480 : FVec F S1x128 .f32) (v3481 : FVec F S1x128 .f32) (v3485 : FVec F S256x128 .f32) (v3487 : IVec S256x128 1) (v3488 : FVec F S1x128 .f32) :
    Quiet (F := F) o (k0_part23 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2616 v2620 v2647 v3455 v3457 v3480 v3481 v3485 v3487 v3488) (fun _ => True) := by
  rw [k0_part23_eq_skeleton]; unfold k0_part23_skel
  refine .load fun _ => ?_
  refine .store ?_
  refine .load fun _ => ?_
  refine .store ?_
  refine .slope fun _ => ?_
  exact .pure trivial

theorem part24_quiet (arg1 : BitVec 32) (v2618 : IVec S256x128 1) (v2620 : IVec S256x128 32) (v2653 : FVec F S256x128 .bf16) (v3455 : FVec F S256x128 .bf16) (v3457 : FVec F S256x128 .bf16) (v3524 : FVec F S1x128 .f32) (v3525 : FVec F S1x128 .f32) (v3529 : FVec F S256x128 .f32) (v3531 : IVec S256x128 1) (v3532 : FVec F S1x128 .f32) :
    Quiet (F := F) o (k0_part24 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 v2618 v2620 v2653 v3455 v3457 v3524 v3525 v3529 v3531 v3532) (fun _ => True) := by
  rw [k0_part24_eq_skeleton]; unfold k0_part24_skel
  refine .load fun _ => ?_
  refine .store ?_
  refine .load fun _ => ?_
  refine .store ?_
  refine .load fun _ => ?_
  refine .load fun _ => ?_
  refine .load fun _ => ?_
  refine .store ?_
  exact .pure trivial

theorem part25_quiet (arg1 : BitVec 32) (k0_h1 : k0_cond1 i = 1#1) (v2581 : IVec S256x128 1) (v2583 : IVec S256x128 32) (v2610 : FVec F S256x128 .f32) (v2616 : FVec F S256x128 .bf16) (v3555 : FVec F S256x128 .bf16) (v3557 : FVec F S256x128 .bf16) (v3567 : BitVec 32) :
    Quiet (F := F) o (k0_part25 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v3555 v3557 v3567) (fun _ => True) := by
  rw [k0_part25_eq_skeleton]; unfold k0_part25_skel
  refine .slope fun _ => ?_
  refine .load fun _ => ?_
  refine .store ?_
  refine .load fun _ => ?_
  refine .store ?_
  exact .pure trivial

theorem part26_quiet (k0_h1 : k0_cond1 i = 1#1) (v2618 : IVec S256x128 1) (v2620 : IVec S256x128 32) (v2647 : FVec F S256x128 .f32) (v2653 : FVec F S256x128 .bf16) (v3555 : FVec F S256x128 .bf16) (v3557 : FVec F S256x128 .bf16) (v3611 : BitVec 32) :
    Quiet (F := F) o (k0_part26 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 k0_h1 v2618 v2620 v2647 v2653 v3555 v3557 v3611) (fun _ => True) := by
  rw [k0_part26_eq_skeleton]; unfold k0_part26_skel
  refine .slope fun _ => ?_
  refine .load fun _ => ?_
  refine .store ?_
  refine .load fun _ => ?_
  refine .store ?_
  exact .pure trivial

theorem part27_quiet (arg1 : BitVec 32) (k0_h1 : k0_cond1 i = 1#1) (v2583 : IVec S256x128 32) (v2610 : FVec F S256x128 .f32) :
    Quiet (F := F) o (k0_part27 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2583 v2610) (fun _ => True) := by
  rw [k0_part27_eq_skeleton]; unfold k0_part27_skel
  refine .load fun _ => ?_
  refine .load fun _ => ?_
  refine .load fun _ => ?_
  refine .store ?_
  refine .slope fun _ => ?_
  exact .pure trivial

theorem part28_quiet (arg1 : BitVec 32) (k0_h1 : k0_cond1 i = 1#1) (v2581 : IVec S256x128 1) (v2583 : IVec S256x128 32) (v2616 : FVec F S256x128 .bf16) (v2620 : IVec S256x128 32) (v2647 : FVec F S256x128 .f32) (v3655 : FVec F S256x128 .bf16) (v3657 : FVec F S256x128 .bf16) (v3681 : FVec F S1x128 .f32) (v3695 : FVec F S256x128 .f32) (v3696 : IVec S256x128 32) :
    Quiet (F := F) o (k0_part28 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2616 v2620 v2647 v3655 v3657 v3681 v3695 v3696) (fun _ => True) := by
  rw [k0_part28_eq_skeleton]; unfold k0_part28_skel
  refine .load fun _ => ?_
  refine .store ?_
  refine .load fun _ => ?_
  refine .store ?_
  refine .slope fun _ => ?_
  exact .pure trivial

theorem part29_quiet (arg1 : BitVec 32) (k0_h1 : k0_cond1 i = 1#1) (v2618 : IVec S256x128 1) (v2620 : IVec S256x128 32) (v2653 : FVec F S256x128 .bf16) (v3655 : FVec F S256x128 .bf16) (v3657 : FVec F S256x128 .bf16) (v3725 : FVec F S1x128 .f32) (v3739 : FVec F S256x128 .f32) (v3740 : IVec S256x128 32) :
    Quiet (F := F) o (k0_part29 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2618 v2620 v2653 v3655 v3657 v3725 v3739 v3740) (fun _ => True) := by
  rw [k0_part29_eq_skeleton]; unfold k0_part29_skel
  refine .load fun _ => ?_
  refine .store ?_
  refine .load fun _ => ?_
  refine .store ?_
  refine .load fun _ => ?_
  refine .load fun _ => ?_
  refine .load fun _ => ?_
  refine .store ?_
  refine .slope fun _ => ?_
  exact .pure trivial

theorem part30_quiet (arg1 : BitVec 32) (k0_h1 : k0_cond1 i = 1#1) (v2581 : IVec S256x128 1) (v2583 : IVec S256x128 32) (v2610 : FVec F S256x128 .f32) (v2616 : FVec F S256x128 .bf16) (v3755 : FVec F S256x128 .bf16) (v3757 : FVec F S256x128 .bf16) (v3772 : FVec F S1x128 .bf16) (v3774 : FVec F S1x128 .f32) (v3775 : FVec F S1x128 .bf16) (v3776 : FVec F S1x128 .f32) :
    Quiet (F := F) o (k0_part30 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v3755 v3757 v3772 v3774 v3775 v3776) (fun _ => True) := by
  rw [k0_part30_eq_skeleton]; unfold k0_part30_skel
  refine .load fun _ => ?_
  refine .store ?_
  refine .load fun _ => ?_
  refine .store ?_
  refine .slope fun _ => ?_
  exact .pure trivial

theorem part31_quiet (v2618 : IVec S256x128 1) (v2620 : IVec S256x128 32) (v2647 : FVec F S256x128 .f32) (v2653 : FVec F S256x128 .bf16) (v3755 : FVec F S256x128 .bf16) (v3757 : FVec F S256x128 .bf16) (v3816 : FVec F S1x128 .bf16) (v3818 : FVec F S1x128 .f32) (v3819 : FVec F S1x128 .bf16) (v3820 : FVec F S1x128 .f32) :
    Quiet (F := F) o (k0_part31 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2618 v2620 v2647 v2653 v3755 v3757 v3816 v3818 v3819 v3820) (fun _ => True) := by
  rw [k0_part31_eq_skeleton]; unfold k0_part31_skel
  refine .load fun _ => ?_
  refine .store ?_
  refine .load fun _ => ?_
  refine .store ?_
  refine .load fun _ => ?_
  refine .load fun _ => ?_
  exact .pure trivial

theorem part32_quiet (arg1 : BitVec 32) (k0_h1 : k0_cond1 i = 1#1) (v2581 : IVec S256x128 1) (v2583 : IVec S256x128 32) (v2610 : FVec F S256x128 .f32) (v3855 : FVec F S256x128 .bf16) (v3858 : FVec F S256x128 .f32) :
    Quiet (F := F) o (k0_part32 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v3855 v3858) (fun _ => True) := by
  rw [k0_part32_eq_skeleton]; unfold k0_part32_skel
  refine .load fun _ => ?_
  refine .store ?_
  refine .slope fun _ => ?_
  refine .load fun _ => ?_
  exact .pure trivial

theorem part33_quiet (arg1 : BitVec 32) (k0_h1 : k0_cond1 i = 1#1) (v2581 : IVec S256x128 1) (v2616 : FVec F S256x128 .bf16) (v2618 : IVec S256x128 1) (v2620 : IVec S256x128 32) (v2647 : FVec F S256x128 .f32) (v3855 : FVec F S256x128 .bf16) (v3857 : FVec F S256x128 .bf16) (v3902 : FVec F S256x128 .bf16) (v3903 : Vec F S1x256x128 .bf16) :
    Quiet (F := F) o (k0_part33 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2616 v2618 v2620 v2647 v3855 v3857 v3902 v3903) (fun _ => True) := by
  rw [k0_part33_eq_skeleton]; unfold k0_part33_skel
  refine .store ?_
  refine .load fun _ => ?_
  refine .store ?_
  refine .slope fun _ => ?_
  refine .load fun _ => ?_
  exact .pure trivial

theorem part34_quiet (arg1 : BitVec 32) (k0_h1 : k0_cond1 i = 1#1) (v2583 : IVec S256x128 32) (v2618 : IVec S256x128 1) (v2653 : FVec F S256x128 .bf16) (v3857 : FVec F S256x128 .bf16) (v3946 : FVec F S256x128 .bf16) (v3947 : Vec F S1x256x128 .bf16) :
    Quiet (F := F) o (k0_part34 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2583 v2618 v2653 v3857 v3946 v3947) (fun _ => True) := by
  rw [k0_part34_eq_skeleton]; unfold k0_part34_skel
  refine .store ?_
  refine .load fun _ => ?_
  refine .store ?_
  refine .load fun _ => ?_
  refine .load fun _ => ?_
  refine .load fun _ => ?_
  refine .store ?_
  refine .slope fun _ => ?_
  exact .pure trivial

theorem part35_quiet (arg1 : BitVec 32) (k0_h1 : k0_cond1 i = 1#1) (v2581 : IVec S256x128 1) (v2583 : IVec S256x128 32) (v2610 : FVec F S256x128 .f32) (v2616 : FVec F S256x128 .bf16) (v2620 : IVec S256x128 32) (v3955 : FVec F S256x128 .bf16) (v3957 : FVec F S256x128 .bf16) (v3979 : FVec F S1x128 .f32) (v3980 : FVec F S1x128 .f32) (v3981 : FVec F S1x128 .f32) (v3983 : IVec S256x128 1) (v3984 : FVec F S256x128 .f32) :
    Quiet (F := F) o (k0_part35 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v2620 v3955 v3957 v3979 v3980 v3981 v3983 v3984) (fun _ => True) := by
  rw [k0_part35_eq_skeleton]; unfold k0_part35_skel
  refine .load fun _ => ?_
  refine .store ?_
  refine .load fun _ => ?_
  refine .store ?_
  refine .slope fun _ => ?_
  exact .pure trivial

theorem part36_quiet (v2618 : IVec S256x128 1) (v2620 : IVec S256x128 32) (v2647 : FVec F S256x128 .f32) (v2653 : FVec F S256x128 .bf16) (v3955 : FVec F S256x128 .bf16) (v3957 : FVec F S256x128 .bf16) (v4023 : FVec F S1x128 .f32) (v4024 : FVec F S1x128 .f32) (v4025 : FVec F S1x128 .f32) (v4027 : IVec S256x128 1) (v4028 : FVec F S256x128 .f32) :
    Quiet (F := F) o (k0_part36 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v2618 v2620 v2647 v2653 v3955 v3957 v4023 v4024 v4025 v4027 v4028) (fun _ => True) := by
  rw [k0_part36_eq_skeleton]; unfold k0_part36_skel
  refine .load fun _ => ?_
  refine .store ?_
  refine .load fun _ => ?_
  refine .store ?_
  refine .load fun _ => ?_
  refine .load fun _ => ?_
  refine .load fun _ => ?_
  exact .pure trivial

theorem part37_quiet (arg1 : BitVec 32) (k0_h1 : k0_cond1 i = 1#1) (v2581 : IVec S256x128 1) (v2583 : IVec S256x128 32) (v2610 : FVec F S256x128 .f32) (v2616 : FVec F S256x128 .bf16) (v4055 : FVec F S256x128 .bf16) (v4057 : FVec F S256x128 .bf16) (v4065 : FVec F S1x128 .f32) :
    Quiet (F := F) o (k0_part37 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2610 v2616 v4055 v4057 v4065) (fun _ => True) := by
  rw [k0_part37_eq_skeleton]; unfold k0_part37_skel
  refine .store ?_
  refine .slope fun _ => ?_
  refine .load fun _ => ?_
  refine .store ?_
  refine .load fun _ => ?_
  exact .pure trivial

theorem part38_quiet (arg1 : BitVec 32) (k0_h1 : k0_cond1 i = 1#1) (v2618 : IVec S256x128 1) (v2620 : IVec S256x128 32) (v2647 : FVec F S256x128 .f32) (v2653 : FVec F S256x128 .bf16) (v4055 : FVec F S256x128 .bf16) (v4057 : FVec F S256x128 .bf16) (v4109 : FVec F S1x256x128 .bf16) :
    Quiet (F := F) o (k0_part38 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2618 v2620 v2647 v2653 v4055 v4057 v4109) (fun _ => True) := by
  rw [k0_part38_eq_skeleton]; unfold k0_part38_skel
  refine .store ?_
  refine .slope fun _ => ?_
  refine .load fun _ => ?_
  refine .store ?_
  refine .load fun _ => ?_
  exact .pure trivial

theorem part39_quiet (arg1 : BitVec 32) (k0_h1 : k0_cond1 i = 1#1) (v2583 : IVec S256x128 32) (v2610 : FVec F S256x128 .f32) (v4153 : FVec F S1x256x128 .bf16) :
    Quiet (F := F) o (k0_part39 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2583 v2610 v4153) (fun _ => True) := by
  rw [k0_part39_eq_skeleton]; unfold k0_part39_skel
  refine .store ?_
  refine .load fun _ => ?_
  refine .load fun _ => ?_
  refine .load fun _ => ?_
  refine .store ?_
  refine .slope fun _ => ?_
  exact .pure trivial

theorem part40_quiet (arg1 : BitVec 32) (k0_h1 : k0_cond1 i = 1#1) (v2581 : IVec S256x128 1) (v2583 : IVec S256x128 32) (v2616 : FVec F S256x128 .bf16) (v2620 : IVec S256x128 32) (v2647 : FVec F S256x128 .f32) (v4155 : FVec F S256x128 .bf16) (v4157 : FVec F S256x128 .bf16) (v4180 : FVec F S1x128 .f32) (v4181 : FVec F S1x128 .f32) (v4190 : FVec F S256x128 .f32) (v4192 : IVec S256x128 1) :
    Quiet (F := F) o (k0_part40 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1 v2581 v2583 v2616 v2620 v2647 v4155 v4157 v4180 v4181 v4190 v4192) (fun _ => True) := by
  rw [k0_part40_eq_skeleton]; unfold k0_part40_skel
  refine .load fun _ => ?_
  refine .store ?_
  refine .load fun _ => ?_
  refine .store ?_
  refine .slope fun _ => ?_
  exact .pure trivial

theorem part41_quiet (arg1 : BitVec 32) (k0_h1 : k0_cond1 i = 1#1) :
    Quiet (F := F) o (k0_part41 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg1 k0_h1) (fun _ => True) := by
  rw [k0_part41_eq_skeleton]; unfold k0_part41_skel
  refine .bind (part1_quiet o i _ _) fun r _ => ?_
  refine .bind (part2_quiet o i _ _ _ _ _) fun r _ => ?_
  refine .bind (part3_quiet o i _ _ _ _ _ _ _) fun r _ => ?_
  refine .bind (part4_quiet o i _ _ _ _ _ _ _ _ _ _ _) fun r _ => ?_
  refine .bind (part5_quiet o i _ _ _ _ _ _ _ _) fun r _ => ?_
  refine .bind (part6_quiet o i _ _ _ _ _ _ _ _ _ _ _ _ _ _) fun r _ => ?_
  refine .bind (part7_quiet o i _ _ _ _ _ _ _ _ _ _ _) fun r _ => ?_
  refine .bind (part8_quiet o i _ _ _ _ _ _ _ _ _) fun r _ => ?_
  refine .bind (part9_quiet o i _ _ _ _ _ _ _ _ _) fun r _ => ?_
  refine .bind (part10_quiet o i _ _ _ _ _) fun r _ => ?_
  refine .bind (part11_quiet o i _ _ _ _ _ _ _ _ _ _ _ _ _) fun r _ => ?_
  refine .bind (part12_quiet o i _ _ _ _ _ _ _ _ _ _ _) fun r _ => ?_
  refine .bind (part13_quiet o i _ _ _ _ _ _ _ _ _) fun r _ => ?_
  refine .bind (part14_quiet o i _ _ _ _ _ _ _) fun r _ => ?_
  refine .bind (part15_quiet o i _ _ _ _ _) fun r _ => ?_
  refine .bind (part16_quiet o i _ _ _ _ _ _ _ _ _) fun r _ => ?_
  refine .bind (part17_quiet o i _ _ _ _ _ _ _) fun r _ => ?_
  refine .bind (part18_quiet o i _ _ _ _ _ _ _ _ _ _ _) fun r _ => ?_
  refine .bind (part19_quiet o i _ _ _ _ _ _ _ _ _) fun r _ => ?_
  refine .bind (part20_quiet o i _ _ _ _ _ _ _ _ _) fun r _ => ?_
  refine .bind (part21_quiet o i _ _ _ _ _ _ _ _ _) fun r _ => ?_
  refine .bind (part22_quiet o i _ _ _ _ _) fun r _ => ?_
  refine .bind (part23_quiet o i _ _ _ _ _ _ _ _ _ _ _ _ _ _) fun r _ => ?_
  refine .bind (part24_quiet o i _ _ _ _ _ _ _ _ _ _ _) fun r _ => ?_
  refine .bind (part25_quiet o i _ _ _ _ _ _ _ _ _) fun r _ => ?_
  refine .bind (part26_quiet o i _ _ _ _ _ _ _ _) fun r _ => ?_
  refine .bind (part27_quiet o i _ _ _ _) fun r _ => ?_
  refine .bind (part28_quiet o i _ _ _ _ _ _ _ _ _ _ _ _) fun r _ => ?_
  refine .bind (part29_quiet o i _ _ _ _ _ _ _ _ _ _) fun r _ => ?_
  refine .bind (part30_quiet o i _ _ _ _ _ _ _ _ _ _ _ _) fun r _ => ?_
  refine .bind (part31_quiet o i _ _ _ _ _ _ _ _ _ _) fun r _ => ?_
  refine .bind (part32_quiet o i _ _ _ _ _ _ _) fun r _ => ?_
  refine .bind (part33_quiet o i _ _ _ _ _ _ _ _ _ _ _) fun r _ => ?_
  refine .bind (part34_quiet o i _ _ _ _ _ _ _ _) fun r _ => ?_
  refine .bind (part35_quiet o i _ _ _ _ _ _ _ _ _ _ _ _ _ _) fun r _ => ?_
  refine .bind (part36_quiet o i _ _ _ _ _ _ _ _ _ _ _) fun r _ => ?_
  refine .bind (part37_quiet o i _ _ _ _ _ _ _ _ _) fun r _ => ?_
  refine .bind (part38_quiet o i _ _ _ _ _ _ _ _ _) fun r _ => ?_
  refine .bind (part39_quiet o i _ _ _ _ _) fun r _ => ?_
  refine .bind (part40_quiet o i _ _ _ _ _ _ _ _ _ _ _ _ _) fun r _ => ?_
  refine .load fun _ => ?_
  refine .store ?_
  exact .pure trivial

end Cert.AttnIdeal.Body

end
-- ==== Proof.AttnIdealQuietC.lean ====
/-
  The block-sparse half of the attention kernel's body leaves the stick-breaking half's buffers alone: the selection of blocks and the diagonal blocks.
  One statement a stretch of the body, by its memory operations in order.
-/
module

public import proofs.«01_k».proof.Proof.AttnIdealState
public import proofs.«01_k».proof.Proof.AttnIdealQuietA

@[expose] public section

set_option maxRecDepth 65536
set_option maxHeartbeats 4000000

noncomputable section

namespace Cert.AttnIdeal.Body

open Cert.AttnIdeal Cert.AttnIdeal.Gen
open Idealize.ShloMosaic Idealize.ShloMosaic.TcCoe Idealize.SL.Sem

variable {F : FTy → Type} [FloatOps F] [Named F] (o : Ops) (i : grid0.Coords)

theorem part76_quiet  :
    Quiet (F := F) o (k0_part76 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20) (fun r => r.1 = BitVec.ofNat 32 (i 2).val ∧ r.2.2.2.1 = iota .tc S2048x128 32 [1] iota_S2048x128_d1_w32) := by
  rw [k0_part76_eq_skeleton]; unfold k0_part76_skel
  refine Quiet.dite (fun _ => ?_) (fun _ => ?_)
  · refine .bind (part41_quiet o i _ _) fun r _ => ?_
    refine .load fun _ => ?_
    refine .store ?_
    refine .load fun _ => ?_
    refine .load fun _ => ?_
    exact .pure ⟨rfl, rfl⟩
  · refine .load fun _ => ?_
    refine .load fun _ => ?_
    exact .pure ⟨rfl, rfl⟩

theorem part77_quiet (v4 : FVec F S2048x128 .bf16) (v8 : Vec F S16x128 .f32) (v9 : IVec S16x128 32) (v10 : IVec S16x2048 32) (v38 : IVec S16x2048 32) :
    Quiet (F := F) o (k0_part77 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v4 v8 v9 v10 v38) (fun _ => True) := by
  rw [k0_part77_eq_skeleton]; unfold k0_part77_skel
  exact .pure trivial

theorem part78_quiet (v10 : IVec S16x2048 32) (v38 : IVec S16x2048 32) (v57 : FVec F S16x2048 .f32) (v58 : FVec F S16x2048 .f32) (v76 : IVec S1x2048 32) (v81 : IVec S1x2048 1) (c0_i32_25 : BitVec 32) :
    Quiet (F := F) o (k0_part78 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v58 v76 v81 c0_i32_25) (fun _ => True) := by
  rw [k0_part78_eq_skeleton]; unfold k0_part78_skel
  exact .pure trivial

theorem part79_quiet (v10 : IVec S16x2048 32) (v38 : IVec S16x2048 32) (v57 : FVec F S16x2048 .f32) (v122 : FVec F S16x2048 .f32) (v123 : FVec F S1x2048 .f32) (v125 : IVec S16x2048 1) (cst_40 : F .f32) (v126 : FVec F S16x2048 .f32) :
    Quiet (F := F) o (k0_part79 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v122 v123 v125 cst_40 v126) (fun _ => True) := by
  rw [k0_part79_eq_skeleton]; unfold k0_part79_skel
  exact .pure trivial

theorem part80_quiet (v10 : IVec S16x2048 32) (v38 : IVec S16x2048 32) (v57 : FVec F S16x2048 .f32) (v154 : FVec F S16x2048 .f32) (v171 : FVec F S1x2048 .f32) :
    Quiet (F := F) o (k0_part80 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v154 v171) (fun _ => True) := by
  rw [k0_part80_eq_skeleton]; unfold k0_part80_skel
  exact .pure trivial

theorem part81_quiet (v10 : IVec S16x2048 32) (v38 : IVec S16x2048 32) (v57 : FVec F S16x2048 .f32) (v186 : FVec F S16x2048 .f32) (v216 : IVec S16x2048 1) :
    Quiet (F := F) o (k0_part81 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v186 v216) (fun _ => True) := by
  rw [k0_part81_eq_skeleton]; unfold k0_part81_skel
  exact .pure trivial

theorem part82_quiet (v10 : IVec S16x2048 32) (v38 : IVec S16x2048 32) (v57 : FVec F S16x2048 .f32) (v250 : FVec F S16x2048 .f32) (v256 : FVec F S16x2048 .f32) (v261 : IVec S16x2048 1) :
    Quiet (F := F) o (k0_part82 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v250 v256 v261) (fun _ => True) := by
  rw [k0_part82_eq_skeleton]; unfold k0_part82_skel
  exact .pure trivial

theorem part83_quiet (v10 : IVec S16x2048 32) (v38 : IVec S16x2048 32) (v57 : FVec F S16x2048 .f32) (v282 : FVec F S16x2048 .f32) (v300 : IVec S1x2048 32) (v305 : IVec S1x2048 1) :
    Quiet (F := F) o (k0_part83 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v282 v300 v305) (fun _ => True) := by
  rw [k0_part83_eq_skeleton]; unfold k0_part83_skel
  exact .pure trivial

theorem part84_quiet (v10 : IVec S16x2048 32) (v38 : IVec S16x2048 32) (v57 : FVec F S16x2048 .f32) (v346 : FVec F S16x2048 .f32) (v347 : FVec F S1x2048 .f32) (v349 : IVec S16x2048 1) (cst_110 : F .f32) (cst_111 : F .f32) :
    Quiet (F := F) o (k0_part84 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v346 v347 v349 cst_110 cst_111) (fun _ => True) := by
  rw [k0_part84_eq_skeleton]; unfold k0_part84_skel
  exact .pure trivial

theorem part85_quiet (v10 : IVec S16x2048 32) (v38 : IVec S16x2048 32) (v57 : FVec F S16x2048 .f32) (v378 : FVec F S16x2048 .f32) (v394 : FVec F S2048 .f32) :
    Quiet (F := F) o (k0_part85 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v378 v394) (fun _ => True) := by
  rw [k0_part85_eq_skeleton]; unfold k0_part85_skel
  exact .pure trivial

theorem part86_quiet (v10 : IVec S16x2048 32) (v38 : IVec S16x2048 32) (v57 : FVec F S16x2048 .f32) (v410 : FVec F S16x2048 .f32) (v438 : IVec S16x2048 1) (v439 : IVec S16x2048 1) :
    Quiet (F := F) o (k0_part86 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v410 v438 v439) (fun _ => True) := by
  rw [k0_part86_eq_skeleton]; unfold k0_part86_skel
  exact .pure trivial

theorem part87_quiet (v10 : IVec S16x2048 32) (v38 : IVec S16x2048 32) (v57 : FVec F S16x2048 .f32) (v474 : FVec F S16x2048 .f32) (v480 : FVec F S16x2048 .f32) (v482 : IVec S16x2048 1) (v484 : IVec S16x2048 1) :
    Quiet (F := F) o (k0_part87 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v474 v480 v482 v484) (fun _ => True) := by
  rw [k0_part87_eq_skeleton]; unfold k0_part87_skel
  exact .pure trivial

theorem part88_quiet (v10 : IVec S16x2048 32) (v38 : IVec S16x2048 32) (v57 : FVec F S16x2048 .f32) (v506 : FVec F S16x2048 .f32) (v524 : IVec S1x2048 32) (v526 : IVec S1x2048 1) (v528 : IVec S1x2048 1) :
    Quiet (F := F) o (k0_part88 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v57 v506 v524 v526 v528) (fun _ => True) := by
  rw [k0_part88_eq_skeleton]; unfold k0_part88_skel
  exact .pure trivial

theorem part89_quiet (v4 : FVec F S2048x128 .bf16) (v6 : FVec F S2048x128 .bf16) (v7 : IVec S2048x128 32) (v8 : Vec F S16x128 .f32) (v9 : IVec S16x128 32) (v10 : IVec S16x2048 32) (v38 : IVec S16x2048 32) (v39 : IVec S128x2048 32) (v570 : FVec F S16x2048 .f32) (v571 : FVec F S48x2048 .f32) (v572 : FVec F S64x2048 .f32) :
    Quiet (F := F) o (k0_part89 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v4 v6 v7 v8 v9 v10 v38 v39 v570 v571 v572) (fun _ => True) := by
  rw [k0_part89_eq_skeleton]; unfold k0_part89_skel
  refine .load fun _ => ?_
  refine .store ?_
  exact .pure trivial

theorem part90_quiet (v10 : IVec S16x2048 32) (v38 : IVec S16x2048 32) (v608 : FVec F S16x2048 .f32) (v609 : FVec F S16x2048 .f32) (v610 : FVec F S1x2048 .f32) (v612 : IVec S16x2048 1) (cst_196 : F .f32) (v613 : FVec F S16x2048 .f32) :
    Quiet (F := F) o (k0_part90 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v609 v610 v612 cst_196 v613) (fun _ => True) := by
  rw [k0_part90_eq_skeleton]; unfold k0_part90_skel
  exact .pure trivial

theorem part91_quiet (v10 : IVec S16x2048 32) (v38 : IVec S16x2048 32) (v608 : FVec F S16x2048 .f32) (v641 : FVec F S16x2048 .f32) (v658 : FVec F S1x2048 .f32) :
    Quiet (F := F) o (k0_part91 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v641 v658) (fun _ => True) := by
  rw [k0_part91_eq_skeleton]; unfold k0_part91_skel
  exact .pure trivial

theorem part92_quiet (v10 : IVec S16x2048 32) (v38 : IVec S16x2048 32) (v608 : FVec F S16x2048 .f32) (v673 : FVec F S16x2048 .f32) (v703 : IVec S16x2048 1) :
    Quiet (F := F) o (k0_part92 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v673 v703) (fun _ => True) := by
  rw [k0_part92_eq_skeleton]; unfold k0_part92_skel
  exact .pure trivial

theorem part93_quiet (v10 : IVec S16x2048 32) (v38 : IVec S16x2048 32) (v608 : FVec F S16x2048 .f32) (v737 : FVec F S16x2048 .f32) (v743 : FVec F S16x2048 .f32) (v748 : IVec S16x2048 1) :
    Quiet (F := F) o (k0_part93 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v737 v743 v748) (fun _ => True) := by
  rw [k0_part93_eq_skeleton]; unfold k0_part93_skel
  exact .pure trivial

theorem part94_quiet (v10 : IVec S16x2048 32) (v38 : IVec S16x2048 32) (v608 : FVec F S16x2048 .f32) (v769 : FVec F S16x2048 .f32) (v787 : IVec S1x2048 32) (v792 : IVec S1x2048 1) :
    Quiet (F := F) o (k0_part94 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v769 v787 v792) (fun _ => True) := by
  rw [k0_part94_eq_skeleton]; unfold k0_part94_skel
  exact .pure trivial

theorem part95_quiet (v10 : IVec S16x2048 32) (v38 : IVec S16x2048 32) (v608 : FVec F S16x2048 .f32) (v833 : FVec F S16x2048 .f32) (v834 : FVec F S1x2048 .f32) (v836 : IVec S16x2048 1) (cst_272 : F .f32) (cst_273 : F .f32) :
    Quiet (F := F) o (k0_part95 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v833 v834 v836 cst_272 cst_273) (fun _ => True) := by
  rw [k0_part95_eq_skeleton]; unfold k0_part95_skel
  exact .pure trivial

theorem part96_quiet (v10 : IVec S16x2048 32) (v38 : IVec S16x2048 32) (v608 : FVec F S16x2048 .f32) (v865 : FVec F S16x2048 .f32) (v881 : FVec F S2048 .f32) :
    Quiet (F := F) o (k0_part96 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v865 v881) (fun _ => True) := by
  rw [k0_part96_eq_skeleton]; unfold k0_part96_skel
  exact .pure trivial

theorem part97_quiet (v10 : IVec S16x2048 32) (v38 : IVec S16x2048 32) (v608 : FVec F S16x2048 .f32) (v897 : FVec F S16x2048 .f32) (v925 : IVec S16x2048 1) (v926 : IVec S16x2048 1) :
    Quiet (F := F) o (k0_part97 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v897 v925 v926) (fun _ => True) := by
  rw [k0_part97_eq_skeleton]; unfold k0_part97_skel
  exact .pure trivial

theorem part98_quiet (v10 : IVec S16x2048 32) (v38 : IVec S16x2048 32) (v608 : FVec F S16x2048 .f32) (v961 : FVec F S16x2048 .f32) (v967 : FVec F S16x2048 .f32) (v969 : IVec S16x2048 1) (v971 : IVec S16x2048 1) :
    Quiet (F := F) o (k0_part98 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v961 v967 v969 v971) (fun _ => True) := by
  rw [k0_part98_eq_skeleton]; unfold k0_part98_skel
  exact .pure trivial

theorem part99_quiet (v10 : IVec S16x2048 32) (v38 : IVec S16x2048 32) (v608 : FVec F S16x2048 .f32) (v993 : FVec F S16x2048 .f32) (v1011 : IVec S1x2048 32) (v1013 : IVec S1x2048 1) (v1015 : IVec S1x2048 1) :
    Quiet (F := F) o (k0_part99 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v993 v1011 v1013 v1015) (fun _ => True) := by
  rw [k0_part99_eq_skeleton]; unfold k0_part99_skel
  exact .pure trivial

theorem part100_quiet (v10 : IVec S16x2048 32) (v38 : IVec S16x2048 32) (v608 : FVec F S16x2048 .f32) (v1057 : FVec F S16x2048 .f32) (v1058 : FVec F S1x2048 .f32) (v1060 : IVec S16x2048 1) (cst_349 : F .f32) :
    Quiet (F := F) o (k0_part100 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v10 v38 v608 v1057 v1058 v1060 cst_349) (fun _ => True) := by
  rw [k0_part100_eq_skeleton]; unfold k0_part100_skel
  exact .pure trivial

theorem part101_quiet (v6 : FVec F S2048x128 .bf16) (v7 : IVec S2048x128 32) (v10 : IVec S16x2048 32) (v38 : IVec S16x2048 32) (v39 : IVec S128x2048 32) (v1089 : FVec F S16x2048 .f32) (v1104 : FVec F S16x2048 .f32) :
    Quiet (F := F) o (k0_part101 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v6 v7 v10 v38 v39 v1089 v1104) (fun _ => True) := by
  rw [k0_part101_eq_skeleton]; unfold k0_part101_skel
  refine .load fun _ => ?_
  refine .store ?_
  refine .load fun _ => ?_
  refine .store ?_
  exact .pure trivial

theorem part102_quiet (arg2 : BitVec 32) :
    Quiet (F := F) o (k0_part102 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2) (fun _ => True) := by
  rw [k0_part102_eq_skeleton]; unfold k0_part102_skel
  refine .load fun _ => ?_
  refine .store ?_
  refine .load fun _ => ?_
  refine .load fun _ => ?_
  refine .load fun _ => ?_
  refine .load fun _ => ?_
  refine .load fun _ => ?_
  exact .pure trivial

theorem part103_quiet (v1151 : IVec S256x256 1) (v1155 : BitVec 32) (v1161 : FVec F S256x128 .bf16) (v1172 : FVec F S256x128 .f32) (v1177 : FVec F S256x256 .f32) (v1180 : FVec F S256x128 .f32) :
    Quiet (F := F) o (k0_part103 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1155 v1161 v1172 v1177 v1180) (fun _ => True) := by
  rw [k0_part103_eq_skeleton]; unfold k0_part103_skel
  refine .load fun _ => ?_
  refine .store ?_
  refine .load fun _ => ?_
  refine .store ?_
  refine .load fun _ => ?_
  refine .load fun _ => ?_
  refine .load fun _ => ?_
  refine .load fun _ => ?_
  refine .load fun _ => ?_
  exact .pure trivial

theorem part104_quiet (arg2 : BitVec 32) (v1151 : IVec S256x256 1) (v1195 : FVec F S256x128 .bf16) (v1206 : FVec F S256x128 .f32) (v1214 : FVec F S256x128 .f32) (v1215 : FVec F S256x256 .bf16) :
    Quiet (F := F) o (k0_part104 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1151 v1195 v1206 v1214 v1215) (fun _ => True) := by
  rw [k0_part104_eq_skeleton]; unfold k0_part104_skel
  refine .load fun _ => ?_
  refine .store ?_
  refine .load fun _ => ?_
  refine .store ?_
  refine .load fun _ => ?_
  refine .load fun _ => ?_
  refine .load fun _ => ?_
  refine .load fun _ => ?_
  exact .pure trivial

theorem part105_quiet (v1151 : IVec S256x256 1) (v1227 : BitVec 32) (v1233 : FVec F S256x128 .bf16) (v1241 : FVec F S512x256 .f32) (v1247 : FVec F S512x128 .f32) (v1249 : FVec F S512x128 .f32) (v1250 : FVec F S512x256 .f32) :
    Quiet (F := F) o (k0_part105 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1227 v1233 v1241 v1247 v1249 v1250) (fun _ => True) := by
  rw [k0_part105_eq_skeleton]; unfold k0_part105_skel
  refine .load fun _ => ?_
  refine .load fun _ => ?_
  refine .store ?_
  refine .load fun _ => ?_
  refine .store ?_
  refine .load fun _ => ?_
  refine .load fun _ => ?_
  refine .load fun _ => ?_
  refine .load fun _ => ?_
  exact .pure trivial

theorem part106_quiet (arg2 : BitVec 32) (v1151 : IVec S256x256 1) (v1270 : FVec F S256x128 .bf16) (v1278 : FVec F S512x256 .f32) (v1284 : FVec F S512x128 .f32) (v1285 : FVec F S512x128 .f32) :
    Quiet (F := F) o (k0_part106 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1151 v1270 v1278 v1284 v1285) (fun _ => True) := by
  rw [k0_part106_eq_skeleton]; unfold k0_part106_skel
  refine .load fun _ => ?_
  refine .load fun _ => ?_
  refine .store ?_
  refine .load fun _ => ?_
  refine .store ?_
  refine .load fun _ => ?_
  refine .load fun _ => ?_
  refine .load fun _ => ?_
  exact .pure trivial

theorem part107_quiet (v1151 : IVec S256x256 1) (v1305 : BitVec 32) (v1311 : FVec F S256x128 .bf16) (v1319 : FVec F S768x256 .f32) :
    Quiet (F := F) o (k0_part107 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1305 v1311 v1319) (fun _ => True) := by
  rw [k0_part107_eq_skeleton]; unfold k0_part107_skel
  refine .load fun _ => ?_
  refine .load fun _ => ?_
  refine .load fun _ => ?_
  refine .store ?_
  refine .load fun _ => ?_
  refine .store ?_
  refine .load fun _ => ?_
  refine .load fun _ => ?_
  refine .load fun _ => ?_
  exact .pure trivial

theorem part108_quiet (arg2 : BitVec 32) (v1348 : FVec F S256x128 .bf16) (v1356 : FVec F S768x256 .f32) :
    Quiet (F := F) o (k0_part108 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1348 v1356) (fun _ => True) := by
  rw [k0_part108_eq_skeleton]; unfold k0_part108_skel
  refine .load fun _ => ?_
  refine .load fun _ => ?_
  refine .load fun _ => ?_
  refine .store ?_
  refine .load fun _ => ?_
  refine .store ?_
  refine .load fun _ => ?_
  refine .load fun _ => ?_
  refine .load fun _ => ?_
  exact .pure trivial

theorem part109_quiet (v1151 : IVec S256x256 1) (v1383 : BitVec 32) (v1386 : FVec F S256x128 .bf16) (v1389 : FVec F S256x128 .bf16) (v1390 : Vec F S1x1024x128 .bf16) :
    Quiet (F := F) o (k0_part109 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1383 v1386 v1389 v1390) (fun _ => True) := by
  rw [k0_part109_eq_skeleton]; unfold k0_part109_skel
  refine .load fun _ => ?_
  refine .load fun _ => ?_
  refine .load fun _ => ?_
  refine .store ?_
  refine .load fun _ => ?_
  refine .store ?_
  refine .load fun _ => ?_
  refine .load fun _ => ?_
  exact .pure trivial

theorem part110_quiet (arg2 : BitVec 32) (v1151 : IVec S256x256 1) (v1423 : FVec F S256x128 .bf16) (v1426 : FVec F S256x128 .bf16) :
    Quiet (F := F) o (k0_part110 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1151 v1423 v1426) (fun _ => True) := by
  rw [k0_part110_eq_skeleton]; unfold k0_part110_skel
  refine .load fun _ => ?_
  refine .load fun _ => ?_
  refine .load fun _ => ?_
  refine .load fun _ => ?_
  refine .store ?_
  refine .load fun _ => ?_
  refine .store ?_
  exact .pure trivial

theorem part111_quiet (v1151 : IVec S256x256 1) (v1461 : BitVec 32) :
    Quiet (F := F) o (k0_part111 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1461) (fun _ => True) := by
  rw [k0_part111_eq_skeleton]; unfold k0_part111_skel
  refine .load fun _ => ?_
  refine .load fun _ => ?_
  refine .load fun _ => ?_
  refine .load fun _ => ?_
  refine .load fun _ => ?_
  refine .load fun _ => ?_
  refine .store ?_
  refine .load fun _ => ?_
  refine .store ?_
  exact .pure trivial

theorem part112_quiet (v1151 : IVec S256x256 1) (v1461 : BitVec 32) :
    Quiet (F := F) o (k0_part112 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1461) (fun _ => True) := by
  rw [k0_part112_eq_skeleton]; unfold k0_part112_skel
  refine .load fun _ => ?_
  refine .load fun _ => ?_
  refine .load fun _ => ?_
  refine .load fun _ => ?_
  refine .load fun _ => ?_
  refine .load fun _ => ?_
  refine .store ?_
  refine .load fun _ => ?_
  exact .pure trivial

theorem part113_quiet (arg2 : BitVec 32) (v1151 : IVec S256x256 1) (v1535 : FVec F S1x1280x128 .f32) :
    Quiet (F := F) o (k0_part113 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1151 v1535) (fun _ => True) := by
  rw [k0_part113_eq_skeleton]; unfold k0_part113_skel
  refine .store ?_
  refine .load fun _ => ?_
  refine .load fun _ => ?_
  refine .load fun _ => ?_
  refine .load fun _ => ?_
  refine .load fun _ => ?_
  refine .load fun _ => ?_
  exact .pure trivial

theorem part114_quiet (v1151 : IVec S256x256 1) (v1539 : BitVec 32) (v1559 : FVec F S1536x128 .f32) (v1570 : FVec F S1536x128 .f32) (v1571 : Vec F S1x1536x128 .f32) :
    Quiet (F := F) o (k0_part114 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1539 v1559 v1570 v1571) (fun _ => True) := by
  rw [k0_part114_eq_skeleton]; unfold k0_part114_skel
  refine .store ?_
  refine .load fun _ => ?_
  refine .store ?_
  refine .load fun _ => ?_
  refine .load fun _ => ?_
  refine .load fun _ => ?_
  refine .load fun _ => ?_
  refine .load fun _ => ?_
  exact .pure trivial

theorem part115_quiet (arg2 : BitVec 32) (v1151 : IVec S256x256 1) (v1596 : FVec F S1536x128 .f32) (v1607 : FVec F S1536x128 .f32) :
    Quiet (F := F) o (k0_part115 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1151 v1596 v1607) (fun _ => True) := by
  rw [k0_part115_eq_skeleton]; unfold k0_part115_skel
  refine .load fun _ => ?_
  refine .store ?_
  refine .load fun _ => ?_
  refine .store ?_
  refine .load fun _ => ?_
  refine .load fun _ => ?_
  refine .load fun _ => ?_
  refine .load fun _ => ?_
  exact .pure trivial

theorem part116_quiet (v1151 : IVec S256x256 1) (v1617 : BitVec 32) (v1623 : FVec F S256x128 .bf16) (v1637 : FVec F S1792x128 .f32) (v1639 : FVec F S1792x128 .f32) (v1642 : FVec F S1792x256 .f32) :
    Quiet (F := F) o (k0_part116 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1617 v1623 v1637 v1639 v1642) (fun _ => True) := by
  rw [k0_part116_eq_skeleton]; unfold k0_part116_skel
  refine .load fun _ => ?_
  refine .load fun _ => ?_
  refine .store ?_
  refine .load fun _ => ?_
  refine .store ?_
  refine .load fun _ => ?_
  refine .load fun _ => ?_
  refine .load fun _ => ?_
  refine .load fun _ => ?_
  exact .pure trivial

theorem part117_quiet (arg2 : BitVec 32) (v1151 : IVec S256x256 1) (v1660 : FVec F S256x128 .bf16) (v1674 : FVec F S1792x128 .f32) (v1676 : FVec F S1792x128 .f32) (v1679 : FVec F S1792x256 .f32) :
    Quiet (F := F) o (k0_part117 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v1151 v1660 v1674 v1676 v1679) (fun _ => True) := by
  rw [k0_part117_eq_skeleton]; unfold k0_part117_skel
  refine .load fun _ => ?_
  refine .load fun _ => ?_
  refine .store ?_
  refine .load fun _ => ?_
  refine .store ?_
  refine .load fun _ => ?_
  refine .load fun _ => ?_
  refine .load fun _ => ?_
  refine .load fun _ => ?_
  exact .pure trivial

theorem part118_quiet (v1151 : IVec S256x256 1) (v1695 : BitVec 32) (v1701 : FVec F S256x128 .bf16) (v1709 : FVec F S2048x256 .f32) (v1711 : FVec F S2048x128 .f32) (v1712 : FVec F S2048 .f32) :
    Quiet (F := F) o (k0_part118 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 v1151 v1695 v1701 v1709 v1711 v1712) (fun _ => True) := by
  rw [k0_part118_eq_skeleton]; unfold k0_part118_skel
  refine .load fun _ => ?_
  refine .load fun _ => ?_
  refine .store ?_
  refine .load fun _ => ?_
  refine .store ?_
  refine .load fun _ => ?_
  refine .load fun _ => ?_
  refine .load fun _ => ?_
  refine .load fun _ => ?_
  exact .pure trivial

end Cert.AttnIdeal.Body

end
-- ==== Proof.AttnIdealRun.lean ====
/-
  The attention kernel's whole body: the walk over earlier blocks of keys as a recursion with the number of blocks left, its
  specification, and what one run of the body leaves in the stick-breaking result block (`sbAll`).
-/
module

public import proofs.«01_k».proof.Proof.AttnIdealSb
public import proofs.«01_k».proof.Proof.AttnIdealQuietB
public import proofs.«01_k».proof.Proof.AttnIdealQuietC
public import Idealize.ShloMosaic.Lib.WordCmp

@[expose] public section

set_option maxRecDepth 65536
set_option maxHeartbeats 4000000

noncomputable section

namespace Cert.AttnIdeal.Body

open Cert.AttnIdeal Cert.AttnIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The walk -/

/-- A block of keys among the sixteen is in bounds. -/
theorem chk_of_lt : ∀ j : Fin 16, k0_chk1 (BitVec.ofNat 32 j.val) := by decide

/-- Whether the walk of row block `k0_t3` goes on at block `j` of keys. -/
def goes (k0_t3 : Fin k0_t3_loop.trips) (j : BitVec 32) (s : Sb F) : Prop :=
  Scalar.andi (Scalar.cmpi .sge j 0#32) (Scalar.cmpf .ole (k0_pay2 (VecWindow.window s.c (k0_off10 k0_t3) S2x256x1.size (k0_off10_inb k0_t3))) (Named.named κ "dead" 0x42D20000#32)) = 1#1

instance (k0_t3 : Fin k0_t3_loop.trips) (j : BitVec 32) (s : Sb F) : Decidable (goes k0_t3 j s) := by unfold goes; infer_instance

/-- One step of the walk. -/
def trip (X : Ins F) (i : grid0.Coords) (k0_t3 : Fin k0_t3_loop.trips) (v1802 : FVec F S256x256 .bf16) (j : BitVec 32) (h : k0_chk1 j) (s : Sb F) : Sb F :=
  let r := sb142 X i k0_t3 v1802 j (Scalar.muli (Scf.iv 0#32 1#32 k0_t3) 256#32) h s
  let r' := sb143 X i k0_t3 v1802 j (Scalar.muli (Scf.iv 0#32 1#32 k0_t3) 256#32) r.1.1 r.1.2.1 r.1.2.2 r.2
  { r'.2 with c := VecWindow.put r'.2.c (k0_off15 k0_t3) S1x256x1.size (k0_pay3 r'.1) }

/-- At most `n` steps of the walk from block `j` of keys downwards: where it stops and what it leaves. -/
def walk (X : Ins F) (i : grid0.Coords) (k0_t3 : Fin k0_t3_loop.trips) (v1802 : FVec F S256x256 .bf16) : ℕ → BitVec 32 → Sb F → BitVec 32 × Sb F
  | 0, j, s => (j, s)
  | n + 1, j, s => if goes k0_t3 j s then (if h : k0_chk1 j then walk X i k0_t3 v1802 n (Scalar.subi j 1#32) (trip X i k0_t3 v1802 j h s) else (j, s)) else (j, s)

theorem nonneg_of_goes {k0_t3 : Fin k0_t3_loop.trips} {j : BitVec 32} {s : Sb F} (h : goes k0_t3 j s) : 0 ≤ j.toInt := by
  unfold goes at h
  by_contra hn
  have : Scalar.cmpi .sge j 0#32 = 0#1 := by
    show IntOp.cmpi .sge j 0#32 = 0#1
    have h0 : (0#32 : BitVec 32).toInt = 0 := by decide
    rw [WordCmp.cmpi_sge_eq, h0, decide_eq_false hn]; rfl
  rw [this] at h
  have z : ∀ b : BitVec 1, Scalar.andi 0#1 b = 0#1 := by decide
  rw [z] at h
  exact absurd h (by decide)

theorem chk_of_goes {k0_t3 : Fin k0_t3_loop.trips} {j : BitVec 32} {s : Sb F} (h : goes k0_t3 j s) (hj : j.toInt < 16) : k0_chk1 j := by
  have h0 := nonneg_of_goes h
  have hlt := j.isLt
  have hn : j.toNat < 16 := by rw [BitVec.toInt_eq_toNat_cond] at h0 hj; split at h0 <;> omega
  have e : BitVec.ofNat 32 j.toNat = j := by simp
  rw [← e]; exact chk_of_lt ⟨j.toNat, hn⟩

theorem pred_toInt {j : BitVec 32} (h0 : 0 ≤ j.toInt) : (Scalar.subi j 1#32).toInt = j.toInt - 1 := by
  have hlt := j.isLt
  rw [BitVec.toInt_eq_toNat_cond] at h0
  show (j - 1#32).toInt = _
  have h1 : (1#32 : BitVec 32).toInt = 1 := by decide
  rw [BitVec.toInt_sub, h1]
  rw [BitVec.toInt_eq_toNat_cond, Int.bmod_def]
  split at h0 <;> split <;> omega

variable (o : Ops) (d : Dev nD) (X : Ins F) (i : grid0.Coords)

/-- A call, through the run of the callee's body at a smaller variant. -/
theorem Runs.call {bd : Option Variants.nat.V} {ℓ : (Λ₀ F).Label} {a : (Λ₀ F).Args ℓ} {s : Sb F} {r : (Λ₀ F).Result ℓ × Sb F} (v : ℕ) (hv : ∀ u ∈ bd, v < u)
    (h : Runs o d (some v) X (defs₀ (F := F) .tc ℓ a) s r) : Runs o d bd X (Prog.lift (.call ℓ a)) s r := by
  intro m Q
  show _ ⊢ wp _ _ _ (Prog.op (TpuEff.call ℓ a) Prog.ret) Q
  refine BIBase.Entails.trans ?_ (wp_call (defs := defs₀ (F := F)) Variants.nat (d : Thread nD τ) bd Set.univ v hv)
  refine BIBase.Entails.trans ?_ (h m _)
  iintro ⟨H, HQ⟩
  isplitl [H]; · iexact H
  iintro %m' H
  rw [wp_ret]
  imodintro
  iapply HQ; iexact H

theorem Runs.ite {α : Type} {bd : Option Variants.nat.V} {c : Prop} [Decidable c] {p q : Prog (TpuEff nD τ sig (Elt F) (Λ₀ F) .tc) α} {s : Sb F} {r r' : α × Sb F}
    (hp : c → Runs o d bd X p s r) (hq : ¬ c → Runs o d bd X q s r') : Runs o d bd X (if c then p else q) s (if c then r else r') := by
  by_cases h : c
  · rw [if_pos h, if_pos h]; exact hp h
  · rw [if_neg h, if_neg h]; exact hq h

/-- The walk's label, called with at most `n` steps to go. -/
theorem walk_runs (k0_t3 : Fin k0_t3_loop.trips) (v1802 : FVec F S256x256 .bf16) :
    ∀ (n : ℕ), n ≤ 16 → ∀ (j : BitVec 32) (s : Sb F), j.toInt < n →
      Runs o d (some n) X (defs₀ (F := F) .tc 1 ⟨i, k0_t3, o.a14, o.h14, o.a5, o.h5, o.a6, o.h6, o.a12, o.h12, v1802, o.a13, o.h13, j⟩) s (walk X i k0_t3 v1802 n j s) := by
  intro n
  induction n with
  | zero =>
    intro hn j s hj
    show Runs o d _ X (cc0_while1 i k0_t3 o.a14 o.h14 o.a5 o.h5 o.a6 o.h6 o.a12 o.h12 v1802 o.a13 o.h13 j) s _
    rw [cc0_while1_eq_skeleton]; unfold cc0_while1_skel
    refine .load fun _ => ?_
    have hg : ¬ goes k0_t3 j s := fun h => by have := nonneg_of_goes h; omega
    refine Eq.subst (motive := fun r => Runs o d (some 0) X _ s r) (if_neg hg) (Runs.ite (c := goes k0_t3 j s) (r := (j, s)) o d X (fun h => absurd h hg) fun _ => ?_)
    exact .pure _ _
  | succ n ih =>
    intro hn j s hj
    show Runs o d _ X (cc0_while1 i k0_t3 o.a14 o.h14 o.a5 o.h5 o.a6 o.h6 o.a12 o.h12 v1802 o.a13 o.h13 j) s _
    rw [cc0_while1_eq_skeleton]; unfold cc0_while1_skel
    refine .load fun _ => ?_
    rw [walk]
    refine Runs.ite (c := goes k0_t3 j s) o d X (fun h => ?_) fun _ => ?_
    · have hc := chk_of_goes h (by omega)
      have h0 := nonneg_of_goes h
      rw [dif_pos hc]
      refine .bind (part142_runs o d _ X i k0_t3 v1802 j _ hc s) ?_
      refine .bind (part143_runs o d _ X i k0_t3 v1802 j _ _ _ _ _) ?_
      refine .store ?_
      refine Runs.call o d X n (fun u hu => by cases hu; exact Nat.lt_succ_self n) ?_
      exact ih (by omega) _ _ (by rw [pred_toInt h0]; push_cast at hj; omega)
    · exact .pure _ _

/-! ## The body -/

/-- What the last diagonal unit and the unit of the block before the first row leave. -/
def sb140 (arg2 : BitVec 32) (v1802 : FVec F S256x256 .bf16) (v2499 : FVec F S1024x1 .f32) (v2520 : FVec F S512x1 .f32) (v2532 : FVec F S1x512x128 .f32) (s : Sb F) : Sb F :=
  let s : Sb F := { s with acc := VecWindow.put s.acc ![1, 0, 0] S1x512x128.size v2532 }
  let s : Sb F := { s with c := VecWindow.put s.c ![1, 0, 0] S1x512x1.size (k0_pay750 v2499 v2520) }
  if k0_h2 : k0_cond2 i = 1#1 then
    let r := sb74 X i arg2 v1802 k0_h2 s
    let r' := sb75 X i r.1.1 r.1.2 r.2
    { r'.2 with c := VecWindow.put r'.2.c ![1, 0, 0] S1x256x1.size (k0_pay754 r'.1) }
  else s

theorem t1_quiet (arg2 : BitVec 32) (v7 : IVec S2048x128 32) (v1802 : FVec F S256x256 .bf16) (v2499 : FVec F S1024x1 .f32) (v2520 : FVec F S512x1 .f32) (v2532 : FVec F S1x512x128 .f32) (k : Fin (k0_t1_loop i).trips) (a : Unit) :
    Quiet (F := F) o (k0_t1_body i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v7 v1802 v2499 v2520 v2532 k a) (fun _ => True) := by
  unfold k0_t1_body
  refine .bind (part57_quiet o i _ _ _) fun _ _ => ?_
  refine .store ?_
  refine .load fun _ => ?_
  refine .store ?_
  exact .pure trivial

theorem t2_quiet (arg2 : BitVec 32) (v7 : IVec S2048x128 32) (v1802 : FVec F S256x256 .bf16) (v2499 : FVec F S1024x1 .f32) (v2520 : FVec F S512x1 .f32) (v2532 : FVec F S1x512x128 .f32) (v2543 : BitVec 32) (k : Fin (k0_t2_loop i).trips) (a : Unit) :
    Quiet (F := F) o (k0_t2_body i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v7 v1802 v2499 v2520 v2532 v2543 k a) (fun _ => True) := by
  unfold k0_t2_body
  refine .bind (part73_quiet o i _ _ _) fun _ _ => ?_
  refine .store ?_
  refine .load fun _ => ?_
  refine .store ?_
  exact .pure trivial

theorem part140_runs (bd : Option Variants.nat.V) (arg2 : BitVec 32) (v7 : IVec S2048x128 32) (v1802 : FVec F S256x256 .bf16) (v2499 : FVec F S1024x1 .f32) (v2520 : FVec F S512x1 .f32) (v2532 : FVec F S1x512x128 .f32) (s : Sb F) :
    Runs o d bd X (k0_part140 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 arg2 v7 v1802 v2499 v2520 v2532) s (⟨0#32, 8#32⟩, sb140 X i arg2 v1802 v2499 v2520 v2532 s) := by
  rw [k0_part140_eq_skeleton]; unfold k0_part140_skel
  refine .store ?_
  refine .load fun _ => ?_
  refine .store ?_
  refine Quiet.runs_bind (.for fun k a => t1_quiet o i arg2 v7 v1802 v2499 v2520 v2532 k a) fun _ _ => ?_
  refine Quiet.runs_bind (.for fun k a => t2_quiet o i arg2 v7 v1802 v2499 v2520 v2532 _ k a) fun _ _ => ?_
  refine .load fun _ => ?_
  refine .load fun _ => ?_
  refine .load fun _ => ?_
  refine .store_mb ?_
  unfold sb140
  by_cases h : k0_cond2 i = 1#1
  · simp only [dif_pos h]
    refine .bind (part74_runs o d _ X i arg2 v1802 h _) ?_
    refine .bind (part75_runs o d _ X i _ _ _) ?_
    refine .load fun _ => ?_
    refine .store ?_
    exact .pure _ _
  · simp only [dif_neg h]
    exact .pure _ _

/-- Where the walk of row block `k` begins. -/
def first (k : ℕ) : BitVec 32 := Scalar.subi (Scalar.addi (Scalar.muli (BitVec.ofNat 32 (i 2).val) 8#32) (BitVec.ofNat 32 k)) 2#32

/-- The first `k` row blocks' walks. -/
def walks (v1802 : FVec F S256x256 .bf16) (s : Sb F) : ℕ → Sb F
  | 0 => s
  | k + 1 => if h : k < k0_t3_loop.trips then (walk X i ⟨k, h⟩ v1802 16 (first i k) (walks v1802 s k)).2 else walks v1802 s k

theorem iv_eq : ∀ k : Fin k0_t3_loop.trips, Scf.iv 0#32 1#32 k.val = BitVec.ofNat 32 k.val := by decide
theorem first_lt : ∀ (q : Fin 2) (k : Fin k0_t3_loop.trips), (Scalar.subi (Scalar.addi (Scalar.muli (BitVec.ofNat 32 q.val) 8#32) (BitVec.ofNat 32 k.val)) 2#32).toInt < 16 := by decide

theorem t3_runs (v1802 : FVec F S256x256 .bf16) (s : Sb F) (k : Fin k0_t3_loop.trips) (a : Unit) :
    Runs o d none X (k0_t3_body i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20 (BitVec.ofNat 32 (i 2).val) v1802 0#32 k a) (walks X i v1802 s k.val) (⟨⟩, walks X i v1802 s (k.val + 1)) := by
  unfold k0_t3_body
  rw [walks, dif_pos k.isLt]
  refine .bind (r := walk X i k v1802 16 (first i k.val) (walks X i v1802 s k.val)) ?_ ?_
  · rw [iv_eq k]
    exact Runs.call o d X 16 (fun u hu => nomatch hu) (walk_runs o d X i k v1802 16 (le_refl 16) _ _ (first_lt (i 2) k))
  · exact .pure _ _

/-- What the diagonal units of the seven upper row blocks and the beginning of the last one leave, and the values handed on. -/
def sb141 (s : Sb F) : (Σ' (arg2 : BitVec 32) (v7 : IVec S2048x128 32) (v1770 : IVec S2048x128 32) (v1802 : FVec F S256x256 .bf16) (v1805 : IVec S256x256 1) (v2363 : FVec F S256x128 .bf16) (v2369 : FVec F S1024x256 .f32) (v2371 : FVec F S1024x256 .f32), FVec F S1024x256 .f32) × Sb F :=
  let r119 := sb119 X i  s
  let r120 := sb120 X i (BitVec.ofNat 32 (i 2).val) r119.1.2.1 r119.1.2.2.1 r119.1.2.2.2 r119.2
  let r121 := sb121 X i r120.1.1 r120.1.2.1 r120.1.2.2.1 r120.1.2.2.2 r120.2
  let r122 := sb122 X i r121.1.1 r121.1.2.1 r121.1.2.2 r121.2
  let r123 := sb123 X i (BitVec.ofNat 32 (i 2).val) r120.1.1 r120.1.2.1 r122.1 r122.2
  let r124 := sb124 X i r120.1.2.1 r123.1.1 r123.1.2.1 r123.1.2.2.1 r123.1.2.2.2 r123.2
  let r125 := sb125 X i (BitVec.ofNat 32 (i 2).val) r124.1.1 r124.1.2.1 r124.1.2.2 r124.2
  let r126 := sb126 X i r120.1.1 r120.1.2.1 r125.1.1 r125.1.2 r125.2
  let r127 := sb127 X i (BitVec.ofNat 32 (i 2).val) r126.1.1 r126.1.2.1 r126.1.2.2.1 r126.1.2.2.2.1 r126.1.2.2.2.2 r126.2
  let r128 := sb128 X i r120.1.1 r120.1.2.1 r127.1.1 r127.1.2 r127.2
  let r129 := sb129 X i r120.1.2.1 r128.1.1 r128.1.2.1 r128.1.2.2.1 r128.1.2.2.2.1 r128.1.2.2.2.2.1 r128.1.2.2.2.2.2 r128.2
  let r130 := sb130 X i (BitVec.ofNat 32 (i 2).val) r129.1.1 r129.1.2.1 r129.1.2.2.1 r129.1.2.2.2.1 r129.1.2.2.2.2 r129.2
  let r131 := sb131 X i r120.1.1 r120.1.2.1 r130.1.1 r130.1.2.1 r130.1.2.2.1 r130.1.2.2.2.1 r130.1.2.2.2.2 r130.2
  let r132 := sb132 X i (BitVec.ofNat 32 (i 2).val) r131.1.1 r131.1.2.1 r131.1.2.2.1 r131.1.2.2.2 r131.2
  let r133 := sb133 X i r120.1.1 r120.1.2.1 r132.1 r132.2
  let r134 := sb134 X i r133.1.1 r133.1.2.1 r133.1.2.2.1 r133.1.2.2.2.1 r133.1.2.2.2.2.1 r133.1.2.2.2.2.2.1 r133.1.2.2.2.2.2.2 r133.2
  let r135 := sb135 X i (BitVec.ofNat 32 (i 2).val) r134.1.1 r134.1.2.1 r134.1.2.2 r134.2
  (⟨(BitVec.ofNat 32 (i 2).val), (iota .tc S2048x128 32 [1] iota_S2048x128_d1_w32), r119.1.1, r120.1.1, r120.1.2.1, r135.1.1, r135.1.2.1, r135.1.2.2.1, r135.1.2.2.2⟩, r135.2)

theorem part141_runs (bd : Option Variants.nat.V) (s : Sb F) : Runs o d bd X (k0_part141 i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20) s (sb141 X i s) := by
  rw [k0_part141_eq_skeleton]; unfold k0_part141_skel
  unfold sb141
  refine Quiet.runs_bind (part76_quiet o i) fun r hr => ?_
  obtain ⟨arg2, v5, v6, v7, v8⟩ := r
  obtain ⟨h1, h2⟩ := hr
  dsimp only at h1 h2
  subst h1 h2
  refine Quiet.runs_bind (part77_quiet o i _ _ _ _ _) fun _ _ => ?_
  refine Quiet.runs_bind (part78_quiet o i _ _ _ _ _ _ _) fun _ _ => ?_
  refine Quiet.runs_bind (part79_quiet o i _ _ _ _ _ _ _ _) fun _ _ => ?_
  refine Quiet.runs_bind (part80_quiet o i _ _ _ _ _) fun _ _ => ?_
  refine Quiet.runs_bind (part81_quiet o i _ _ _ _ _) fun _ _ => ?_
  refine Quiet.runs_bind (part82_quiet o i _ _ _ _ _ _) fun _ _ => ?_
  refine Quiet.runs_bind (part83_quiet o i _ _ _ _ _ _) fun _ _ => ?_
  refine Quiet.runs_bind (part84_quiet o i _ _ _ _ _ _ _ _) fun _ _ => ?_
  refine Quiet.runs_bind (part85_quiet o i _ _ _ _ _) fun _ _ => ?_
  refine Quiet.runs_bind (part86_quiet o i _ _ _ _ _ _) fun _ _ => ?_
  refine Quiet.runs_bind (part87_quiet o i _ _ _ _ _ _ _) fun _ _ => ?_
  refine Quiet.runs_bind (part88_quiet o i _ _ _ _ _ _ _) fun _ _ => ?_
  refine Quiet.runs_bind (part89_quiet o i _ _ _ _ _ _ _ _ _ _ _) fun _ _ => ?_
  refine Quiet.runs_bind (part90_quiet o i _ _ _ _ _ _ _ _) fun _ _ => ?_
  refine Quiet.runs_bind (part91_quiet o i _ _ _ _ _) fun _ _ => ?_
  refine Quiet.runs_bind (part92_quiet o i _ _ _ _ _) fun _ _ => ?_
  refine Quiet.runs_bind (part93_quiet o i _ _ _ _ _ _) fun _ _ => ?_
  refine Quiet.runs_bind (part94_quiet o i _ _ _ _ _ _) fun _ _ => ?_
  refine Quiet.runs_bind (part95_quiet o i _ _ _ _ _ _ _ _) fun _ _ => ?_
  refine Quiet.runs_bind (part96_quiet o i _ _ _ _ _) fun _ _ => ?_
  refine Quiet.runs_bind (part97_quiet o i _ _ _ _ _ _) fun _ _ => ?_
  refine Quiet.runs_bind (part98_quiet o i _ _ _ _ _ _ _) fun _ _ => ?_
  refine Quiet.runs_bind (part99_quiet o i _ _ _ _ _ _ _) fun _ _ => ?_
  refine Quiet.runs_bind (part100_quiet o i _ _ _ _ _ _ _) fun _ _ => ?_
  refine Quiet.runs_bind (part101_quiet o i _ _ _ _ _ _ _) fun _ _ => ?_
  refine Quiet.runs_bind (part102_quiet o i _) fun _ _ => ?_
  refine Quiet.runs_bind (part103_quiet o i _ _ _ _ _ _) fun _ _ => ?_
  refine Quiet.runs_bind (part104_quiet o i _ _ _ _ _ _) fun _ _ => ?_
  refine Quiet.runs_bind (part105_quiet o i _ _ _ _ _ _ _) fun _ _ => ?_
  refine Quiet.runs_bind (part106_quiet o i _ _ _ _ _ _) fun _ _ => ?_
  refine Quiet.runs_bind (part107_quiet o i _ _ _ _) fun _ _ => ?_
  refine Quiet.runs_bind (part108_quiet o i _ _ _) fun _ _ => ?_
  refine Quiet.runs_bind (part109_quiet o i _ _ _ _ _) fun _ _ => ?_
  refine Quiet.runs_bind (part110_quiet o i _ _ _ _) fun _ _ => ?_
  refine Quiet.runs_bind (part111_quiet o i _ _) fun _ _ => ?_
  refine Quiet.runs_bind (part112_quiet o i _ _) fun _ _ => ?_
  refine Quiet.runs_bind (part113_quiet o i _ _ _) fun _ _ => ?_
  refine Quiet.runs_bind (part114_quiet o i _ _ _ _ _) fun _ _ => ?_
  refine Quiet.runs_bind (part115_quiet o i _ _ _ _) fun _ _ => ?_
  refine Quiet.runs_bind (part116_quiet o i _ _ _ _ _ _) fun _ _ => ?_
  refine Quiet.runs_bind (part117_quiet o i _ _ _ _ _ _) fun _ _ => ?_
  refine Quiet.runs_bind (part118_quiet o i _ _ _ _ _ _) fun _ _ => ?_
  refine .bind (part119_runs o d _ X i _ _ _ _) ?_
  refine .bind (part120_runs o d _ X i _ _ _ _ _) ?_
  refine .bind (part121_runs o d _ X i _ _ _ _ _) ?_
  refine .bind (part122_runs o d _ X i _ _ _ _) ?_
  refine .bind (part123_runs o d _ X i _ _ _ _ _) ?_
  refine .bind (part124_runs o d _ X i _ _ _ _ _ _) ?_
  refine .bind (part125_runs o d _ X i _ _ _ _ _) ?_
  refine .bind (part126_runs o d _ X i _ _ _ _ _) ?_
  refine .bind (part127_runs o d _ X i _ _ _ _ _ _ _) ?_
  refine .bind (part128_runs o d _ X i _ _ _ _ _) ?_
  refine .bind (part129_runs o d _ X i _ _ _ _ _ _ _ _) ?_
  refine .bind (part130_runs o d _ X i _ _ _ _ _ _ _) ?_
  refine .bind (part131_runs o d _ X i _ _ _ _ _ _ _ _) ?_
  refine .bind (part132_runs o d _ X i _ _ _ _ _ _) ?_
  refine .bind (part133_runs o d _ X i _ _ _ _) ?_
  refine .bind (part134_runs o d _ X i _ _ _ _ _ _ _ _) ?_
  refine .bind (part135_runs o d _ X i _ _ _ _ _) ?_
  exact .pure _ _

/-- What the body leaves before the walks. -/
def sbDiag (s : Sb F) : Sb F :=
  let t := sb141 X i s
  let r136 := sb136 X i t.1.2.2.2.1 t.1.2.2.2.2.1 t.1.2.2.2.2.2.1 t.1.2.2.2.2.2.2.1 t.1.2.2.2.2.2.2.2.1 t.1.2.2.2.2.2.2.2.2 t.2
  let r137 := sb137 X i (BitVec.ofNat 32 (i 2).val) r136.1.1 r136.1.2.1 r136.1.2.2 r136.2
  let r138 := sb138 X i t.1.2.2.2.1 t.1.2.2.2.2.1 r137.1 r137.2
  let r139 := sb139 X i r138.1.1 r138.1.2.1 r138.1.2.2 r138.2
  sb140 X i (BitVec.ofNat 32 (i 2).val) t.1.2.2.2.1 r139.1.1 r139.1.2.1 r139.1.2.2 r139.2

/-- What the body leaves. -/
def sbAll (s : Sb F) : Sb F :=
  let t := sb141 X i s
  let s' := walks X i t.1.2.2.2.1 (sbDiag X i s) k0_t3_loop.trips
  { s' with os := VecWindow.put s'.os ![0, 0, 0, 0] S1x1x2048x128.size (k0_pay1 t.1.2.2.1 (VecWindow.window s'.acc ![0, 0, 0] S1x2048x128.size inb_S2x2048x128_S1x2048x128_0_0_0) (VecWindow.window s'.acc ![1, 0, 0] S1x2048x128.size inb_S2x2048x128_S1x2048x128_1_0_0)) }

theorem body_runs (s : Sb F) : Runs o d none X (cc0__attn_kernel i o.a3 o.h3 o.a4 o.h4 o.a5 o.h5 o.a6 o.h6 o.a7 o.h7 o.a8 o.h8 o.a9 o.h9 o.a10 o.h10 o.a11 o.h11 o.a12 o.h12 o.a13 o.h13 o.a14 o.h14 o.a15 o.h15 o.a16 o.h16 o.a17 o.h17 o.a18 o.h18 o.a19 o.h19 o.a20 o.h20) s (⟨⟩, sbAll X i s) := by
  rw [cc0__attn_kernel_eq_skeleton]; unfold cc0__attn_kernel_skel
  unfold sbAll sbDiag
  refine .bind (part141_runs o d X i _ _) ?_
  refine .bind (part136_runs o d _ X i _ _ _ _ _ _ _) ?_
  refine .bind (part137_runs o d _ X i _ _ _ _ _) ?_
  refine .bind (part138_runs o d _ X i _ _ _ _) ?_
  refine .bind (part139_runs o d _ X i _ _ _ _) ?_
  refine .bind (part140_runs o d X i _ _ _ _ _ _ _ _) ?_
  refine .bind (Runs.for (fun k => walks X i _ _ k) fun k a => t3_runs o d X i _ _ k a) ?_
  refine .load fun _ => ?_
  refine .load fun _ => ?_
  refine .load fun _ => ?_
  refine .store ?_
  exact .pure _ _

end Cert.AttnIdeal.Body

end
-- ==== Proof.AttnIdealFrame.lean ====
/-
  The attention call's run: the body's triple at a grid point from the blocks its windows hold, the launch with the block-sparse
  result not described, and the frame.
-/
module

public import proofs.«01_k».proof.Proof.Gen.AttnIdeal.Launch
public import proofs.«01_k».proof.Proof.Gen.AttnIdeal.Points
public import proofs.«01_k».proof.Proof.AttnIdealRun
public import Idealize.ShloMosaic.Lib.Pipeline.Frame
public import Idealize.ShloMosaic.Lib.Pipeline.FrameBody
public import Idealize.ShloMosaic.Lib.Claim

@[expose] public section

set_option maxRecDepth 16384

noncomputable section

namespace Cert.AttnIdeal.Body

open Cert.AttnIdeal Cert.AttnIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

instance : Nonempty (Sb F) := ⟨⟨fun _ => FloatOps.ofBits .f32 0, fun _ => FloatOps.ofBits .bf16 0, fun _ => FloatOps.ofBits .f32 0, fun _ => FloatOps.ofBits .f32 0⟩⟩

/-! ## The program up to the call -/

/-- What core `c`'s buffers hold when the call begins. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    exact StableHlo.devRef_ne_of_ne (by decide)))

/-! ## The proof data -/

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The input blocks at point `t`, by the body's operands. -/
def ins (c : Dev nD) (t : Fin (cfg0 (F := F)).N) : Ins F := ⟨iblk m c 0 t, iblk m c 1 t, iblk m c 2 t, iblk m c 3 t, iblk m c 4 t, iblk m c 5 t, iblk m c 6 t⟩

variable (out : (c : Dev nD) → Fin (cfg0 (F := F)).N → S1x1x2048x128.Idx → Elt F .f32)

/-- The proof data: each input's buffer keeps its block, the stick-breaking result's block is `out`, the block-sparse one's is not
    named; the scratch at anything between the points. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out c t
    | ⟨8, _⟩ => Pipeline.Dat.unnamed (cfg := cfg0) 8 t
  Φ _ := Pipeline.ΦA spec0 c
  q w := Pipeline.shareOf spec0 w
  owed _ := 0

theorem A_eq (c : Dev nD) (w : Fin (cfg0 (F := F)).W) : (dats m out 0 c).A w = V m c (Pipeline.arrRef spec0 w) := by dsimp only [dats]
theorem after0_0 (c : Dev nD) (t : Fin (cfg0 (F := F)).N) : (dats m out 0 c).after 0 t = iblk m c 0 t := by dsimp only [dats]; rfl
theorem after0_1 (c : Dev nD) (t : Fin (cfg0 (F := F)).N) : (dats m out 0 c).after 1 t = iblk m c 1 t := by dsimp only [dats]; rfl
theorem after0_2 (c : Dev nD) (t : Fin (cfg0 (F := F)).N) : (dats m out 0 c).after 2 t = iblk m c 2 t := by dsimp only [dats]; rfl
theorem after0_3 (c : Dev nD) (t : Fin (cfg0 (F := F)).N) : (dats m out 0 c).after 3 t = iblk m c 3 t := by dsimp only [dats]; rfl
theorem after0_4 (c : Dev nD) (t : Fin (cfg0 (F := F)).N) : (dats m out 0 c).after 4 t = iblk m c 4 t := by dsimp only [dats]; rfl
theorem after0_5 (c : Dev nD) (t : Fin (cfg0 (F := F)).N) : (dats m out 0 c).after 5 t = iblk m c 5 t := by dsimp only [dats]; rfl
theorem after0_6 (c : Dev nD) (t : Fin (cfg0 (F := F)).N) : (dats m out 0 c).after 6 t = iblk m c 6 t := by dsimp only [dats]; rfl
theorem after0_7 (c : Dev nD) (t : Fin (cfg0 (F := F)).N) : (dats m out 0 c).after 7 t = out c t := by dsimp only [dats]; rfl
theorem before0_0 (c : Dev nD) (t : Fin (cfg0 (F := F)).N) (d) : (dats m out 0 c).before 0 t d = iblk m c 0 t :=
  ((dats m out 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m out 0 c).before 1 t d = iblk m c 1 t :=
  ((dats m out 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m out 0 c).before 2 t d = iblk m c 2 t :=
  ((dats m out 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m out 0 c).before 3 t d = iblk m c 3 t :=
  ((dats m out 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m out 0 c).before 4 t d = iblk m c 4 t :=
  ((dats m out 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m out 0 c).before 5 t d = iblk m c 5 t :=
  ((dats m out 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 (F := F)).N) (d) : (dats m out 0 c).before 6 t d = iblk m c 6 t :=
  ((dats m out 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body at a point -/

/-- The operands the body is called with at point `t`. -/
def opsAt (t : Fin (cfg0 (F := F)).N) : Ops where
  a3 := st0_0 (F := F) t
  h3 := hstage0_0 (((cfg0 (F := F)).slots t 0).cast nbuf0_0)
  a4 := st0_1 (F := F) t
  h4 := hstage0_1 (((cfg0 (F := F)).slots t 1).cast nbuf0_1)
  a5 := st0_2 (F := F) t
  h5 := hstage0_2 (((cfg0 (F := F)).slots t 2).cast nbuf0_2)
  a6 := st0_3 (F := F) t
  h6 := hstage0_3 (((cfg0 (F := F)).slots t 3).cast nbuf0_3)
  a7 := st0_4 (F := F) t
  h7 := hstage0_4 (((cfg0 (F := F)).slots t 4).cast nbuf0_4)
  a8 := st0_5 (F := F) t
  h8 := hstage0_5 (((cfg0 (F := F)).slots t 5).cast nbuf0_5)
  a9 := st0_6 (F := F) t
  h9 := hstage0_6 (((cfg0 (F := F)).slots t 6).cast nbuf0_6)
  a10 := st0_7 (F := F) t
  h10 := hstage0_7 (((cfg0 (F := F)).slots t 7).cast nbuf0_7)
  a11 := st0_8 (F := F) t
  h11 := hstage0_8 (((cfg0 (F := F)).slots t 8).cast nbuf0_8)
  a12 := Memref.whole cc0_scratch0
  h12 := Memref.isWhole_whole _
  a13 := Memref.whole cc0_scratch1
  h13 := Memref.isWhole_whole _
  a14 := Memref.whole cc0_scratch2
  h14 := Memref.isWhole_whole _
  a15 := Memref.whole cc0_scratch3
  h15 := Memref.isWhole_whole _
  a16 := Memref.whole cc0_scratch4
  h16 := Memref.isWhole_whole _
  a17 := Memref.whole cc0_scratch5
  h17 := Memref.isWhole_whole _
  a18 := Memref.whole cc0_scratch6
  h18 := Memref.isWhole_whole _
  a19 := Memref.whole cc0_scratch7
  h19 := Memref.isWhole_whole _
  a20 := Memref.whole cc0_scratch8
  h20 := Memref.isWhole_whole _

/-- A buffer held whole, as the memref over all of it owned. -/
theorem owns_whole_of {c : Dev nD} {b : Ref sig .tc} (f : Buf (Elt F) ((c : Thread nD τ).loc b)) :
    (((c : Thread nD τ).loc b) ↦{fullShare} f : sProp 𝕄) ⊢ owns (c : Thread nD τ) (Memref.whole b) fullShare f := by
  rw [owns_whole]
theorem whole_of_owns {c : Dev nD} {b : Ref sig .tc} (f : Buf (Elt F) ((c : Thread nD τ).loc b)) :
    owns (c : Thread nD τ) (Memref.whole b) fullShare f ⊢ (((c : Thread nD τ).loc b) ↦{fullShare} f : sProp 𝕄) := by
  rw [owns_whole]

/-- The body's triple at point `t`: the inputs' blocks kept, the stick-breaking result's block at what the body leaves from some contents of
    the scratch, the rest at anything. -/
theorem kernel_run (c : Dev nD) (t : Fin (cfg0 (F := F)).N) (K : PUnit → sProp 𝕄) :
    iprop(owns (c : Thread nD τ) (st0_0 (F := F) t) fullShare (iblk m c 0 t) ∗ owns (c : Thread nD τ) (st0_1 (F := F) t) fullShare (iblk m c 1 t) ∗ owns (c : Thread nD τ) (st0_2 (F := F) t) fullShare (iblk m c 2 t) ∗ owns (c : Thread nD τ) (st0_3 (F := F) t) fullShare (iblk m c 3 t) ∗ owns (c : Thread nD τ) (st0_4 (F := F) t) fullShare (iblk m c 4 t) ∗ owns (c : Thread nD τ) (st0_5 (F := F) t) fullShare (iblk m c 5 t) ∗ owns (c : Thread nD τ) (st0_6 (F := F) t) fullShare (iblk m c 6 t)
        ∗ (∃ d, owns (c : Thread nD τ) (st0_7 (F := F) t) fullShare d) ∗ (∃ d, owns (c : Thread nD τ) (st0_8 (F := F) t) fullShare d)
        ∗ ((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f))
        ∗ (iprop(owns (c : Thread nD τ) (st0_0 (F := F) t) fullShare (iblk m c 0 t) ∗ owns (c : Thread nD τ) (st0_1 (F := F) t) fullShare (iblk m c 1 t) ∗ owns (c : Thread nD τ) (st0_2 (F := F) t) fullShare (iblk m c 2 t) ∗ owns (c : Thread nD τ) (st0_3 (F := F) t) fullShare (iblk m c 3 t) ∗ owns (c : Thread nD τ) (st0_4 (F := F) t) fullShare (iblk m c 4 t) ∗ owns (c : Thread nD τ) (st0_5 (F := F) t) fullShare (iblk m c 5 t) ∗ owns (c : Thread nD τ) (st0_6 (F := F) t) fullShare (iblk m c 6 t)
            ∗ (∃ s, owns (c : Thread nD τ) (st0_7 (F := F) t) fullShare (sbAll (ins m c t) (grid0.coords t) s).os) ∗ (∃ d, owns (c : Thread nD τ) (st0_8 (F := F) t) fullShare d)
            ∗ ((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f))) -∗ K ⟨⟩))
      ⊢ wp frame (wpE (defs₀ (F := F)) Variants.nat c none) Set.univ (bodyAt0 (F := F) t) K := by
  iintro ⟨H3, H4, H5, H6, H7, H8, H9, ⟨%d10, H10⟩, ⟨%d11, H11⟩, ⟨⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩, HK⟩
  iapply (body_runs (opsAt t) c (ins m c t) (grid0.coords t) ⟨d10, f12, f13, f14⟩ ⟨d11, f15, f16, f17, f18, f19, f20⟩ K)
  isplitl [H3 H4 H5 H6 H7 H8 H9 H10 H11 H12 H13 H14 H15 H16 H17 H18 H19 H20]
  · unfold Own opsAt ins
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iapply (owns_whole_of (c := c) (b := cc0_scratch0) f12); iexact H12
    isplitl [H13]; · iapply (owns_whole_of (c := c) (b := cc0_scratch1) f13); iexact H13
    isplitl [H14]; · iapply (owns_whole_of (c := c) (b := cc0_scratch2) f14); iexact H14
    isplitl [H11]; · iexact H11
    isplitl [H15]; · iapply (owns_whole_of (c := c) (b := cc0_scratch3) f15); iexact H15
    isplitl [H16]; · iapply (owns_whole_of (c := c) (b := cc0_scratch4) f16); iexact H16
    isplitl [H17]; · iapply (owns_whole_of (c := c) (b := cc0_scratch5) f17); iexact H17
    isplitl [H18]; · iapply (owns_whole_of (c := c) (b := cc0_scratch6) f18); iexact H18
    isplitl [H19]; · iapply (owns_whole_of (c := c) (b := cc0_scratch7) f19); iexact H19
    iapply (owns_whole_of (c := c) (b := cc0_scratch8) f20); iexact H20
  iintro %m' HO
  iapply HK
  unfold Own opsAt ins
  icases HO with ⟨H3, H4, H5, H6, H7, H8, H9, H10, H12, H13, H14, H11, H15, H16, H17, H18, H19, H20⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iapply (whole_of_owns (c := c) (b := cc0_scratch0) _); iexact H12
  isplitl [H13]; · iexists _; iapply (whole_of_owns (c := c) (b := cc0_scratch1) _); iexact H13
  isplitl [H14]; · iexists _; iapply (whole_of_owns (c := c) (b := cc0_scratch2) _); iexact H14
  isplitl [H15]; · iexists _; iapply (whole_of_owns (c := c) (b := cc0_scratch3) _); iexact H15
  isplitl [H16]; · iexists _; iapply (whole_of_owns (c := c) (b := cc0_scratch4) _); iexact H16
  isplitl [H17]; · iexists _; iapply (whole_of_owns (c := c) (b := cc0_scratch5) _); iexact H17
  isplitl [H18]; · iexists _; iapply (whole_of_owns (c := c) (b := cc0_scratch6) _); iexact H18
  isplitl [H19]; · iexists _; iapply (whole_of_owns (c := c) (b := cc0_scratch7) _); iexact H19
  iexists _; iapply (whole_of_owns (c := c) (b := cc0_scratch8) _); iexact H20

/-- Nothing said of either result. -/
def fgtAll : Fin 9 → Bool := fun w => decide (7 ≤ w.val)
/-- Nothing said of the block-sparse result. -/
def fgtMb : Fin 9 → Bool := fun w => decide (w.val = 8)

def bodyPre (c : Dev nD) (t : Fin (cfg0 (F := F)).N) (H7 : sProp 𝕄) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d))
    ∗ (∃ d, owns (c : Thread nD τ) (st0_4 t) fullShare ((dats m out 0 c).before 4 t d))
    ∗ (∃ d, owns (c : Thread nD τ) (st0_5 t) fullShare ((dats m out 0 c).before 5 t d))
    ∗ (∃ d, owns (c : Thread nD τ) (st0_6 t) fullShare ((dats m out 0 c).before 6 t d))
    ∗ H7 ∗ (∃ X, owns (c : Thread nD τ) (st0_8 t) fullShare X))

def bodyPost (c : Dev nD) (t : Fin (cfg0 (F := F)).N) (H7 : sProp 𝕄) : sProp 𝕄 :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ owns (c : Thread nD τ) (st0_2 t) fullShare ((dats m out 0 c).after 2 t)
    ∗ owns (c : Thread nD τ) (st0_3 t) fullShare ((dats m out 0 c).after 3 t)
    ∗ owns (c : Thread nD τ) (st0_4 t) fullShare ((dats m out 0 c).after 4 t)
    ∗ owns (c : Thread nD τ) (st0_5 t) fullShare ((dats m out 0 c).after 5 t)
    ∗ owns (c : Thread nD τ) (st0_6 t) fullShare ((dats m out 0 c).after 6 t)
    ∗ H7 ∗ (∃ X, owns (c : Thread nD τ) (st0_8 t) fullShare X))

theorem sound_body (c : Dev nD) (t : Fin (cfg0 (F := F)).N) (P7 Q7 : sProp 𝕄) (hP : P7 ⊢ iprop(∃ d, owns (c : Thread nD τ) (st0_7 (F := F) t) fullShare d))
    (hQ : iprop(∃ s, owns (c : Thread nD τ) (st0_7 (F := F) t) fullShare (sbAll (ins m c t) (grid0.coords t) s).os) ⊢ Q7) :
    bodyPre m out c t P7 ⊢ wp frame (wpE (defs₀ (F := F)) Variants.nat c none) Set.univ (bodyAt0 t) (fun _ => bodyPost m out c t Q7) := by
  unfold bodyPre bodyPost
  simp only [before0_0, before0_1, before0_2, before0_3, before0_4, before0_5, before0_6]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl,
    after0_0, after0_1, after0_2, after0_3, after0_4, after0_5, after0_6]
  unfold Pipeline.ΦA
  rw [scopedRest0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8⟩
  iapply (kernel_run m c t _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply hP; iexact H7
  isplitl [H8]; · iexact H8
  isplitl [HS]; · iexact HS
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply hQ; iexact H7
  iexact H8

theorem defs₀_row (t : Fin (cfg0 (F := F)).N) : defs₀ (F := F) .tc cfg0.body (cfg0.bodyArgs t (cfg0.slots t)) = bodyAt0 t := by
  unfold defs₀; rw [Defs.onTc_tc]

theorem body_obligation_all (c : Dev nD) :
    BodyObligation (dats (F := F) m out 0 c) (defs₀ (F := F)) Variants.nat () Set.univ fgtAll := fun t => by
  rw [bigSep_W0, bigSep_W0, defs₀_row]
  refine triple_restated (sound_body m out c t iprop(∃ X, owns (c : Thread nD τ) (st0_7 t) fullShare X) iprop(∃ X, owns (c : Thread nD τ) (st0_7 t) fullShare X) .rfl ?_) rfl .rfl fun _ => .rfl
  iintro ⟨%s, H⟩; iexists _; iexact H

theorem body_obligation_mb (h : ∀ c t s, (sbAll (ins m c t) (grid0.coords t) s).os = out c t) (c : Dev nD) :
    BodyObligation (dats (F := F) m out 0 c) (defs₀ (F := F)) Variants.nat () Set.univ fgtMb := fun t => by
  rw [bigSep_W0, bigSep_W0, defs₀_row]
  refine triple_restated (sound_body m out c t iprop(∃ d, owns (c : Thread nD τ) (st0_7 t) fullShare ((dats m out 0 c).before 7 t d)) (owns (c : Thread nD τ) (st0_7 t) fullShare ((dats m out 0 c).after 7 t)) ?_ ?_) rfl .rfl fun _ => .rfl
  · iintro ⟨%s, H⟩; iexists _; iexact H
  · iintro ⟨%s, H⟩; rw [after0_7, ← h c t s]; iexact H

/-! ## The launch -/

set_option backward.isDefEq.respectTransparency.types false in
theorem run_of (fgt : Fin 9 → Bool) (hb : ∀ c, BodyObligation (dats (F := F) m out 0 c) (defs₀ (F := F)) Variants.nat () Set.univ fgt) :
    θ_run defs (onTc (τ := τ) (main (F := F))) (s₀ m ρ)
      (fun r => Pipeline.RDat.FramePost (cfgs 0) (fun c => (dats m out 0 c).toRForget fgt) (V m) r ∧ r.2.sem = fun _ => 0) :=
  Pipeline.θ_run_frame_forget_shared (Q' := _) cfgs (dats m out) (0 : Fin 1) launch₀0 defs₀ Variants.nat fgt m ρ main
    (hbody := fun c => (hb c).loose) (hq := fun _ _ _ => rfl) (howed := fun _ _ => rfl) (V := V m) (hmain := hmain m Variants.nat)
    (hA := A_eq m out) (hΦ := fun _ _ => rfl)

/-- The argument is unchanged after the run. -/
theorem final_arg0 {fgt : Fin 9 → Bool} {r : PUnit × MemSt nD τ sig (Elt F)}
    (h : Pipeline.RDat.FramePost (cfgs 0) (fun c => (dats (F := F) m out 0 c).toRForget fgt) (V m) r) (c : Dev nD) :
    r.2.mem ((c : Thread nD τ).loc main_arg0) = m ((c : Thread nD τ).loc main_arg0) :=
  ((Pipeline.RDat.FramePost.arr_in h c (1 : Fin 9) rfl).trans (by rw [Dat.toRForget_A, A_eq])).trans (V_main_arg0 m c)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨final_arg0 m _ h.1, h.2⟩)
    (run_of m ρ (fun c t => (sbAll (ins m c t) (grid0.coords t) (Classical.choice inferInstance)).os) fgtAll (body_obligation_all m _))

end Cert.AttnIdeal.Body

end
-- ==== Proof.AttnIdealUnits.lean ====
/-
  The stick-breaking half of the attention kernel's body, regrouped: the body is written as a sequence of units, each of
  which takes one block of 256 keys to some rows of the tile (`unitD` and `unitE` on the diagonal, `unitW` before it).
  The stretches of the body are these units, with the same operations.
-/
module

public import proofs.«01_k».proof.Proof.AttnIdealFrame

@[expose] public section

set_option maxRecDepth 65536
set_option maxHeartbeats 4000000

noncomputable section

namespace Cert.AttnIdeal.Body

open Cert.AttnIdeal Cert.AttnIdeal.Gen
open Idealize.ShloMosaic Idealize.ShloMosaic.TcCoe Idealize.SL.Sem

variable {F : FTy → Type} [FloatOps F] [Named F] (X : Ins F) (i : grid0.Coords)

/-- Some rows of one head's slab of a scratch array lie inside it. -/
theorem box {n l h r0 : ℕ} (hh : h < 2) (hr : r0 + n ≤ 2048) : ∀ a, (![h, r0, 0] : Fin 3 → ℕ) a + (⟨3, ![1, n, l]⟩ : Shape).size a ≤ (⟨3, ![2, 2048, l]⟩ : Shape).size a := by
  intro a
  match a with
  | ⟨0, _⟩ => show h + 1 ≤ 2; omega
  | ⟨1, _⟩ => show r0 + n ≤ 2048; omega
  | ⟨2, _⟩ => show 0 + l ≤ l; omega

/-- The block of keys `k`, `v` on the diagonal of the rows from `r0`, taken to those rows and to the 256 rows after them. First head's rows. -/
def unitDA (k v : Vec F S1x1x256x128 .bf16) (r0 : ℕ) (h : r0 + 512 ≤ 2048) (s : Sb F) : Sb F :=
  { s with acc := VecWindow.put s.acc ![0, r0, 0] S1x512x128.size (k0_pay746 (k0_pay742 (k0_pay633 (F := F)) k0_pay634 (k0_pay738 k) v (VecWindow.window s.qh ![0, r0, 0] S1x512x128.size (box (by decide) h)) (VecWindow.window s.qh ![1, r0, 0] S1x512x128.size (box (by decide) h))) (VecWindow.window s.c ![0, r0, 0] S1x512x1.size (box (by decide) h)) (VecWindow.window s.acc ![0, r0, 0] S1x512x128.size (box (by decide) h))),
           c := VecWindow.put s.c ![0, r0, 0] S1x512x1.size (k0_pay747 (k0_pay740 k0_pay634 (k0_pay738 k) (VecWindow.window s.qh ![0, r0, 0] S1x512x128.size (box (by decide) h)) (VecWindow.window s.qh ![1, r0, 0] S1x512x128.size (box (by decide) h))) (k0_pay743 (k0_pay633 (F := F)) k0_pay634 (k0_pay738 k) (VecWindow.window s.qh ![0, r0, 0] S1x512x128.size (box (by decide) h)) (VecWindow.window s.qh ![1, r0, 0] S1x512x128.size (box (by decide) h))) (VecWindow.window s.c ![0, r0, 0] S1x512x1.size (box (by decide) h))) }

/-- The block of keys `k`, `v` on the diagonal of the rows from `r0`, taken to those rows and to the 256 rows after them. Second head's rows. -/
def unitDB (k v : Vec F S1x1x256x128 .bf16) (r0 : ℕ) (h : r0 + 512 ≤ 2048) (s : Sb F) : Sb F :=
  { s with acc := VecWindow.put s.acc ![1, r0, 0] S1x512x128.size (k0_pay749 (k0_pay742 (k0_pay633 (F := F)) k0_pay634 (k0_pay738 k) v (VecWindow.window s.qh ![0, r0, 0] S1x512x128.size (box (by decide) h)) (VecWindow.window s.qh ![1, r0, 0] S1x512x128.size (box (by decide) h))) (VecWindow.window s.c ![1, r0, 0] S1x512x1.size (box (by decide) h)) (VecWindow.window s.acc ![1, r0, 0] S1x512x128.size (box (by decide) h))),
           c := VecWindow.put s.c ![1, r0, 0] S1x512x1.size (k0_pay750 (k0_pay744 (k0_pay740 k0_pay634 (k0_pay738 k) (VecWindow.window s.qh ![0, r0, 0] S1x512x128.size (box (by decide) h)) (VecWindow.window s.qh ![1, r0, 0] S1x512x128.size (box (by decide) h))) (k0_pay743 (k0_pay633 (F := F)) k0_pay634 (k0_pay738 k) (VecWindow.window s.qh ![0, r0, 0] S1x512x128.size (box (by decide) h)) (VecWindow.window s.qh ![1, r0, 0] S1x512x128.size (box (by decide) h)))) (k0_pay748 (VecWindow.window s.c ![1, r0, 0] S1x512x1.size (box (by decide) h)))) }

/-- The block of keys `k`, `v` on the diagonal of the rows from `r0`, taken to those rows and to the 256 rows after them. Both heads. -/
def unitD (k v : Vec F S1x1x256x128 .bf16) (r0 : ℕ) (h : r0 + 512 ≤ 2048) (s : Sb F) : Sb F := unitDB k v r0 h (unitDA k v r0 h s)

/-- The block of keys `k`, `v` on the diagonal of the rows from `r0`, taken to those rows. First head's rows. -/
def unitEA (k v : Vec F S1x1x256x128 .bf16) (r0 : ℕ) (h : r0 + 256 ≤ 2048) (s : Sb F) : Sb F :=
  { s with acc := VecWindow.put s.acc ![0, r0, 0] S1x256x128.size (k0_pay643 (k0_pay640 (k0_pay633 (F := F)) k0_pay634 (k0_pay635 k) (k0_pay636 v) (VecWindow.window s.qh ![0, r0, 0] S1x256x128.size (box (by decide) h)) (VecWindow.window s.qh ![1, r0, 0] S1x256x128.size (box (by decide) h))) (k0_pay642 (VecWindow.window s.c ![0, r0, 0] S1x256x1.size (box (by decide) h))) (VecWindow.window s.acc ![0, r0, 0] S1x256x128.size (box (by decide) h))),
           c := VecWindow.put s.c ![0, r0, 0] S1x256x1.size (k0_pay644 (k0_pay641 (k0_pay633 (F := F)) k0_pay634 (k0_pay635 k) (VecWindow.window s.qh ![0, r0, 0] S1x256x128.size (box (by decide) h)) (VecWindow.window s.qh ![1, r0, 0] S1x256x128.size (box (by decide) h))) (k0_pay642 (VecWindow.window s.c ![0, r0, 0] S1x256x1.size (box (by decide) h)))) }

/-- The block of keys `k`, `v` on the diagonal of the rows from `r0`, taken to those rows. Second head's rows. -/
def unitEB (k v : Vec F S1x1x256x128 .bf16) (r0 : ℕ) (h : r0 + 256 ≤ 2048) (s : Sb F) : Sb F :=
  { s with acc := VecWindow.put s.acc ![1, r0, 0] S1x256x128.size (k0_pay646 (k0_pay640 (k0_pay633 (F := F)) k0_pay634 (k0_pay635 k) (k0_pay636 v) (VecWindow.window s.qh ![0, r0, 0] S1x256x128.size (box (by decide) h)) (VecWindow.window s.qh ![1, r0, 0] S1x256x128.size (box (by decide) h))) (VecWindow.window s.c ![1, r0, 0] S1x256x1.size (box (by decide) h)) (VecWindow.window s.acc ![1, r0, 0] S1x256x128.size (box (by decide) h))),
           c := VecWindow.put s.c ![1, r0, 0] S1x256x1.size (k0_pay647 (k0_pay641 (k0_pay633 (F := F)) k0_pay634 (k0_pay635 k) (VecWindow.window s.qh ![0, r0, 0] S1x256x128.size (box (by decide) h)) (VecWindow.window s.qh ![1, r0, 0] S1x256x128.size (box (by decide) h))) (VecWindow.window s.c ![1, r0, 0] S1x256x1.size (box (by decide) h))) }

/-- The block of keys `k`, `v` on the diagonal of the rows from `r0`, taken to those rows. Both heads. -/
def unitE (k v : Vec F S1x1x256x128 .bf16) (r0 : ℕ) (h : r0 + 256 ≤ 2048) (s : Sb F) : Sb F := unitEB k v r0 h (unitEA k v r0 h s)

/-- The block of keys `k`, `v`, all of them before the rows of the box, taken to those rows. First head's rows. -/
def unitWA (k v : Vec F S1x1x256x128 .bf16) (o0 o1 o2 o3 : Fin 3 → ℕ) (h0 : ∀ a, o0 a + S1x256x128.size a ≤ S2x2048x128.size a) (h1 : ∀ a, o1 a + S1x256x128.size a ≤ S2x2048x128.size a) (h2 : ∀ a, o2 a + S1x256x1.size a ≤ S2x2048x1.size a) (h3 : ∀ a, o3 a + S1x256x1.size a ≤ S2x2048x1.size a) (s : Sb F) : Sb F :=
  { s with acc := VecWindow.put s.acc o0 S1x256x128.size (k0_pay761 (k0_pay758 (k0_pay633 (F := F)) k v (VecWindow.window s.qh o0 S1x256x128.size h0) (VecWindow.window s.qh o1 S1x256x128.size h1)) (k0_pay760 (VecWindow.window s.c o2 S1x256x1.size h2)) (VecWindow.window s.acc o0 S1x256x128.size h0)),
           c := VecWindow.put s.c o2 S1x256x1.size (k0_pay762 (k0_pay759 (k0_pay633 (F := F)) k (VecWindow.window s.qh o0 S1x256x128.size h0) (VecWindow.window s.qh o1 S1x256x128.size h1)) (k0_pay760 (VecWindow.window s.c o2 S1x256x1.size h2))) }

/-- The block of keys `k`, `v`, all of them before the rows of the box, taken to those rows. Second head's rows. -/
def unitWB (k v : Vec F S1x1x256x128 .bf16) (o0 o1 o2 o3 : Fin 3 → ℕ) (h0 : ∀ a, o0 a + S1x256x128.size a ≤ S2x2048x128.size a) (h1 : ∀ a, o1 a + S1x256x128.size a ≤ S2x2048x128.size a) (h2 : ∀ a, o2 a + S1x256x1.size a ≤ S2x2048x1.size a) (h3 : ∀ a, o3 a + S1x256x1.size a ≤ S2x2048x1.size a) (s : Sb F) : Sb F :=
  { s with acc := VecWindow.put s.acc o1 S1x256x128.size (k0_pay764 (k0_pay758 (k0_pay633 (F := F)) k v (VecWindow.window s.qh o0 S1x256x128.size h0) (VecWindow.window s.qh o1 S1x256x128.size h1)) (VecWindow.window s.c o3 S1x256x1.size h3) (VecWindow.window s.acc o1 S1x256x128.size h1)),
           c := VecWindow.put s.c o3 S1x256x1.size (k0_pay3 (k0_pay765 (k0_pay759 (k0_pay633 (F := F)) k (VecWindow.window s.qh o0 S1x256x128.size h0) (VecWindow.window s.qh o1 S1x256x128.size h1)) (VecWindow.window s.c o3 S1x256x1.size h3))) }

/-- The block of keys `k`, `v`, all of them before the rows of the box, taken to those rows. Both heads. -/
def unitW (k v : Vec F S1x1x256x128 .bf16) (o0 o1 o2 o3 : Fin 3 → ℕ) (h0 : ∀ a, o0 a + S1x256x128.size a ≤ S2x2048x128.size a) (h1 : ∀ a, o1 a + S1x256x128.size a ≤ S2x2048x128.size a) (h2 : ∀ a, o2 a + S1x256x1.size a ≤ S2x2048x1.size a) (h3 : ∀ a, o3 a + S1x256x1.size a ≤ S2x2048x1.size a) (s : Sb F) : Sb F := unitWB k v o0 o1 o2 o3 h0 h1 h2 h3 (unitWA k v o0 o1 o2 o3 h0 h1 h2 h3 s)

/-- The keys, or the values, of the block `w` of the tile's own eight. -/
def own (x : S1x1x4096x128.Idx → Elt F .bf16) (w : BitVec 32) (h : ∀ a, k0_off4 i w a + S1x1x256x128.size a ≤ S1x1x4096x128.size a) : Vec F S1x1x256x128 .bf16 := VecWindow.window x (k0_off4 i w) S1x1x256x128.size h

/-- What the body sets before the first block of keys: each head's queries, its lanes of the scaled query and zero elsewhere, and zeros. -/
def init (s : Sb F) : Sb F :=
  { s with
    qh := VecWindow.put (VecWindow.put s.qh ![0, 0, 0] S1x2048x128.size (k0_pay628 (VecWindow.window X.x4 ![0, 0, 0, 0] S1x1x2048x128.size inb_S1x1x2048x128_S1x1x2048x128_0_0_0_0))) ![1, 0, 0] S1x2048x128.size (k0_pay630 (k0_pay626 (VecWindow.window X.x4 ![0, 0, 0, 0] S1x1x2048x128.size inb_S1x1x2048x128_S1x1x2048x128_0_0_0_0)) (k0_pay627 (F := F)) k0_pay629),
    acc := VecWindow.put s.acc ![0, 0, 0] S2x2048x128.size (k0_pay631 (F := F)),
    c := VecWindow.put s.c ![0, 0, 0] S2x2048x1.size (k0_pay632 (F := F)) }

/-- The diagonal units of the tile, from the last block of keys to the first. -/
def diagTo1 (s : Sb F) : Sb F :=
  let s := unitE (own i X.x5 7#32 (k0_off4_inb i 7)) (own i X.x6 7#32 (k0_off4_inb i 7)) 1792 (by decide) s
  let s := unitD (own i X.x5 6#32 (k0_off4_inb i 6)) (own i X.x6 6#32 (k0_off4_inb i 6)) 1536 (by decide) s
  let s := unitD (own i X.x5 5#32 (k0_off4_inb i 5)) (own i X.x6 5#32 (k0_off4_inb i 5)) 1280 (by decide) s
  let s := unitD (own i X.x5 4#32 (k0_off4_inb i 4)) (own i X.x6 4#32 (k0_off4_inb i 4)) 1024 (by decide) s
  let s := unitD (own i X.x5 3#32 (k0_off4_inb i 3)) (own i X.x6 3#32 (k0_off4_inb i 3)) 768 (by decide) s
  let s := unitD (own i X.x5 2#32 (k0_off4_inb i 2)) (own i X.x6 2#32 (k0_off4_inb i 2)) 512 (by decide) s
  let s := unitD (own i X.x5 1#32 (k0_off4_inb i 1)) (own i X.x6 1#32 (k0_off4_inb i 1)) 256 (by decide) s
  s

/-- The unit before the diagonal of the first rows, where there is one. -/
def before (s : Sb F) : Sb F :=
  if h : k0_cond2 i = 1#1 then
    unitW (VecWindow.window X.x5 (k0_off9 i) S1x1x256x128.size (k0_off9_inb i h)) (VecWindow.window X.x6 (k0_off9 i) S1x1x256x128.size (k0_off9_inb i h))
      ![0, 0, 0] ![1, 0, 0] ![0, 0, 0] ![1, 0, 0] inb_S2x2048x128_S1x256x128_0_0_0 inb_S2x2048x128_S1x256x128_1_0_0 inb_S2x2048x1_S1x256x1_0_0_0 inb_S2x2048x1_S1x256x1_1_0_0 s
  else s

/-- The first two stretches set the scratch and read the last block of the tile's keys. -/
theorem two_eq (s : Sb F) :
    (let r119 := sb119 X i s; let r := sb120 X i (BitVec.ofNat 32 (i 2).val) r119.1.2.1 r119.1.2.2.1 r119.1.2.2.2 r119.2
     r.2 = init X s ∧ r.1.1 = k0_pay633 (F := F) ∧ r.1.2.1 = k0_pay634 ∧ r.1.2.2.1 = k0_pay635 (own i X.x5 7#32 (k0_off4_inb i 7)) ∧ r.1.2.2.2 = k0_pay636 (own i X.x6 7#32 (k0_off4_inb i 7))
       ∧ r119.1.1 = iota .tc S2048x128 32 [1] iota_S2048x128_d1_w32) := by
  unfold sb119 sb120
  exact ⟨rfl, rfl, rfl, rfl, rfl, rfl⟩

/-- Read ahead of its unit: what the seventh unit starts from. -/
def c123 (s : Sb F) : (Σ' (_ : FVec F S256x128 .bf16) (_ : FVec F S1024x256 .f32) (_ : FVec F S1024x256 .f32), FVec F S1024x256 .f32) × Sb F :=
  (⟨k0_pay648 (VecWindow.window X.x6 (k0_off4 i 6#32) S1x1x256x128.size (k0_off4_inb i 6)), k0_pay649 (VecWindow.window X.x5 (k0_off4 i 6#32) S1x1x256x128.size (k0_off4_inb i 6)) (VecWindow.window s.qh ![0, 1536, 0] S1x512x128.size (box (by decide) (by decide))) (VecWindow.window s.qh ![1, 1536, 0] S1x512x128.size (box (by decide) (by decide))), k0_pay650 k0_pay634 (VecWindow.window X.x5 (k0_off4 i 6#32) S1x1x256x128.size (k0_off4_inb i 6)) (VecWindow.window s.qh ![0, 1536, 0] S1x512x128.size (box (by decide) (by decide))) (VecWindow.window s.qh ![1, 1536, 0] S1x512x128.size (box (by decide) (by decide))), k0_pay651 (k0_pay633 (F := F)) k0_pay634 (VecWindow.window X.x5 (k0_off4 i 6#32) S1x1x256x128.size (k0_off4_inb i 6)) (VecWindow.window s.qh ![0, 1536, 0] S1x512x128.size (box (by decide) (by decide))) (VecWindow.window s.qh ![1, 1536, 0] S1x512x128.size (box (by decide) (by decide)))⟩, s)

/-- Read ahead of its unit: what the sixth unit starts from. -/
def c125 (s : Sb F) : (Σ' (_ : FVec F S256x128 .bf16), FVec F S1024x256 .f32) × Sb F :=
  (⟨k0_pay660 (VecWindow.window X.x6 (k0_off4 i 5#32) S1x1x256x128.size (k0_off4_inb i 5)), k0_pay661 (VecWindow.window X.x5 (k0_off4 i 5#32) S1x1x256x128.size (k0_off4_inb i 5)) (VecWindow.window s.qh ![0, 1280, 0] S1x512x128.size (box (by decide) (by decide))) (VecWindow.window s.qh ![1, 1280, 0] S1x512x128.size (box (by decide) (by decide)))⟩, s)

/-- Read ahead of its unit: what the fourth unit starts from. -/
def c130 (s : Sb F) : (Σ' (_ : FVec F S256x128 .bf16) (_ : FVec F S1024x256 .f32) (_ : FVec F S1024x256 .f32) (_ : FVec F S1024x256 .f32), FVec F S1024x256 .f32) × Sb F :=
  (⟨k0_pay691 (VecWindow.window X.x6 (k0_off4 i 3#32) S1x1x256x128.size (k0_off4_inb i 3)), k0_pay692 (VecWindow.window X.x5 (k0_off4 i 3#32) S1x1x256x128.size (k0_off4_inb i 3)) (VecWindow.window s.qh ![0, 768, 0] S1x512x128.size (box (by decide) (by decide))) (VecWindow.window s.qh ![1, 768, 0] S1x512x128.size (box (by decide) (by decide))), k0_pay693 (VecWindow.window X.x5 (k0_off4 i 3#32) S1x1x256x128.size (k0_off4_inb i 3)) (VecWindow.window s.qh ![0, 768, 0] S1x512x128.size (box (by decide) (by decide))) (VecWindow.window s.qh ![1, 768, 0] S1x512x128.size (box (by decide) (by decide))), k0_pay694 (VecWindow.window X.x5 (k0_off4 i 3#32) S1x1x256x128.size (k0_off4_inb i 3)) (VecWindow.window s.qh ![0, 768, 0] S1x512x128.size (box (by decide) (by decide))) (VecWindow.window s.qh ![1, 768, 0] S1x512x128.size (box (by decide) (by decide))), k0_pay695 (F := F)⟩, s)

/-- Read ahead of its unit: what the second unit starts from. -/
def c135 (s : Sb F) : (Σ' (_ : FVec F S256x128 .bf16) (_ : FVec F S1024x256 .f32) (_ : FVec F S1024x256 .f32), FVec F S1024x256 .f32) × Sb F :=
  (⟨k0_pay724 (VecWindow.window X.x6 (k0_off4 i 1#32) S1x1x256x128.size (k0_off4_inb i 1)), k0_pay725 (VecWindow.window X.x5 (k0_off4 i 1#32) S1x1x256x128.size (k0_off4_inb i 1)) (VecWindow.window s.qh ![0, 256, 0] S1x512x128.size (box (by decide) (by decide))) (VecWindow.window s.qh ![1, 256, 0] S1x512x128.size (box (by decide) (by decide))), k0_pay726 (VecWindow.window X.x5 (k0_off4 i 1#32) S1x1x256x128.size (k0_off4_inb i 1)) (VecWindow.window s.qh ![0, 256, 0] S1x512x128.size (box (by decide) (by decide))) (VecWindow.window s.qh ![1, 256, 0] S1x512x128.size (box (by decide) (by decide))), k0_pay727 (VecWindow.window X.x5 (k0_off4 i 1#32) S1x1x256x128.size (k0_off4_inb i 1)) (VecWindow.window s.qh ![0, 256, 0] S1x512x128.size (box (by decide) (by decide))) (VecWindow.window s.qh ![1, 256, 0] S1x512x128.size (box (by decide) (by decide)))⟩, s)

/-- Read ahead of its unit: what the first unit starts from. -/
def c137 (s : Sb F) : FVec F S256x128 .bf16 × Sb F :=
  (k0_pay738 (VecWindow.window X.x5 (k0_off4 i 0#32) S1x1x256x128.size (k0_off4_inb i 0)), s)

/-- The stretches of the last diagonal unit. -/
def g7 (v1802 : FVec F S256x256 .bf16) (v1805 : IVec S256x256 1) (k v : FVec F S256x128 .bf16) (s : Sb F) : (Σ' (_ : FVec F S256x128 .bf16) (_ : FVec F S1024x256 .f32) (_ : FVec F S1024x256 .f32), FVec F S1024x256 .f32) × Sb F :=
  let r121 := sb121 X i v1802 v1805 k v s
  let r122 := sb122 X i r121.1.1 r121.1.2.1 r121.1.2.2 r121.2
  sb123 X i (BitVec.ofNat 32 (i 2).val) v1802 v1805 r122.1 r122.2

/-- The stretches of the unit of the seventh block. -/
def g6 (v1802 : FVec F S256x256 .bf16) (v1805 : IVec S256x256 1) (p : (Σ' (_ : FVec F S256x128 .bf16) (_ : FVec F S1024x256 .f32) (_ : FVec F S1024x256 .f32), FVec F S1024x256 .f32) × Sb F) : (Σ' (_ : FVec F S256x128 .bf16), FVec F S1024x256 .f32) × Sb F :=
  let r124 := sb124 X i v1805 p.1.1 p.1.2.1 p.1.2.2.1 p.1.2.2.2 p.2
  sb125 X i (BitVec.ofNat 32 (i 2).val) r124.1.1 r124.1.2.1 r124.1.2.2 r124.2

/-- The stretches of the unit of the sixth block. -/
def g5 (v1802 : FVec F S256x256 .bf16) (v1805 : IVec S256x256 1) (p : (Σ' (_ : FVec F S256x128 .bf16), FVec F S1024x256 .f32) × Sb F) : (Σ' (_ : BitVec 32), BitVec 32) × Sb F :=
  let r126 := sb126 X i v1802 v1805 p.1.1 p.1.2 p.2
  sb127 X i (BitVec.ofNat 32 (i 2).val) r126.1.1 r126.1.2.1 r126.1.2.2.1 r126.1.2.2.2.1 r126.1.2.2.2.2 r126.2

/-- The stretches of the unit of the fifth block. -/
def g4 (v1802 : FVec F S256x256 .bf16) (v1805 : IVec S256x256 1) (p : (Σ' (_ : BitVec 32), BitVec 32) × Sb F) : (Σ' (_ : FVec F S256x128 .bf16) (_ : FVec F S1024x256 .f32) (_ : FVec F S1024x256 .f32) (_ : FVec F S1024x256 .f32), FVec F S1024x256 .f32) × Sb F :=
  let r128 := sb128 X i v1802 v1805 p.1.1 p.1.2 p.2
  let r129 := sb129 X i v1805 r128.1.1 r128.1.2.1 r128.1.2.2.1 r128.1.2.2.2.1 r128.1.2.2.2.2.1 r128.1.2.2.2.2.2 r128.2
  sb130 X i (BitVec.ofNat 32 (i 2).val) r129.1.1 r129.1.2.1 r129.1.2.2.1 r129.1.2.2.2.1 r129.1.2.2.2.2 r129.2

/-- The stretches of the unit of the fourth block. -/
def g3 (v1802 : FVec F S256x256 .bf16) (v1805 : IVec S256x256 1) (p : (Σ' (_ : FVec F S256x128 .bf16) (_ : FVec F S1024x256 .f32) (_ : FVec F S1024x256 .f32) (_ : FVec F S1024x256 .f32), FVec F S1024x256 .f32) × Sb F) : BitVec 32 × Sb F :=
  let r131 := sb131 X i v1802 v1805 p.1.1 p.1.2.1 p.1.2.2.1 p.1.2.2.2.1 p.1.2.2.2.2 p.2
  sb132 X i (BitVec.ofNat 32 (i 2).val) r131.1.1 r131.1.2.1 r131.1.2.2.1 r131.1.2.2.2 r131.2

/-- The stretches of the unit of the third block. -/
def g2 (v1802 : FVec F S256x256 .bf16) (v1805 : IVec S256x256 1) (p : BitVec 32 × Sb F) : (Σ' (_ : FVec F S256x128 .bf16) (_ : FVec F S1024x256 .f32) (_ : FVec F S1024x256 .f32), FVec F S1024x256 .f32) × Sb F :=
  let r133 := sb133 X i v1802 v1805 p.1 p.2
  let r134 := sb134 X i r133.1.1 r133.1.2.1 r133.1.2.2.1 r133.1.2.2.2.1 r133.1.2.2.2.2.1 r133.1.2.2.2.2.2.1 r133.1.2.2.2.2.2.2 r133.2
  sb135 X i (BitVec.ofNat 32 (i 2).val) r134.1.1 r134.1.2.1 r134.1.2.2 r134.2

/-- The stretches of the unit of the second block. -/
def g1 (v1802 : FVec F S256x256 .bf16) (v1805 : IVec S256x256 1) (p : (Σ' (_ : FVec F S256x128 .bf16) (_ : FVec F S1024x256 .f32) (_ : FVec F S1024x256 .f32), FVec F S1024x256 .f32) × Sb F) : FVec F S256x128 .bf16 × Sb F :=
  let r136 := sb136 X i v1802 v1805 p.1.1 p.1.2.1 p.1.2.2.1 p.1.2.2.2 p.2
  sb137 X i (BitVec.ofNat 32 (i 2).val) r136.1.1 r136.1.2.1 r136.1.2.2 r136.2

/-- The stretches of the unit of the first block, and of the unit before it. -/
def g0 (v1802 : FVec F S256x256 .bf16) (v1805 : IVec S256x256 1) (p : FVec F S256x128 .bf16 × Sb F) : Sb F :=
  let r138 := sb138 X i v1802 v1805 p.1 p.2
  let r139 := sb139 X i r138.1.1 r138.1.2.1 r138.1.2.2 r138.2
  sb140 X i (BitVec.ofNat 32 (i 2).val) v1802 r139.1.1 r139.1.2.1 r139.1.2.2 r139.2

/-- The eight in order. -/
def g (v1802 : FVec F S256x256 .bf16) (v1805 : IVec S256x256 1) (k v : FVec F S256x128 .bf16) (s : Sb F) : Sb F :=
  g0 X i v1802 v1805 (g1 X i v1802 v1805 (g2 X i v1802 v1805 (g3 X i v1802 v1805 (g4 X i v1802 v1805 (g5 X i v1802 v1805 (g6 X i v1802 v1805 (g7 X i v1802 v1805 k v s)))))))

/-- The last diagonal unit. -/
theorem g7_eq (s : Sb F) : g7 X i (k0_pay633 (F := F)) k0_pay634 (k0_pay635 (own i X.x5 7#32 (k0_off4_inb i 7))) (k0_pay636 (own i X.x6 7#32 (k0_off4_inb i 7))) s
    = c123 X i (unitE (own i X.x5 7#32 (k0_off4_inb i 7)) (own i X.x6 7#32 (k0_off4_inb i 7)) 1792 (by decide) s) := by
  unfold g7 sb121 sb122 sb123 unitE unitEB unitEA own c123
  rfl

/-- The unit of the seventh block. -/
theorem g6_eq (s : Sb F) : g6 X i (k0_pay633 (F := F)) k0_pay634 (c123 X i s) = c125 X i (unitD (own i X.x5 6#32 (k0_off4_inb i 6)) (own i X.x6 6#32 (k0_off4_inb i 6)) 1536 (by decide) s) := by
  unfold g6 sb124 sb125 unitD unitDB unitDA own c123 c125
  rfl

/-- The unit of the sixth block. -/
theorem g5_eq (s : Sb F) : ∃ p, g5 X i (k0_pay633 (F := F)) k0_pay634 (c125 X i s) = (p, unitD (own i X.x5 5#32 (k0_off4_inb i 5)) (own i X.x6 5#32 (k0_off4_inb i 5)) 1280 (by decide) s) := by
  unfold g5 sb126 sb127 unitD unitDB unitDA own c125
  exact ⟨_, rfl⟩

/-- The unit of the fifth block. -/
theorem g4_eq (p : Σ' (_ : BitVec 32), BitVec 32) (s : Sb F) : g4 X i (k0_pay633 (F := F)) k0_pay634 (p, s) = c130 X i (unitD (own i X.x5 4#32 (k0_off4_inb i 4)) (own i X.x6 4#32 (k0_off4_inb i 4)) 1024 (by decide) s) := by
  unfold g4 sb128 sb129 sb130 unitD unitDB unitDA own c130
  rfl

/-- The unit of the fourth block. -/
theorem g3_eq (s : Sb F) : ∃ p, g3 X i (k0_pay633 (F := F)) k0_pay634 (c130 X i s) = (p, unitD (own i X.x5 3#32 (k0_off4_inb i 3)) (own i X.x6 3#32 (k0_off4_inb i 3)) 768 (by decide) s) := by
  unfold g3 sb131 sb132 unitD unitDB unitDA own c130
  exact ⟨_, rfl⟩

/-- The unit of the third block. -/
theorem g2_eq (p : BitVec 32) (s : Sb F) : g2 X i (k0_pay633 (F := F)) k0_pay634 (p, s) = c135 X i (unitD (own i X.x5 2#32 (k0_off4_inb i 2)) (own i X.x6 2#32 (k0_off4_inb i 2)) 512 (by decide) s) := by
  unfold g2 sb133 sb134 sb135 unitD unitDB unitDA own c135
  rfl

/-- The unit of the second block. -/
theorem g1_eq (s : Sb F) : g1 X i (k0_pay633 (F := F)) k0_pay634 (c135 X i s) = c137 X i (unitD (own i X.x5 1#32 (k0_off4_inb i 1)) (own i X.x6 1#32 (k0_off4_inb i 1)) 256 (by decide) s) := by
  unfold g1 sb136 sb137 unitD unitDB unitDA own c135 c137
  rfl

/-- The unit of the first block, and the unit before it. -/
theorem g0_eq (s : Sb F) : g0 X i (k0_pay633 (F := F)) k0_pay634 (c137 X i s) = before X i (unitD (own i X.x5 0#32 (k0_off4_inb i 0)) (own i X.x6 0#32 (k0_off4_inb i 0)) 0 (by decide) s) := by
  unfold g0 sb138 sb139 sb140 sb74 sb75 before unitD unitDB unitDA own unitW unitWA unitWB c137
  rfl

/-- One trip of a walk is a unit. -/
theorem trip_eq (k0_t3 : Fin k0_t3_loop.trips) (j : BitVec 32) (h : k0_chk1 j) (s : Sb F) :
    trip X i k0_t3 (k0_pay633 (F := F)) j h s = unitW (VecWindow.window X.x5 (k0_off11 j) S1x1x256x128.size (k0_off11_inb j h)) (VecWindow.window X.x6 (k0_off11 j) S1x1x256x128.size (k0_off11_inb j h))
      (k0_off12 k0_t3) (k0_off13 k0_t3) (k0_off14 k0_t3) (k0_off15 k0_t3) (k0_off12_inb k0_t3) (k0_off13_inb k0_t3) (k0_off14_inb k0_t3) (k0_off15_inb k0_t3) s := by
  unfold trip sb142 sb143 unitW unitWA unitWB
  rfl

/-- The two stretches before the units: the scratch is set and the last block of the tile's keys is read. -/
theorem sbDiag_eq_g (s : Sb F) : sbDiag X i s
    = (let r119 := sb119 X i s; let r := sb120 X i (BitVec.ofNat 32 (i 2).val) r119.1.2.1 r119.1.2.2.1 r119.1.2.2.2 r119.2
       g X i r.1.1 r.1.2.1 r.1.2.2.1 r.1.2.2.2 r.2) := rfl

/-- The diagonal phase is the setting of the scratch, the eight diagonal units, and the unit before the first. -/
theorem sbDiag_eq (s : Sb F) : sbDiag X i s = before X i (unitD (own i X.x5 0#32 (k0_off4_inb i 0)) (own i X.x6 0#32 (k0_off4_inb i 0)) 0 (by decide) (diagTo1 X i (init X s))) := by
  obtain ⟨e1, e2, e3, e4, e5, e6⟩ := two_eq X i s
  rw [sbDiag_eq_g]
  dsimp only at e1 e2 e3 e4 e5 ⊢
  rw [e1, e2, e3, e4, e5]
  unfold g
  rw [g7_eq, g6_eq]
  obtain ⟨p, hp⟩ := g5_eq X i (unitD (own i X.x5 6#32 (k0_off4_inb i 6)) (own i X.x6 6#32 (k0_off4_inb i 6)) 1536 (by decide) (unitE (own i X.x5 7#32 (k0_off4_inb i 7)) (own i X.x6 7#32 (k0_off4_inb i 7)) 1792 (by decide) (init X s)))
  rw [hp, g4_eq]
  obtain ⟨p', hp'⟩ := g3_eq X i (unitD (own i X.x5 4#32 (k0_off4_inb i 4)) (own i X.x6 4#32 (k0_off4_inb i 4)) 1024 (by decide) (unitD (own i X.x5 5#32 (k0_off4_inb i 5)) (own i X.x6 5#32 (k0_off4_inb i 5)) 1280 (by decide) (unitD (own i X.x5 6#32 (k0_off4_inb i 6)) (own i X.x6 6#32 (k0_off4_inb i 6)) 1536 (by decide) (unitE (own i X.x5 7#32 (k0_off4_inb i 7)) (own i X.x6 7#32 (k0_off4_inb i 7)) 1792 (by decide) (init X s)))))
  rw [hp', g2_eq, g1_eq, g0_eq]
  rfl

/-- The triangle the walks use, and the lanes the result is chosen by. -/
theorem sb141_tri (s : Sb F) : (sb141 X i s).1.2.2.2.1 = k0_pay633 (F := F) ∧ (sb141 X i s).1.2.2.1 = iota .tc S2048x128 32 [1] iota_S2048x128_d1_w32 := by
  obtain ⟨e1, e2, e3, e4, e5, e6⟩ := two_eq X i s
  unfold sb141
  exact ⟨e2, e6⟩

end Cert.AttnIdeal.Body
-- ==== Proof.StickReal.lean ====
/-
  Stick-breaking weights over the reals: a row's scores, the weight each key before the row takes, and how the weighted
  sum of the values and the accumulated logarithm grow when one more block of 256 keys is taken in front of those already
  taken.
-/
module

public import Mathlib.Analysis.SpecialFunctions.Log.Basic
public import Mathlib.Analysis.SpecialFunctions.Pow.Real
public import Idealize.ShloMosaic.Lib.IdealHost

@[expose] public section

noncomputable section

namespace Cert.Stick

open Idealize.ShloMosaic Idealize.ShloMosaic.TcCoe

/-- The logarithm of one plus the exponential, written so that no exponential is of a positive number. -/
def softplus (x : ℝ) : ℝ := max x 0 + Real.log (1 + Real.exp (-|x|))

/-- What key `n` takes off the logarithm for a row that sees the keys below `R`. -/
def take (z : ℕ → ℝ) (R n : ℕ) : ℝ := if n < R then softplus (z n) else 0

/-- What the keys from `J` on take off. -/
def taken (z : ℕ → ℝ) (R J : ℕ) : ℝ := ∑ n ∈ Finset.Ico J 4096, take z R n

/-- The weight of key `n`. -/
def weight (z : ℕ → ℝ) (R n : ℕ) : ℝ := if n < R then Real.exp (z n - taken z R n) else 0

/-- The values `v` of the keys from `J` on, weighted. -/
def mixed (z : ℕ → ℝ) (R : ℕ) (v : ℕ → ℝ) (J : ℕ) : ℝ := ∑ n ∈ Finset.Ico J 4096, weight z R n * v n

/-- What one block of 256 keys takes off, the keys in `p` only. -/
def blockTake (z : Fin 256 → ℝ) (p : Fin 256 → Prop) [DecidablePred p] (κ : Fin 256) : ℝ := if p κ then softplus (z κ) else 0

/-- What the keys of the block after `κ` take off. -/
def blockAfter (z : Fin 256 → ℝ) (p : Fin 256 → Prop) [DecidablePred p] (κ : Fin 256) : ℝ := ∑ x, if κ < x then blockTake z p x else 0

/-- The block's own weighted values. -/
def blockMixed (z : Fin 256 → ℝ) (p : Fin 256 → Prop) [DecidablePred p] (v : Fin 256 → ℝ) : ℝ :=
  ∑ κ, (if p κ then Real.exp (z κ - blockTake z p κ - blockAfter z p κ) else 0) * v κ

theorem ico_split (f : ℕ → ℝ) (j : ℕ) (hj : j < 16) :
    ∑ n ∈ Finset.Ico (256 * j) 4096, f n = ∑ n ∈ Finset.Ico (256 * (j + 1)) 4096, f n + ∑ κ : Fin 256, f (256 * j + κ.val) := by
  have h1 : 256 * j ≤ 256 * (j + 1) := by omega
  have h2 : 256 * (j + 1) ≤ 4096 := by omega
  rw [← Finset.sum_Ico_consecutive f h1 h2, add_comm]
  congr 1
  rw [Finset.sum_Ico_eq_sum_range, ← Fin.sum_univ_eq_sum_range (fun k => f (256 * j + k))]
  have e : 256 * (j + 1) - 256 * j = 256 := by omega
  rw [e]

theorem ico_split_at (f : ℕ → ℝ) (j : ℕ) (hj : j < 16) (κ : Fin 256) :
    ∑ n ∈ Finset.Ico (256 * j + κ.val) 4096, f n
      = ∑ n ∈ Finset.Ico (256 * (j + 1)) 4096, f n + (f (256 * j + κ.val) + ∑ x : Fin 256, if κ < x then f (256 * j + x.val) else 0) := by
  have h0 : 256 * j + κ.val < 4096 := by omega
  have hκ := κ.isLt
  have h1 : 256 * j ≤ 256 * (j + 1) := by omega
  have h2 : 256 * (j + 1) ≤ 4096 := by omega
  have key : ∑ n ∈ Finset.Ico (256 * j + κ.val) 4096, f n = ∑ n ∈ Finset.Ico (256 * j) 4096, if 256 * j + κ.val ≤ n then f n else 0 := by
    rw [← Finset.sum_filter]
    refine Finset.sum_congr (Finset.ext fun n => ?_) fun _ _ => rfl
    simp only [Finset.mem_Ico, Finset.mem_filter]
    omega
  rw [key, ico_split _ j hj]
  congr 1
  · refine Finset.sum_congr rfl fun n hn => if_pos ?_
    have := (Finset.mem_Ico.mp hn).1
    omega
  · have e : ∀ x : Fin 256, (if 256 * j + κ.val ≤ 256 * j + x.val then f (256 * j + x.val) else 0)
        = (if x = κ then f (256 * j + κ.val) else 0) + (if κ < x then f (256 * j + x.val) else 0) := by
      intro x
      rcases lt_trichotomy κ x with h | h | h
      · have h' : κ.val < x.val := h
        rw [if_pos (by omega), if_neg (ne_of_gt h), if_pos h, zero_add]
      · subst h
        rw [if_pos (le_refl _), if_pos rfl, if_neg (lt_irrefl _), add_zero]
      · have h' : x.val < κ.val := h
        rw [if_neg (by omega), if_neg (ne_of_lt h), if_neg (not_lt.mpr (le_of_lt h)), add_zero]
    rw [Finset.sum_congr rfl fun x _ => e x, Finset.sum_add_distrib, Finset.sum_ite_eq' Finset.univ κ, if_pos (Finset.mem_univ _)]

/-- A block of keys put before those already taken: the logarithm. -/
theorem taken_step (z : ℕ → ℝ) (R j : ℕ) (hj : j < 16) (p : Fin 256 → Prop) [DecidablePred p] (hp : ∀ κ, p κ ↔ 256 * j + κ.val < R) :
    taken z R (256 * j) = taken z R (256 * (j + 1)) + ∑ κ, blockTake (fun κ => z (256 * j + κ.val)) p κ := by
  unfold taken
  rw [ico_split _ j hj]
  congr 1
  refine Finset.sum_congr rfl fun κ _ => ?_
  unfold take blockTake
  by_cases h : p κ
  · rw [if_pos h, if_pos ((hp κ).mp h)]
  · rw [if_neg h, if_neg (fun h' => h ((hp κ).mpr h'))]

/-- A block of keys put before those already taken: the weighted values. -/
theorem mixed_step (z : ℕ → ℝ) (R j : ℕ) (hj : j < 16) (v : ℕ → ℝ) (p : Fin 256 → Prop) [DecidablePred p] (hp : ∀ κ, p κ ↔ 256 * j + κ.val < R) :
    mixed z R v (256 * j) = mixed z R v (256 * (j + 1))
      + Real.exp (0 - taken z R (256 * (j + 1))) * blockMixed (fun κ => z (256 * j + κ.val)) p (fun κ => v (256 * j + κ.val)) := by
  unfold mixed
  rw [ico_split _ j hj]
  congr 1
  unfold blockMixed
  rw [Finset.mul_sum]
  refine Finset.sum_congr rfl fun κ _ => ?_
  have ht : ∀ x : Fin 256, blockTake (fun κ => z (256 * j + κ.val)) p x = take z R (256 * j + x.val) := by
    intro x
    unfold take blockTake
    by_cases h : p x
    · rw [if_pos h, if_pos ((hp x).mp h)]
    · rw [if_neg h, if_neg (fun h' => h ((hp x).mpr h'))]
  unfold weight
  by_cases h : p κ
  · rw [if_pos ((hp κ).mp h), if_pos h, ← mul_assoc, ← Real.exp_add]
    congr 2
    unfold blockAfter
    simp only [ht]
    unfold taken
    rw [ico_split_at _ j hj κ]
    ring
  · rw [if_neg h, if_neg (fun h' => h ((hp κ).mpr h'))]
    ring

/-- Keys at or after the row take nothing. -/
theorem taken_of_le (z : ℕ → ℝ) (R J : ℕ) (h : R ≤ J) : taken z R J = 0 :=
  Finset.sum_eq_zero fun n hn => if_neg (by have := (Finset.mem_Ico.mp hn).1; omega)

/-- Keys at or after the row weigh nothing. -/
theorem mixed_of_le (z : ℕ → ℝ) (R : ℕ) (v : ℕ → ℝ) (J : ℕ) (h : R ≤ J) : mixed z R v J = 0 :=
  Finset.sum_eq_zero fun n hn => by
    have := (Finset.mem_Ico.mp hn).1
    unfold weight
    rw [if_neg (by omega), zero_mul]

/-! ## As extended reals -/

/-- A sum of reals read as extended reals. -/
theorem sum_coe {ι : Type*} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

theorem sum_of {ι : Type*} [Fintype ι] (g : ι → EReal) (f : ι → ℝ) (h : ∀ i, g i = ((f i : ℝ) : EReal)) : (∑ i, g i) = ((∑ i, f i : ℝ) : EReal) := by
  rw [← sum_coe]; exact Finset.sum_congr rfl fun i _ => h i

theorem ite_coe (p : Prop) [Decidable p] (x : ℝ) : (if p then ((x : ℝ) : EReal) else 0) = ((if p then x else 0 : ℝ) : EReal) := by
  by_cases h : p
  · rw [if_pos h, if_pos h]
  · rw [if_neg h, if_neg h, EReal.coe_zero]

theorem max_coe (x y : ℝ) : max (x : EReal) (y : EReal) = ((max x y : ℝ) : EReal) :=
  ((EReal.coe_strictMono.monotone).map_max).symm

theorem one_add_exp_pos (y : ℝ) : 0 < 1 + Real.exp y := by positivity

/-- The kernel's form of it: the exponential of base two of the magnitude times minus the binary logarithm of the base of
    the natural logarithm. -/
theorem softplus_kernel (x : ℝ) :
    max (x : EReal) 0 + Ideal.log (1 + Ideal.exp2 (((|x| : ℝ) : EReal) * ((-((Real.log 2)⁻¹) : ℝ) : EReal))) = ((softplus x : ℝ) : EReal) := by
  have hl : Real.log 2 ≠ 0 := Real.log_ne_zero_of_pos_of_ne_one (by norm_num) (by norm_num)
  have e : Real.rpow 2 (|x| * -((Real.log 2)⁻¹)) = Real.exp (-|x|) := by
    show (2 : ℝ) ^ (|x| * -((Real.log 2)⁻¹)) = _
    rw [Real.rpow_def_of_pos (by norm_num : (0 : ℝ) < 2)]
    congr 1
    field_simp
  rw [← EReal.coe_mul, Ideal.exp2_coe, e, ← EReal.coe_one, ← EReal.coe_add, Ideal.log_coe, if_neg (not_le.mpr (one_add_exp_pos _)),
    ← EReal.coe_zero, max_coe, ← EReal.coe_add]
  rfl

end Cert.Stick
-- ==== Proof.AttnIdealRows.lean ====
/-
  One unit of the stick-breaking half, read at a row at the ideal instance: where the scores, the values and the state are
  real, what the unit adds to the weighted sum of the values and to the accumulated logarithm.
-/
module

public import proofs.«01_k».proof.Proof.AttnIdealUnits
public import proofs.«01_k».proof.Proof.StickReal
public import Idealize.ShloMosaic.Lib.Pipeline.ValueKit
public import Idealize.ShloMosaic.Lib.Pointwise
public import Idealize.ShloMosaic.Lib.WordCmp
public import Idealize.ShloMosaic.Lib.Tactic.CleanTypes

@[expose] public section

set_option maxRecDepth 16384

noncomputable section

namespace Cert.AttnIdeal.Body

open Cert.AttnIdeal Cert.AttnIdeal.Gen Idealize.ShloMosaic.Pointwise Cert.Stick
open Idealize.ShloMosaic Idealize.ShloMosaic.TcCoe Idealize.SL.Sem

/-! ## One row, away from the arrays -/

/-- What the kernel takes off the logarithm, of a score. -/
def taking (z : EReal) : EReal := max z 0 + Ideal.log (1 + FloatOps.exp2 (F := Ideal) (φ := .f32) (FloatOps.absf (F := Ideal) (φ := .f32) z * Named.named (F := Ideal) AttnIdeal.κ "neg_log2e" (φ := .f32) 0xBFB8AA3B#32))

theorem taking_coe (x : ℝ) : taking (x : EReal) = ((softplus x : ℝ) : EReal) := by
  rw [← softplus_kernel]
  unfold taking
  rw [IdealRules.named_const.ideal_named_scalar AttnIdeal.κ "neg_log2e" (φ := .f32) 0xBFB8AA3B#32 ((-((Real.log 2)⁻¹) : ℝ) : EReal) (by rfl)]
  have ha : FloatOps.absf (F := Ideal) (φ := .f32) (x : EReal) = ((|x| : ℝ) : EReal) := by
    show max (x : EReal) (-(x : EReal)) = _
    rw [← EReal.coe_neg, max_coe]; rfl
  rw [ha]
  rfl

theorem sel_sgt {α : Type} (x y : Fin 256) (a b : α) :
    Scalar.select (IntOp.cmpi CmpIPredicate.sgt (BitVec.ofNat 32 x.val) (BitVec.ofNat 32 y.val)) a b = if y < x then a else b := by
  rw [WordCmp.cmpi_sgt_ofNat (by have := x.isLt; omega) (by have := y.isLt; omega), WordCmp.select_decide]
  rfl

theorem sel_slt {α : Type} (x y : ℕ) (hx : x < 4096) (hy : y < 4096) (a b : α) :
    Scalar.select (IntOp.cmpi CmpIPredicate.slt (BitVec.ofNat 32 x) (BitVec.ofNat 32 y)) a b = if x < y then a else b := by
  rw [WordCmp.cmpi_slt_ofNat (by omega) (by omega), WordCmp.select_decide]

variable (z : Fin 256 → ℝ) (p : Fin 256 → Prop) [DecidablePred p]

theorem after_row (SP : Fin 256 → EReal) (h : ∀ κ, SP κ = ((blockTake z p κ : ℝ) : EReal)) (κ : Fin 256) :
    ∑ x : Fin 256, Scalar.select (IntOp.cmpi CmpIPredicate.sgt (BitVec.ofNat 32 x.val) (BitVec.ofNat 32 κ.val)) (SP x) 0 = ((blockAfter z p κ : ℝ) : EReal) := by
  unfold blockAfter
  refine sum_of _ _ fun x => ?_
  rw [sel_sgt, h, ite_coe]

theorem total_row : blockAfter z p 0 + blockTake z p 0 = ∑ κ, blockTake z p κ := by
  unfold blockAfter
  have e : ∀ x : Fin 256, blockTake z p x = (if 0 < x then blockTake z p x else 0) + (if x = 0 then blockTake z p 0 else 0) := by
    intro x
    by_cases h : x = 0
    · subst h; rw [if_neg (lt_irrefl _), if_pos rfl, zero_add]
    · rw [if_pos (Fin.pos_of_ne_zero h), if_neg h, add_zero]
  rw [Finset.sum_congr rfl fun x _ => e x, Finset.sum_add_distrib, Finset.sum_ite_eq' Finset.univ (0 : Fin 256), if_pos (Finset.mem_univ _)]

theorem mixed_row (Z SP CS W : Fin 256 → EReal) (V : Fin 256 → EReal) (v : Fin 256 → ℝ)
    (hz : ∀ κ, Z κ = ((z κ : ℝ) : EReal)) (hs : ∀ κ, SP κ = ((blockTake z p κ : ℝ) : EReal)) (hc : ∀ κ, CS κ = ((blockAfter z p κ : ℝ) : EReal))
    (hv : ∀ κ, V κ = ((v κ : ℝ) : EReal)) (hw : ∀ κ, W κ = if p κ then Ideal.exp (Z κ - SP κ - CS κ) else 0) :
    ∑ κ, W κ * V κ = ((blockMixed z p v : ℝ) : EReal) := by
  unfold blockMixed
  refine sum_of _ _ fun κ => ?_
  rw [hw, hz, hs, hc, hv, ← EReal.coe_sub, ← EReal.coe_sub, Ideal.exp_coe, ite_coe, ← EReal.coe_mul]

theorem take_row (Z : EReal) (κ : Fin 256) (hz : Z = ((z κ : ℝ) : EReal)) : (if p κ then taking Z else 0) = ((blockTake z p κ : ℝ) : EReal) := by
  unfold blockTake
  rw [hz, taking_coe, ite_coe]

/-! ## A block before the rows -/

/-- A score. -/
theorem zW (k : Vec Ideal S1x1x256x128 .bf16) (qa qb : Vec Ideal S1x256x128 .bf16) (r : Fin 512) (κ : Fin 256) :
    k0_pay755 k qa qb (ix2 r κ) = ∑ x, (if h : r.val < 256 then qa (ix3 0 ⟨r.val, h⟩ x) else qb (ix3 0 ⟨r.val - 256, by omega⟩ x)) * k (ix4 0 0 κ x) := by
  pointwise [k0_pay755]

/-- The keys a row of the unit sees: all. -/
def PW (_ : Fin 512) (_ : Fin 256) : Prop := True

instance (r : Fin 512) : DecidablePred (PW r) := fun κ => by unfold PW; infer_instance

/-- What a score takes off the logarithm. -/
theorem spW (k : Vec Ideal S1x1x256x128 .bf16) (qa qb : Vec Ideal S1x256x128 .bf16) (r : Fin 512) (κ : Fin 256) :
    k0_pay756 k qa qb (ix2 r κ) = if PW r κ then taking (k0_pay755 k qa qb (ix2 r κ)) else 0 := by
  unfold k0_pay756
  generalize k0_pay755 k qa qb = z
  pointwise
  rw [if_pos (show PW r κ from trivial)]; rfl

/-- What the keys of the block after one take off. -/
theorem csW (k : Vec Ideal S1x1x256x128 .bf16) (qa qb : Vec Ideal S1x256x128 .bf16) (r : Fin 512) (κ : Fin 256) :
    k0_pay757 (k0_pay633 (F := Ideal)) k qa qb (ix2 r κ) = ∑ x : Fin 256, Scalar.select (IntOp.cmpi CmpIPredicate.sgt (BitVec.ofNat 32 x.val) (BitVec.ofNat 32 κ.val)) (k0_pay756 k qa qb (ix2 r x)) 0 := by
  unfold k0_pay757
  generalize k0_pay756 k qa qb = z
  pointwise [k0_pay633]

/-- The block's weighted values. -/
theorem pvW (k v : Vec Ideal S1x1x256x128 .bf16) (qa qb : Vec Ideal S1x256x128 .bf16) (r : Fin 512) (l : Fin 128) :
    k0_pay758 (k0_pay633 (F := Ideal)) k v qa qb (ix2 r l) = ∑ x : Fin 256, (if PW r x then Ideal.exp (k0_pay755 k qa qb (ix2 r x) - k0_pay756 k qa qb (ix2 r x) - k0_pay757 (k0_pay633 (F := Ideal)) k qa qb (ix2 r x)) else 0) * v (ix4 0 0 x l) := by
  unfold k0_pay758
  generalize k0_pay757 (k0_pay633 (F := Ideal)) k qa qb = cs
  generalize k0_pay756 k qa qb = sp
  generalize k0_pay755 k qa qb = z
  pointwise
  refine Finset.sum_congr rfl fun x _ => congrArg (· * v (ix4 0 0 x l)) ?_
  rw [if_pos (show PW r x from trivial)]

/-- What the block takes off. -/
theorem totW (k : Vec Ideal S1x1x256x128 .bf16) (qa qb : Vec Ideal S1x256x128 .bf16) (r : Fin 512) :
    k0_pay759 (k0_pay633 (F := Ideal)) k qa qb (ix2 r 0) = k0_pay757 (k0_pay633 (F := Ideal)) k qa qb (ix2 r 0) + k0_pay756 k qa qb (ix2 r 0) := by
  unfold k0_pay759
  generalize k0_pay757 (k0_pay633 (F := Ideal)) k qa qb = cs
  generalize k0_pay756 k qa qb = sp
  pointwise

/-- The unit at a row whose query is real. -/
theorem rowW (k v : Vec Ideal S1x1x256x128 .bf16) (qa qb : Vec Ideal S1x256x128 .bf16) (r : Fin 512) (Q : Fin 128 → ℝ)
    (hq : ∀ x, (if h : r.val < 256 then qa (ix3 0 ⟨r.val, h⟩ x) else qb (ix3 0 ⟨r.val - 256, by omega⟩ x)) = ((Q x : ℝ) : EReal))
    (K V : Fin 256 → Fin 128 → ℝ) (hk : ∀ κ x, k (ix4 0 0 κ x) = ((K κ x : ℝ) : EReal)) (hv : ∀ κ x, v (ix4 0 0 κ x) = ((V κ x : ℝ) : EReal)) :
    (∀ l, k0_pay758 (k0_pay633 (F := Ideal)) k v qa qb (ix2 r l) = ((blockMixed (fun κ => ∑ x, Q x * K κ x) (PW r) (fun κ => V κ l) : ℝ) : EReal))
    ∧ k0_pay759 (k0_pay633 (F := Ideal)) k qa qb (ix2 r 0) = ((∑ κ, blockTake (fun κ => ∑ x, Q x * K κ x) (PW r) κ : ℝ) : EReal) := by
  have hz : ∀ κ, k0_pay755 k qa qb (ix2 r κ) = ((∑ x, Q x * K κ x : ℝ) : EReal) := fun κ => by
    rw [zW]
    exact sum_of _ _ fun x => by rw [hq, hk, ← EReal.coe_mul]
  have hs : ∀ κ, k0_pay756 k qa qb (ix2 r κ) = ((blockTake (fun κ => ∑ x, Q x * K κ x) (PW r) κ : ℝ) : EReal) := fun κ => by
    rw [spW]
    exact take_row (fun κ => ∑ x, Q x * K κ x) (PW r) _ κ (hz κ)
  have hc : ∀ κ, k0_pay757 (k0_pay633 (F := Ideal)) k qa qb (ix2 r κ) = ((blockAfter (fun κ => ∑ x, Q x * K κ x) (PW r) κ : ℝ) : EReal) := fun κ => by
    rw [csW]
    exact after_row _ (PW r) (fun x => k0_pay756 k qa qb (ix2 r x)) hs κ
  refine ⟨fun l => ?_, ?_⟩
  · rw [pvW]
    exact mixed_row _ (PW r) (fun κ => k0_pay755 k qa qb (ix2 r κ)) (fun κ => k0_pay756 k qa qb (ix2 r κ)) (fun κ => k0_pay757 (k0_pay633 (F := Ideal)) k qa qb (ix2 r κ)) _ (fun κ => v (ix4 0 0 κ l)) (fun κ => V κ l) hz hs hc (fun κ => hv κ l) fun κ => rfl
  · rw [totW, hc, hs, ← EReal.coe_add, total_row]

/-! ## The last block of the tile, on its diagonal -/

/-- A score. -/
theorem zE (k : Vec Ideal S1x1x256x128 .bf16) (qa qb : Vec Ideal S1x256x128 .bf16) (r : Fin 512) (κ : Fin 256) :
    k0_pay637 (k0_pay635 k) qa qb (ix2 r κ) = ∑ x, (if h : r.val < 256 then qa (ix3 0 ⟨r.val, h⟩ x) else qb (ix3 0 ⟨r.val - 256, by omega⟩ x)) * k (ix4 0 0 κ x) := by
  pointwise [k0_pay637, k0_pay635]

/-- The keys a row of the unit sees. -/
def PE (r : Fin 512) (κ : Fin 256) : Prop := (r.val < 256 → κ.val < r.val) ∧ (256 ≤ r.val → κ.val < r.val - 256)

instance (r : Fin 512) : DecidablePred (PE r) := fun κ => by unfold PE; infer_instance

/-- What a score takes off the logarithm. -/
theorem spE (k : Vec Ideal S1x1x256x128 .bf16) (qa qb : Vec Ideal S1x256x128 .bf16) (r : Fin 512) (κ : Fin 256) :
    k0_pay638 k0_pay634 (k0_pay635 k) qa qb (ix2 r κ) = if PE r κ then taking (k0_pay637 (k0_pay635 k) qa qb (ix2 r κ)) else 0 := by
  unfold k0_pay638
  generalize k0_pay637 (k0_pay635 k) qa qb = z
  pointwise [k0_pay634]
  have hκ := κ.isLt
  have hr := r.isLt
  by_cases h1 : r.val < 256
  · rw [dif_pos h1, sel_slt _ _ (by omega) (by omega)]
    by_cases h2 : κ.val < r.val
    · rw [if_pos h2, if_pos (show PE r κ from ⟨fun _ => h2, fun h => by omega⟩)]; rfl
    · rw [if_neg h2, if_neg (fun h : PE r κ => h2 (h.1 h1))]
  · rw [dif_neg h1]
    have e : (⟨256 + (r.val - 256), by omega⟩ : Fin 512) = r := Fin.ext (by show 256 + (r.val - 256) = r.val; omega)
    rw [sel_slt _ _ (by omega) (by omega)]
    by_cases h2 : κ.val < r.val - 256
    · rw [if_pos h2, if_pos (show PE r κ from ⟨fun h => absurd h h1, fun _ => h2⟩), e]; rfl
    · rw [if_neg h2, if_neg (fun h : PE r κ => h2 (h.2 (by omega)))]

/-- What the keys of the block after one take off. -/
theorem csE (k : Vec Ideal S1x1x256x128 .bf16) (qa qb : Vec Ideal S1x256x128 .bf16) (r : Fin 512) (κ : Fin 256) :
    k0_pay639 (k0_pay633 (F := Ideal)) k0_pay634 (k0_pay635 k) qa qb (ix2 r κ) = ∑ x : Fin 256, Scalar.select (IntOp.cmpi CmpIPredicate.sgt (BitVec.ofNat 32 x.val) (BitVec.ofNat 32 κ.val)) (k0_pay638 k0_pay634 (k0_pay635 k) qa qb (ix2 r x)) 0 := by
  unfold k0_pay639
  generalize k0_pay638 k0_pay634 (k0_pay635 k) qa qb = z
  pointwise [k0_pay633]

/-- The block's weighted values. -/
theorem pvE (k v : Vec Ideal S1x1x256x128 .bf16) (qa qb : Vec Ideal S1x256x128 .bf16) (r : Fin 512) (l : Fin 128) :
    k0_pay640 (k0_pay633 (F := Ideal)) k0_pay634 (k0_pay635 k) (k0_pay636 v) qa qb (ix2 r l) = ∑ x : Fin 256, (if PE r x then Ideal.exp (k0_pay637 (k0_pay635 k) qa qb (ix2 r x) - k0_pay638 k0_pay634 (k0_pay635 k) qa qb (ix2 r x) - k0_pay639 (k0_pay633 (F := Ideal)) k0_pay634 (k0_pay635 k) qa qb (ix2 r x)) else 0) * v (ix4 0 0 x l) := by
  unfold k0_pay640
  generalize k0_pay639 (k0_pay633 (F := Ideal)) k0_pay634 (k0_pay635 k) qa qb = cs
  generalize k0_pay638 k0_pay634 (k0_pay635 k) qa qb = sp
  generalize k0_pay637 (k0_pay635 k) qa qb = z
  pointwise [k0_pay634, k0_pay636]
  refine Finset.sum_congr rfl fun x _ => congrArg (· * v (ix4 0 0 x l)) ?_
  have hκ := x.isLt
  have hr := r.isLt
  by_cases h1 : r.val < 256
  · rw [dif_pos h1, sel_slt _ _ (by omega) (by omega)]
    by_cases h2 : x.val < r.val
    · rw [if_pos h2, if_pos (show PE r x from ⟨fun _ => h2, fun h => by omega⟩)]
    · rw [if_neg h2, if_neg (fun h : PE r x => h2 (h.1 h1))]
  · rw [dif_neg h1]
    have e : (⟨256 + (r.val - 256), by omega⟩ : Fin 512) = r := Fin.ext (by show 256 + (r.val - 256) = r.val; omega)
    rw [sel_slt _ _ (by omega) (by omega)]
    by_cases h2 : x.val < r.val - 256
    · rw [if_pos h2, if_pos (show PE r x from ⟨fun h => absurd h h1, fun _ => h2⟩), e]
    · rw [if_neg h2, if_neg (fun h : PE r x => h2 (h.2 (by omega)))]

/-- What the block takes off. -/
theorem totE (k : Vec Ideal S1x1x256x128 .bf16) (qa qb : Vec Ideal S1x256x128 .bf16) (r : Fin 512) :
    k0_pay641 (k0_pay633 (F := Ideal)) k0_pay634 (k0_pay635 k) qa qb (ix2 r 0) = k0_pay639 (k0_pay633 (F := Ideal)) k0_pay634 (k0_pay635 k) qa qb (ix2 r 0) + k0_pay638 k0_pay634 (k0_pay635 k) qa qb (ix2 r 0) := by
  unfold k0_pay641
  generalize k0_pay639 (k0_pay633 (F := Ideal)) k0_pay634 (k0_pay635 k) qa qb = cs
  generalize k0_pay638 k0_pay634 (k0_pay635 k) qa qb = sp
  pointwise

/-- The unit at a row whose query is real. -/
theorem rowE (k v : Vec Ideal S1x1x256x128 .bf16) (qa qb : Vec Ideal S1x256x128 .bf16) (r : Fin 512) (Q : Fin 128 → ℝ)
    (hq : ∀ x, (if h : r.val < 256 then qa (ix3 0 ⟨r.val, h⟩ x) else qb (ix3 0 ⟨r.val - 256, by omega⟩ x)) = ((Q x : ℝ) : EReal))
    (K V : Fin 256 → Fin 128 → ℝ) (hk : ∀ κ x, k (ix4 0 0 κ x) = ((K κ x : ℝ) : EReal)) (hv : ∀ κ x, v (ix4 0 0 κ x) = ((V κ x : ℝ) : EReal)) :
    (∀ l, k0_pay640 (k0_pay633 (F := Ideal)) k0_pay634 (k0_pay635 k) (k0_pay636 v) qa qb (ix2 r l) = ((blockMixed (fun κ => ∑ x, Q x * K κ x) (PE r) (fun κ => V κ l) : ℝ) : EReal))
    ∧ k0_pay641 (k0_pay633 (F := Ideal)) k0_pay634 (k0_pay635 k) qa qb (ix2 r 0) = ((∑ κ, blockTake (fun κ => ∑ x, Q x * K κ x) (PE r) κ : ℝ) : EReal) := by
  have hz : ∀ κ, k0_pay637 (k0_pay635 k) qa qb (ix2 r κ) = ((∑ x, Q x * K κ x : ℝ) : EReal) := fun κ => by
    rw [zE]
    exact sum_of _ _ fun x => by rw [hq, hk, ← EReal.coe_mul]
  have hs : ∀ κ, k0_pay638 k0_pay634 (k0_pay635 k) qa qb (ix2 r κ) = ((blockTake (fun κ => ∑ x, Q x * K κ x) (PE r) κ : ℝ) : EReal) := fun κ => by
    rw [spE]
    exact take_row (fun κ => ∑ x, Q x * K κ x) (PE r) _ κ (hz κ)
  have hc : ∀ κ, k0_pay639 (k0_pay633 (F := Ideal)) k0_pay634 (k0_pay635 k) qa qb (ix2 r κ) = ((blockAfter (fun κ => ∑ x, Q x * K κ x) (PE r) κ : ℝ) : EReal) := fun κ => by
    rw [csE]
    exact after_row _ (PE r) (fun x => k0_pay638 k0_pay634 (k0_pay635 k) qa qb (ix2 r x)) hs κ
  refine ⟨fun l => ?_, ?_⟩
  · rw [pvE]
    exact mixed_row _ (PE r) (fun κ => k0_pay637 (k0_pay635 k) qa qb (ix2 r κ)) (fun κ => k0_pay638 k0_pay634 (k0_pay635 k) qa qb (ix2 r κ)) (fun κ => k0_pay639 (k0_pay633 (F := Ideal)) k0_pay634 (k0_pay635 k) qa qb (ix2 r κ)) _ (fun κ => v (ix4 0 0 κ l)) (fun κ => V κ l) hz hs hc (fun κ => hv κ l) fun κ => rfl
  · rw [totE, hc, hs, ← EReal.coe_add, total_row]

/-! ## A block on the diagonal of 256 rows and before the next 256 -/

/-- A score. -/
theorem zD (k : Vec Ideal S1x1x256x128 .bf16) (qa qb : Vec Ideal S1x512x128 .bf16) (r : Fin 1024) (κ : Fin 256) :
    k0_pay739 (k0_pay738 k) qa qb (ix2 r κ) = ∑ x, (if h : r.val < 512 then qa (ix3 0 ⟨r.val, h⟩ x) else qb (ix3 0 ⟨r.val - 512, by omega⟩ x)) * k (ix4 0 0 κ x) := by
  pointwise [k0_pay739, k0_pay738]

/-- The keys a row of the unit sees. -/
def PD (r : Fin 1024) (κ : Fin 256) : Prop := (r.val < 256 → κ.val < r.val) ∧ (512 ≤ r.val → r.val < 768 → κ.val < r.val - 512)

instance (r : Fin 1024) : DecidablePred (PD r) := fun κ => by unfold PD; infer_instance

/-- What a score takes off the logarithm. -/
theorem spD (k : Vec Ideal S1x1x256x128 .bf16) (qa qb : Vec Ideal S1x512x128 .bf16) (r : Fin 1024) (κ : Fin 256) :
    k0_pay740 k0_pay634 (k0_pay738 k) qa qb (ix2 r κ) = if PD r κ then taking (k0_pay739 (k0_pay738 k) qa qb (ix2 r κ)) else 0 := by
  unfold k0_pay740
  generalize k0_pay739 (k0_pay738 k) qa qb = z
  pointwise [k0_pay634]
  have hκ := κ.isLt
  have hr := r.isLt
  by_cases h1 : r.val < 256
  · rw [dif_pos h1, sel_slt _ _ (by omega) (by omega)]
    by_cases h2 : κ.val < r.val
    · rw [if_pos h2, if_pos (show PD r κ from ⟨fun _ => h2, fun h => by omega⟩)]; rfl
    · rw [if_neg h2, if_neg (fun h : PD r κ => h2 (h.1 h1))]
  · rw [dif_neg h1]
    by_cases h3 : r.val - 256 < 256
    · have e : (⟨256 + (r.val - 256), by omega⟩ : Fin 1024) = r := Fin.ext (by show 256 + (r.val - 256) = r.val; omega)
      rw [dif_pos h3, if_pos (show PD r κ from ⟨fun h => absurd h h1, fun h => by omega⟩), e]; rfl
    · rw [dif_neg h3]
      by_cases h4 : r.val - 256 - 256 < 256
      · have e : (⟨512 + (r.val - 256 - 256), by omega⟩ : Fin 1024) = r := Fin.ext (by show 512 + (r.val - 256 - 256) = r.val; omega)
        rw [dif_pos h4, sel_slt _ _ (by omega) (by omega)]
        by_cases h2 : κ.val < r.val - 256 - 256
        · rw [if_pos h2, if_pos (show PD r κ from ⟨fun h => absurd h h1, fun _ _ => by omega⟩), e]; rfl
        · rw [if_neg h2, if_neg (fun h : PD r κ => h2 (by have := h.2 (by omega) (by omega); omega))]
      · have e : (⟨768 + (r.val - 256 - 256 - 256), by omega⟩ : Fin 1024) = r := Fin.ext (by show 768 + (r.val - 256 - 256 - 256) = r.val; omega)
        rw [dif_neg h4, if_pos (show PD r κ from ⟨fun h => absurd h h1, fun _ h => by omega⟩), e]; rfl

/-- What the keys of the block after one take off. -/
theorem csD (k : Vec Ideal S1x1x256x128 .bf16) (qa qb : Vec Ideal S1x512x128 .bf16) (r : Fin 1024) (κ : Fin 256) :
    k0_pay741 (k0_pay633 (F := Ideal)) k0_pay634 (k0_pay738 k) qa qb (ix2 r κ) = ∑ x : Fin 256, Scalar.select (IntOp.cmpi CmpIPredicate.sgt (BitVec.ofNat 32 x.val) (BitVec.ofNat 32 κ.val)) (k0_pay740 k0_pay634 (k0_pay738 k) qa qb (ix2 r x)) 0 := by
  unfold k0_pay741
  generalize k0_pay740 k0_pay634 (k0_pay738 k) qa qb = z
  pointwise [k0_pay633]

/-- The block's weighted values. -/
theorem pvD (k v : Vec Ideal S1x1x256x128 .bf16) (qa qb : Vec Ideal S1x512x128 .bf16) (r : Fin 1024) (l : Fin 128) :
    k0_pay742 (k0_pay633 (F := Ideal)) k0_pay634 (k0_pay738 k) v qa qb (ix2 r l) = ∑ x : Fin 256, (if PD r x then Ideal.exp (k0_pay739 (k0_pay738 k) qa qb (ix2 r x) - k0_pay740 k0_pay634 (k0_pay738 k) qa qb (ix2 r x) - k0_pay741 (k0_pay633 (F := Ideal)) k0_pay634 (k0_pay738 k) qa qb (ix2 r x)) else 0) * v (ix4 0 0 x l) := by
  unfold k0_pay742
  generalize k0_pay741 (k0_pay633 (F := Ideal)) k0_pay634 (k0_pay738 k) qa qb = cs
  generalize k0_pay740 k0_pay634 (k0_pay738 k) qa qb = sp
  generalize k0_pay739 (k0_pay738 k) qa qb = z
  pointwise [k0_pay634]
  refine Finset.sum_congr rfl fun x _ => congrArg (· * v (ix4 0 0 x l)) ?_
  have hκ := x.isLt
  have hr := r.isLt
  by_cases h1 : r.val < 256
  · rw [dif_pos h1, sel_slt _ _ (by omega) (by omega)]
    by_cases h2 : x.val < r.val
    · rw [if_pos h2, if_pos (show PD r x from ⟨fun _ => h2, fun h => by omega⟩)]
    · rw [if_neg h2, if_neg (fun h : PD r x => h2 (h.1 h1))]
  · rw [dif_neg h1]
    by_cases h3 : r.val - 256 < 256
    · have e : (⟨256 + (r.val - 256), by omega⟩ : Fin 1024) = r := Fin.ext (by show 256 + (r.val - 256) = r.val; omega)
      rw [dif_pos h3, if_pos (show PD r x from ⟨fun h => absurd h h1, fun h => by omega⟩), e]
    · rw [dif_neg h3]
      by_cases h4 : r.val - 256 - 256 < 256
      · have e : (⟨512 + (r.val - 256 - 256), by omega⟩ : Fin 1024) = r := Fin.ext (by show 512 + (r.val - 256 - 256) = r.val; omega)
        rw [dif_pos h4, sel_slt _ _ (by omega) (by omega)]
        by_cases h2 : x.val < r.val - 256 - 256
        · rw [if_pos h2, if_pos (show PD r x from ⟨fun h => absurd h h1, fun _ _ => by omega⟩), e]
        · rw [if_neg h2, if_neg (fun h : PD r x => h2 (by have := h.2 (by omega) (by omega); omega))]
      · have e : (⟨768 + (r.val - 256 - 256 - 256), by omega⟩ : Fin 1024) = r := Fin.ext (by show 768 + (r.val - 256 - 256 - 256) = r.val; omega)
        rw [dif_neg h4, if_pos (show PD r x from ⟨fun h => absurd h h1, fun _ h => by omega⟩), e]

/-- What the block takes off. -/
theorem totD (k : Vec Ideal S1x1x256x128 .bf16) (qa qb : Vec Ideal S1x512x128 .bf16) (r : Fin 1024) :
    k0_pay744 (k0_pay740 k0_pay634 (k0_pay738 k) qa qb) (k0_pay743 (k0_pay633 (F := Ideal)) k0_pay634 (k0_pay738 k) qa qb) (ix2 r 0) = k0_pay741 (k0_pay633 (F := Ideal)) k0_pay634 (k0_pay738 k) qa qb (ix2 r 0) + k0_pay740 k0_pay634 (k0_pay738 k) qa qb (ix2 r 0) := by
  unfold k0_pay744 k0_pay743
  generalize k0_pay741 (k0_pay633 (F := Ideal)) k0_pay634 (k0_pay738 k) qa qb = cs
  generalize k0_pay740 k0_pay634 (k0_pay738 k) qa qb = sp
  pointwise

/-- The unit at a row whose query is real. -/
theorem rowD (k v : Vec Ideal S1x1x256x128 .bf16) (qa qb : Vec Ideal S1x512x128 .bf16) (r : Fin 1024) (Q : Fin 128 → ℝ)
    (hq : ∀ x, (if h : r.val < 512 then qa (ix3 0 ⟨r.val, h⟩ x) else qb (ix3 0 ⟨r.val - 512, by omega⟩ x)) = ((Q x : ℝ) : EReal))
    (K V : Fin 256 → Fin 128 → ℝ) (hk : ∀ κ x, k (ix4 0 0 κ x) = ((K κ x : ℝ) : EReal)) (hv : ∀ κ x, v (ix4 0 0 κ x) = ((V κ x : ℝ) : EReal)) :
    (∀ l, k0_pay742 (k0_pay633 (F := Ideal)) k0_pay634 (k0_pay738 k) v qa qb (ix2 r l) = ((blockMixed (fun κ => ∑ x, Q x * K κ x) (PD r) (fun κ => V κ l) : ℝ) : EReal))
    ∧ k0_pay744 (k0_pay740 k0_pay634 (k0_pay738 k) qa qb) (k0_pay743 (k0_pay633 (F := Ideal)) k0_pay634 (k0_pay738 k) qa qb) (ix2 r 0) = ((∑ κ, blockTake (fun κ => ∑ x, Q x * K κ x) (PD r) κ : ℝ) : EReal) := by
  have hz : ∀ κ, k0_pay739 (k0_pay738 k) qa qb (ix2 r κ) = ((∑ x, Q x * K κ x : ℝ) : EReal) := fun κ => by
    rw [zD]
    exact sum_of _ _ fun x => by rw [hq, hk, ← EReal.coe_mul]
  have hs : ∀ κ, k0_pay740 k0_pay634 (k0_pay738 k) qa qb (ix2 r κ) = ((blockTake (fun κ => ∑ x, Q x * K κ x) (PD r) κ : ℝ) : EReal) := fun κ => by
    rw [spD]
    exact take_row (fun κ => ∑ x, Q x * K κ x) (PD r) _ κ (hz κ)
  have hc : ∀ κ, k0_pay741 (k0_pay633 (F := Ideal)) k0_pay634 (k0_pay738 k) qa qb (ix2 r κ) = ((blockAfter (fun κ => ∑ x, Q x * K κ x) (PD r) κ : ℝ) : EReal) := fun κ => by
    rw [csD]
    exact after_row _ (PD r) (fun x => k0_pay740 k0_pay634 (k0_pay738 k) qa qb (ix2 r x)) hs κ
  refine ⟨fun l => ?_, ?_⟩
  · rw [pvD]
    exact mixed_row _ (PD r) (fun κ => k0_pay739 (k0_pay738 k) qa qb (ix2 r κ)) (fun κ => k0_pay740 k0_pay634 (k0_pay738 k) qa qb (ix2 r κ)) (fun κ => k0_pay741 (k0_pay633 (F := Ideal)) k0_pay634 (k0_pay738 k) qa qb (ix2 r κ)) _ (fun κ => v (ix4 0 0 κ l)) (fun κ => V κ l) hz hs hc (fun κ => hv κ l) fun κ => rfl
  · rw [totD, hc, hs, ← EReal.coe_add, total_row]

end Cert.AttnIdeal.Body
-- ==== Proof.AttnIdealStep.lean ====
/-
  The units of the stick-breaking half, at the ideal instance, as steps from one block of keys to the one before: where a
  row's accumulators hold the weighted values and the logarithm of the keys from block `j + 1` on, the unit of block `j`
  leaves them holding those from block `j` on.
-/
module

public import proofs.«01_k».proof.Proof.AttnIdealRows

@[expose] public section

set_option maxRecDepth 16384

noncomputable section

namespace Cert.AttnIdeal.Body

open Cert.AttnIdeal Cert.AttnIdeal.Gen Idealize.ShloMosaic.Pointwise Cert.Stick
open Idealize.ShloMosaic Idealize.ShloMosaic.TcCoe Idealize.SL.Sem

/-! ## Windows of the scratch arrays -/

/-- A window of some rows of one head's slab, read at a row. -/
theorem window_at {α : Type} {n L : ℕ} (x : (⟨3, ![2, 2048, L]⟩ : Shape).Idx → α) (h0 r0 : ℕ) (hh : h0 < 2)
    (inb : ∀ a, (![h0, r0, 0] : Fin 3 → ℕ) a + (⟨3, ![1, n, L]⟩ : Shape).size a ≤ (⟨3, ![2, 2048, L]⟩ : Shape).size a) (a : Fin n) (ρ : Fin 2048) (hρ : ρ.val = r0 + a.val) (l : Fin L) :
    VecWindow.window x ![h0, r0, 0] (⟨3, ![1, n, L]⟩ : Shape).size inb (ix3 (0 : Fin 1) a l) = x (ix3 ⟨h0, hh⟩ ρ l) := by
  refine congrArg x (funext fun b => Fin.ext ?_)
  match b with
  | ⟨0, _⟩ => show h0 + 1 * 0 = h0; omega
  | ⟨1, _⟩ => show r0 + 1 * a.val = ρ.val; omega
  | ⟨2, _⟩ => show 0 + 1 * l.val = l.val; omega

/-- Rows put into one head's slab, read at one of them. -/
theorem put_in {α : Type} {n L : ℕ} (x : (⟨3, ![2, 2048, L]⟩ : Shape).Idx → α) (h0 r0 : ℕ) (w : (⟨3, ![1, n, L]⟩ : Shape).Idx → α)
    (h : Fin 2) (ρ : Fin 2048) (l : Fin L) (hh : h.val = h0) (a : Fin n) (ha : ρ.val = r0 + a.val) :
    VecWindow.put x ![h0, r0, 0] (⟨3, ![1, n, L]⟩ : Shape).size w (ix3 h ρ l) = w (ix3 (0 : Fin 1) a l) := by
  have hy : ∀ b : Fin 3, (![h0, r0, 0] : Fin 3 → ℕ) b ≤ ((ix3 h ρ l : (⟨3, ![2, 2048, L]⟩ : Shape).Idx) b).val
      ∧ ((ix3 h ρ l : (⟨3, ![2, 2048, L]⟩ : Shape).Idx) b).val < (![h0, r0, 0] : Fin 3 → ℕ) b + (⟨3, ![1, n, L]⟩ : Shape).size b := by
    intro b
    have := a.isLt
    have := l.isLt
    match b with
    | ⟨0, _⟩ => show h0 ≤ h.val ∧ h.val < h0 + 1; omega
    | ⟨1, _⟩ => show r0 ≤ ρ.val ∧ ρ.val < r0 + n; omega
    | ⟨2, _⟩ => show 0 ≤ l.val ∧ l.val < 0 + L; omega
  refine (dif_pos hy).trans (congrArg w (funext fun b => Fin.ext ?_))
  match b with
  | ⟨0, _⟩ => show h.val - h0 = 0; omega
  | ⟨1, _⟩ => show ρ.val - r0 = a.val; omega
  | ⟨2, _⟩ => show l.val - 0 = l.val; omega

/-- Rows put into one head's slab, read elsewhere. -/
theorem put_out {α : Type} {n L : ℕ} (x : (⟨3, ![2, 2048, L]⟩ : Shape).Idx → α) (h0 r0 : ℕ) (w : (⟨3, ![1, n, L]⟩ : Shape).Idx → α)
    (h : Fin 2) (ρ : Fin 2048) (l : Fin L) (hn : h.val ≠ h0 ∨ ¬ (r0 ≤ ρ.val ∧ ρ.val < r0 + n)) :
    VecWindow.put x ![h0, r0, 0] (⟨3, ![1, n, L]⟩ : Shape).size w (ix3 h ρ l) = x (ix3 h ρ l) := by
  refine dif_neg fun hy => ?_
  have h1 : h0 ≤ h.val ∧ h.val < h0 + 1 := hy (0 : Fin 3)
  have h2 : r0 ≤ ρ.val ∧ ρ.val < r0 + n := hy (1 : Fin 3)
  rcases hn with e | e
  · omega
  · exact e h2

/-! ## The state of a row -/

variable (Qr : Fin 2 → Fin 2048 → Fin 128 → ℝ) (Kr Vr : ℕ → Fin 128 → ℝ) (B : ℕ)

/-- The score of row `ρ` against key `n`. -/
def score (h : Fin 2) (ρ : Fin 2048) (n : ℕ) : ℝ := ∑ x, Qr h ρ x * Kr n x

/-- The queries are the reals `Qr`. -/
def QOk (s : Sb Ideal) : Prop := ∀ h ρ l, s.qh (ix3 h ρ l) = ((Qr h ρ l : ℝ) : EReal)

/-- Row `ρ`'s accumulators hold the keys from block `j` on. -/
def At (s : Sb Ideal) (h : Fin 2) (ρ : Fin 2048) (j : ℕ) : Prop :=
  s.c (ix3 h ρ (0 : Fin 1)) = ((taken (score Qr Kr h ρ) (B + ρ.val) (256 * j) : ℝ) : EReal)
  ∧ ∀ l, s.acc (ix3 h ρ l) = ((mixed (score Qr Kr h ρ) (B + ρ.val) (fun n => Vr n l) (256 * j) : ℝ) : EReal)

/-- The blocks `k` and `v` are block `j` of the keys and of the values. -/
def IsBlock (k v : Vec Ideal S1x1x256x128 .bf16) (j : ℕ) : Prop :=
  (∀ (κ : Fin 256) x, k (ix4 (0 : Fin 1) (0 : Fin 1) κ x) = ((Kr (256 * j + κ.val) x : ℝ) : EReal)) ∧ (∀ (κ : Fin 256) x, v (ix4 (0 : Fin 1) (0 : Fin 1) κ x) = ((Vr (256 * j + κ.val) x : ℝ) : EReal))

/-- Where a row's accumulators hold the keys from block `j + 1` on and are updated by what block `j` gives, they hold those from block `j` on. -/
theorem at_step (s s' : Sb Ideal) (h : Fin 2) (ρ : Fin 2048) (j : ℕ) (hj : j < 16) (p : Fin 256 → Prop) [DecidablePred p]
    (hp : ∀ κ, p κ ↔ 256 * j + κ.val < B + ρ.val) (M : Fin 128 → EReal) (T : EReal)
    (hM : ∀ l, M l = ((blockMixed (fun κ => score Qr Kr h ρ (256 * j + κ.val)) p (fun κ => Vr (256 * j + κ.val) l) : ℝ) : EReal))
    (hT : T = ((∑ κ, blockTake (fun κ => score Qr Kr h ρ (256 * j + κ.val)) p κ : ℝ) : EReal))
    (hs : At Qr Kr Vr B s h ρ (j + 1))
    (ha : ∀ l, s'.acc (ix3 h ρ l) = s.acc (ix3 h ρ l) + Ideal.exp (0 - s.c (ix3 h ρ (0 : Fin 1))) * M l)
    (hc : s'.c (ix3 h ρ (0 : Fin 1)) = s.c (ix3 h ρ (0 : Fin 1)) + T) : At Qr Kr Vr B s' h ρ j := by
  refine ⟨?_, fun l => ?_⟩
  · rw [hc, hs.1, hT, ← EReal.coe_add, ← taken_step _ _ j hj p hp]
  · rw [ha, hs.1, hs.2 l, hM, ← EReal.coe_zero, ← EReal.coe_sub, Ideal.exp_coe, ← EReal.coe_mul, ← EReal.coe_add, ← mixed_step _ _ j hj _ p hp]

/-! ## A block before the rows -/

theorem accAW (P : FVec Ideal S512x128 .f32) (c : Vec Ideal S1x256x1 .f32) (ac : Vec Ideal S1x256x128 .f32) (a : Fin 256) (l : Fin 128) :
    k0_pay761 P (k0_pay760 c) ac (ix3 (0 : Fin 1) a l) = ac (ix3 (0 : Fin 1) a l) + Ideal.exp (0 - c (ix3 (0 : Fin 1) a (0 : Fin 1))) * P (ix2 ⟨a.val, by omega⟩ l) := by
  pointwise [k0_pay761, k0_pay760]

theorem accBW (P : FVec Ideal S512x128 .f32) (c : Vec Ideal S1x256x1 .f32) (ac : Vec Ideal S1x256x128 .f32) (a : Fin 256) (l : Fin 128) :
    k0_pay764 P c ac (ix3 (0 : Fin 1) a l) = ac (ix3 (0 : Fin 1) a l) + Ideal.exp (0 - c (ix3 (0 : Fin 1) a (0 : Fin 1))) * P (ix2 ⟨256 + a.val, by omega⟩ l) := by
  pointwise [k0_pay764, k0_pay763]

theorem cAW (P : FVec Ideal S512x1 .f32) (c : Vec Ideal S1x256x1 .f32) (a : Fin 256) :
    k0_pay762 P (k0_pay760 c) (ix3 (0 : Fin 1) a (0 : Fin 1)) = c (ix3 (0 : Fin 1) a (0 : Fin 1)) + P (ix2 ⟨a.val, by omega⟩ 0) := by
  pointwise [k0_pay762, k0_pay760]

theorem cBW (P : FVec Ideal S512x1 .f32) (c : Vec Ideal S1x256x1 .f32) (a : Fin 256) :
    k0_pay3 (k0_pay765 P c) (ix3 (0 : Fin 1) a (0 : Fin 1)) = c (ix3 (0 : Fin 1) a (0 : Fin 1)) + P (ix2 ⟨256 + a.val, by omega⟩ 0) := by
  pointwise [k0_pay3, k0_pay765, k0_pay763]

/-- The sums it leaves. -/
theorem unitW_acc (k v : Vec Ideal S1x1x256x128 .bf16) (r0 : ℕ) (hr : r0 + 256 ≤ 2048) (s : Sb Ideal) :
    (unitW k v ![0, r0, 0] ![1, r0, 0] ![0, r0, 0] ![1, r0, 0] (box (by decide) hr) (box (by decide) hr) (box (by decide) hr) (box (by decide) hr) s).acc = VecWindow.put (VecWindow.put s.acc ![0, r0, 0] S1x256x128.size (k0_pay761 (k0_pay758 (k0_pay633 (F := Ideal)) k v (VecWindow.window s.qh ![0, r0, 0] S1x256x128.size (box (by decide) hr)) (VecWindow.window s.qh ![1, r0, 0] S1x256x128.size (box (by decide) hr))) (k0_pay760 (VecWindow.window (s.c) ![0, r0, 0] S1x256x1.size (box (by decide) hr))) (VecWindow.window (s.acc) ![0, r0, 0] S1x256x128.size (box (by decide) hr)))) ![1, r0, 0] S1x256x128.size (k0_pay764 (k0_pay758 (k0_pay633 (F := Ideal)) k v (VecWindow.window s.qh ![0, r0, 0] S1x256x128.size (box (by decide) hr)) (VecWindow.window s.qh ![1, r0, 0] S1x256x128.size (box (by decide) hr))) (VecWindow.window (VecWindow.put s.c ![0, r0, 0] S1x256x1.size (k0_pay762 (k0_pay759 (k0_pay633 (F := Ideal)) k (VecWindow.window s.qh ![0, r0, 0] S1x256x128.size (box (by decide) hr)) (VecWindow.window s.qh ![1, r0, 0] S1x256x128.size (box (by decide) hr))) (k0_pay760 (VecWindow.window (s.c) ![0, r0, 0] S1x256x1.size (box (by decide) hr))))) ![1, r0, 0] S1x256x1.size (box (by decide) hr)) (VecWindow.window (VecWindow.put s.acc ![0, r0, 0] S1x256x128.size (k0_pay761 (k0_pay758 (k0_pay633 (F := Ideal)) k v (VecWindow.window s.qh ![0, r0, 0] S1x256x128.size (box (by decide) hr)) (VecWindow.window s.qh ![1, r0, 0] S1x256x128.size (box (by decide) hr))) (k0_pay760 (VecWindow.window (s.c) ![0, r0, 0] S1x256x1.size (box (by decide) hr))) (VecWindow.window (s.acc) ![0, r0, 0] S1x256x128.size (box (by decide) hr)))) ![1, r0, 0] S1x256x128.size (box (by decide) hr))) := rfl

/-- The logarithms it leaves. -/
theorem unitW_c (k v : Vec Ideal S1x1x256x128 .bf16) (r0 : ℕ) (hr : r0 + 256 ≤ 2048) (s : Sb Ideal) :
    (unitW k v ![0, r0, 0] ![1, r0, 0] ![0, r0, 0] ![1, r0, 0] (box (by decide) hr) (box (by decide) hr) (box (by decide) hr) (box (by decide) hr) s).c = VecWindow.put (VecWindow.put s.c ![0, r0, 0] S1x256x1.size (k0_pay762 (k0_pay759 (k0_pay633 (F := Ideal)) k (VecWindow.window s.qh ![0, r0, 0] S1x256x128.size (box (by decide) hr)) (VecWindow.window s.qh ![1, r0, 0] S1x256x128.size (box (by decide) hr))) (k0_pay760 (VecWindow.window (s.c) ![0, r0, 0] S1x256x1.size (box (by decide) hr))))) ![1, r0, 0] S1x256x1.size (k0_pay3 (k0_pay765 (k0_pay759 (k0_pay633 (F := Ideal)) k (VecWindow.window s.qh ![0, r0, 0] S1x256x128.size (box (by decide) hr)) (VecWindow.window s.qh ![1, r0, 0] S1x256x128.size (box (by decide) hr))) (VecWindow.window (VecWindow.put s.c ![0, r0, 0] S1x256x1.size (k0_pay762 (k0_pay759 (k0_pay633 (F := Ideal)) k (VecWindow.window s.qh ![0, r0, 0] S1x256x128.size (box (by decide) hr)) (VecWindow.window s.qh ![1, r0, 0] S1x256x128.size (box (by decide) hr))) (k0_pay760 (VecWindow.window (s.c) ![0, r0, 0] S1x256x1.size (box (by decide) hr))))) ![1, r0, 0] S1x256x1.size (box (by decide) hr)))) := rfl

/-- What the unit leaves at its rows. -/
theorem unitW_in (k v : Vec Ideal S1x1x256x128 .bf16) (r0 : ℕ) (hr : r0 + 256 ≤ 2048) (o0 o1 o2 o3 : Fin 3 → ℕ) (i0 : ∀ a, o0 a + S1x256x128.size a ≤ S2x2048x128.size a) (i1 : ∀ a, o1 a + S1x256x128.size a ≤ S2x2048x128.size a) (i2 : ∀ a, o2 a + S1x256x1.size a ≤ S2x2048x1.size a) (i3 : ∀ a, o3 a + S1x256x1.size a ≤ S2x2048x1.size a) (e0 : ![0, r0, 0] = o0) (e1 : ![1, r0, 0] = o1) (e2 : ![0, r0, 0] = o2) (e3 : ![1, r0, 0] = o3) (s : Sb Ideal) (h : Fin 2) (ρ : Fin 2048) (a : Fin 256) (ha : ρ.val = r0 + a.val) :
    (∀ l, (unitW k v o0 o1 o2 o3 i0 i1 i2 i3 s).acc (ix3 h ρ l) = s.acc (ix3 h ρ l) + Ideal.exp (0 - s.c (ix3 h ρ (0 : Fin 1))) * k0_pay758 (k0_pay633 (F := Ideal)) k v (VecWindow.window s.qh ![0, r0, 0] S1x256x128.size (box (by decide) hr)) (VecWindow.window s.qh ![1, r0, 0] S1x256x128.size (box (by decide) hr)) (ix2 ⟨256 * h.val + a.val, by omega⟩ l))
    ∧ (unitW k v o0 o1 o2 o3 i0 i1 i2 i3 s).c (ix3 h ρ (0 : Fin 1)) = s.c (ix3 h ρ (0 : Fin 1)) + k0_pay759 (k0_pay633 (F := Ideal)) k (VecWindow.window s.qh ![0, r0, 0] S1x256x128.size (box (by decide) hr)) (VecWindow.window s.qh ![1, r0, 0] S1x256x128.size (box (by decide) hr)) (ix2 ⟨256 * h.val + a.val, by omega⟩ 0) := by
  subst e0 e1 e2 e3
  rw [unitW_acc k v r0 hr s, unitW_c k v r0 hr s]
  obtain rfl | rfl : h = 0 ∨ h = 1 := by have := h.isLt; omega
  · refine ⟨fun l => ?_, ?_⟩
    · rw [put_out (n := 256) _ 1 r0 _ (0 : Fin 2) ρ l (.inl (by decide)), put_in (n := 256) _ 0 r0 _ (0 : Fin 2) ρ l rfl a ha, accAW,
        window_at (n := 256) _ 0 r0 (by decide) _ a ρ ha, window_at (n := 256) _ 0 r0 (by decide) _ a ρ ha]
      refine congrArg (fun u => _ + _ * k0_pay758 (k0_pay633 (F := Ideal)) k v (VecWindow.window s.qh ![0, r0, 0] S1x256x128.size (box (by decide) hr)) (VecWindow.window s.qh ![1, r0, 0] S1x256x128.size (box (by decide) hr)) (ix2 u l)) (Fin.ext ?_)
      show a.val = 256 * 0 + a.val; omega
    · rw [put_out (n := 256) _ 1 r0 _ (0 : Fin 2) ρ 0 (.inl (by decide)), put_in (n := 256) _ 0 r0 _ (0 : Fin 2) ρ 0 rfl a ha, cAW,
        window_at (n := 256) _ 0 r0 (by decide) _ a ρ ha]
      refine congrArg (fun u => _ + k0_pay759 (k0_pay633 (F := Ideal)) k (VecWindow.window s.qh ![0, r0, 0] S1x256x128.size (box (by decide) hr)) (VecWindow.window s.qh ![1, r0, 0] S1x256x128.size (box (by decide) hr)) (ix2 u 0)) (Fin.ext ?_)
      show a.val = 256 * 0 + a.val; omega
  · refine ⟨fun l => ?_, ?_⟩
    · rw [put_in (n := 256) _ 1 r0 _ (1 : Fin 2) ρ l rfl a ha, accBW,
        window_at (n := 256) _ 1 r0 (by decide) _ a ρ ha, window_at (n := 256) _ 1 r0 (by decide) _ a ρ ha]
      rw [put_out (n := 256) _ 0 r0 _ _ ρ l (.inl (by decide)), put_out (n := 256) _ 0 r0 _ _ ρ 0 (.inl (by decide))]
      refine congrArg (fun u => _ + _ * k0_pay758 (k0_pay633 (F := Ideal)) k v (VecWindow.window s.qh ![0, r0, 0] S1x256x128.size (box (by decide) hr)) (VecWindow.window s.qh ![1, r0, 0] S1x256x128.size (box (by decide) hr)) (ix2 u l)) (Fin.ext ?_)
      show 256 + a.val = 256 * 1 + a.val; omega
    · rw [put_in (n := 256) _ 1 r0 _ (1 : Fin 2) ρ 0 rfl a ha, cBW, window_at (n := 256) _ 1 r0 (by decide) _ a ρ ha,
        put_out (n := 256) _ 0 r0 _ _ ρ 0 (.inl (by decide))]
      refine congrArg (fun u => _ + k0_pay759 (k0_pay633 (F := Ideal)) k (VecWindow.window s.qh ![0, r0, 0] S1x256x128.size (box (by decide) hr)) (VecWindow.window s.qh ![1, r0, 0] S1x256x128.size (box (by decide) hr)) (ix2 u 0)) (Fin.ext ?_)
      show 256 + a.val = 256 * 1 + a.val; omega

/-- The unit leaves the other rows as they are. -/
theorem unitW_out (k v : Vec Ideal S1x1x256x128 .bf16) (r0 : ℕ) (hr : r0 + 256 ≤ 2048) (o0 o1 o2 o3 : Fin 3 → ℕ) (i0 : ∀ a, o0 a + S1x256x128.size a ≤ S2x2048x128.size a) (i1 : ∀ a, o1 a + S1x256x128.size a ≤ S2x2048x128.size a) (i2 : ∀ a, o2 a + S1x256x1.size a ≤ S2x2048x1.size a) (i3 : ∀ a, o3 a + S1x256x1.size a ≤ S2x2048x1.size a) (e0 : ![0, r0, 0] = o0) (e1 : ![1, r0, 0] = o1) (e2 : ![0, r0, 0] = o2) (e3 : ![1, r0, 0] = o3) (s : Sb Ideal) (h : Fin 2) (ρ : Fin 2048) (hn : ¬ (r0 ≤ ρ.val ∧ ρ.val < r0 + 256)) (j : ℕ)
    (hs : At Qr Kr Vr B s h ρ j) : At Qr Kr Vr B (unitW k v o0 o1 o2 o3 i0 i1 i2 i3 s) h ρ j := by
  subst e0 e1 e2 e3
  refine ⟨Eq.trans ?_ hs.1, fun l => Eq.trans ?_ (hs.2 l)⟩
  · exact (put_out _ 1 r0 _ h ρ 0 (.inr hn)).trans (put_out _ 0 r0 _ h ρ 0 (.inr hn))
  · exact (put_out _ 1 r0 _ h ρ l (.inr hn)).trans (put_out _ 0 r0 _ h ρ l (.inr hn))

/-- The unit leaves the queries. -/
theorem unitW_q (k v : Vec Ideal S1x1x256x128 .bf16) (r0 : ℕ) (hr : r0 + 256 ≤ 2048) (o0 o1 o2 o3 : Fin 3 → ℕ) (i0 : ∀ a, o0 a + S1x256x128.size a ≤ S2x2048x128.size a) (i1 : ∀ a, o1 a + S1x256x128.size a ≤ S2x2048x128.size a) (i2 : ∀ a, o2 a + S1x256x1.size a ≤ S2x2048x1.size a) (i3 : ∀ a, o3 a + S1x256x1.size a ≤ S2x2048x1.size a) (e0 : ![0, r0, 0] = o0) (e1 : ![1, r0, 0] = o1) (e2 : ![0, r0, 0] = o2) (e3 : ![1, r0, 0] = o3) (s : Sb Ideal) (hQ : QOk Qr s) : QOk Qr (unitW k v o0 o1 o2 o3 i0 i1 i2 i3 s) := hQ

/-- The unit at its rows. -/
theorem unitW_at (k v : Vec Ideal S1x1x256x128 .bf16) (j : ℕ) (hj : j < 16) (hkv : IsBlock Kr Vr k v j) (r0 : ℕ) (hr : r0 + 256 ≤ 2048) (o0 o1 o2 o3 : Fin 3 → ℕ) (i0 : ∀ a, o0 a + S1x256x128.size a ≤ S2x2048x128.size a) (i1 : ∀ a, o1 a + S1x256x128.size a ≤ S2x2048x128.size a) (i2 : ∀ a, o2 a + S1x256x1.size a ≤ S2x2048x1.size a) (i3 : ∀ a, o3 a + S1x256x1.size a ≤ S2x2048x1.size a) (e0 : ![0, r0, 0] = o0) (e1 : ![1, r0, 0] = o1) (e2 : ![0, r0, 0] = o2) (e3 : ![1, r0, 0] = o3) (hB : 256 * (j + 1) ≤ B + r0) (s : Sb Ideal) (hQ : QOk Qr s)
    (h : Fin 2) (ρ : Fin 2048) (h1 : r0 ≤ ρ.val) (h2 : ρ.val < r0 + 256) (hs : At Qr Kr Vr B s h ρ (j + 1)) : At Qr Kr Vr B (unitW k v o0 o1 o2 o3 i0 i1 i2 i3 s) h ρ j := by
  have hh := h.isLt
  have hin := unitW_in k v r0 hr o0 o1 o2 o3 i0 i1 i2 i3 e0 e1 e2 e3 s h ρ ⟨ρ.val - r0, by omega⟩ (by show ρ.val = r0 + (ρ.val - r0); omega)
  have hrow := rowW k v (VecWindow.window s.qh ![0, r0, 0] S1x256x128.size (box (by decide) hr)) (VecWindow.window s.qh ![1, r0, 0] S1x256x128.size (box (by decide) hr)) ⟨256 * h.val + (ρ.val - r0), by omega⟩ (Qr h ρ)
    (fun x => by
      by_cases h3 : 256 * h.val + (ρ.val - r0) < 256
      · rw [dif_pos h3, window_at _ 0 r0 (by decide) _ _ ρ (by show ρ.val = r0 + (256 * h.val + (ρ.val - r0)); omega), ← hQ]
        exact congrArg s.qh (congrArg (fun u => ix3 u ρ x) (Fin.ext (by show 0 = h.val; omega)))
      · rw [dif_neg h3, window_at _ 1 r0 (by decide) _ _ ρ (by show ρ.val = r0 + (256 * h.val + (ρ.val - r0) - 256); omega), ← hQ]
        exact congrArg s.qh (congrArg (fun u => ix3 u ρ x) (Fin.ext (by show 1 = h.val; omega))))
    (fun κ x => Kr (256 * j + κ.val) x) (fun κ x => Vr (256 * j + κ.val) x) hkv.1 hkv.2
  refine at_step Qr Kr Vr B s _ h ρ j hj (PW ⟨256 * h.val + (ρ.val - r0), by omega⟩) (fun κ => ?_) _ _ hrow.1 hrow.2 hs hin.1 hin.2
  have hκ := κ.isLt
  exact ⟨fun _ => by omega, fun _ => trivial⟩

/-! ## The last block of the tile, on its diagonal -/

theorem accAE (P : FVec Ideal S512x128 .f32) (c : Vec Ideal S1x256x1 .f32) (ac : Vec Ideal S1x256x128 .f32) (a : Fin 256) (l : Fin 128) :
    k0_pay643 P (k0_pay642 c) ac (ix3 (0 : Fin 1) a l) = ac (ix3 (0 : Fin 1) a l) + Ideal.exp (0 - c (ix3 (0 : Fin 1) a (0 : Fin 1))) * P (ix2 ⟨a.val, by omega⟩ l) := by
  pointwise [k0_pay643, k0_pay642]

theorem accBE (P : FVec Ideal S512x128 .f32) (c : Vec Ideal S1x256x1 .f32) (ac : Vec Ideal S1x256x128 .f32) (a : Fin 256) (l : Fin 128) :
    k0_pay646 P c ac (ix3 (0 : Fin 1) a l) = ac (ix3 (0 : Fin 1) a l) + Ideal.exp (0 - c (ix3 (0 : Fin 1) a (0 : Fin 1))) * P (ix2 ⟨256 + a.val, by omega⟩ l) := by
  pointwise [k0_pay646, k0_pay645]

theorem cAE (P : FVec Ideal S512x1 .f32) (c : Vec Ideal S1x256x1 .f32) (a : Fin 256) :
    k0_pay644 P (k0_pay642 c) (ix3 (0 : Fin 1) a (0 : Fin 1)) = c (ix3 (0 : Fin 1) a (0 : Fin 1)) + P (ix2 ⟨a.val, by omega⟩ 0) := by
  pointwise [k0_pay644, k0_pay642]

theorem cBE (P : FVec Ideal S512x1 .f32) (c : Vec Ideal S1x256x1 .f32) (a : Fin 256) :
    k0_pay647 P c (ix3 (0 : Fin 1) a (0 : Fin 1)) = c (ix3 (0 : Fin 1) a (0 : Fin 1)) + P (ix2 ⟨256 + a.val, by omega⟩ 0) := by
  pointwise [k0_pay647, k0_pay645]

/-- The sums it leaves. -/
theorem unitE_acc (k v : Vec Ideal S1x1x256x128 .bf16) (r0 : ℕ) (hr : r0 + 256 ≤ 2048) (s : Sb Ideal) :
    (unitE k v r0 hr s).acc = VecWindow.put (VecWindow.put s.acc ![0, r0, 0] S1x256x128.size (k0_pay643 (k0_pay640 (k0_pay633 (F := Ideal)) k0_pay634 (k0_pay635 k) (k0_pay636 v) (VecWindow.window s.qh ![0, r0, 0] S1x256x128.size (box (by decide) hr)) (VecWindow.window s.qh ![1, r0, 0] S1x256x128.size (box (by decide) hr))) (k0_pay642 (VecWindow.window (s.c) ![0, r0, 0] S1x256x1.size (box (by decide) hr))) (VecWindow.window (s.acc) ![0, r0, 0] S1x256x128.size (box (by decide) hr)))) ![1, r0, 0] S1x256x128.size (k0_pay646 (k0_pay640 (k0_pay633 (F := Ideal)) k0_pay634 (k0_pay635 k) (k0_pay636 v) (VecWindow.window s.qh ![0, r0, 0] S1x256x128.size (box (by decide) hr)) (VecWindow.window s.qh ![1, r0, 0] S1x256x128.size (box (by decide) hr))) (VecWindow.window (VecWindow.put s.c ![0, r0, 0] S1x256x1.size (k0_pay644 (k0_pay641 (k0_pay633 (F := Ideal)) k0_pay634 (k0_pay635 k) (VecWindow.window s.qh ![0, r0, 0] S1x256x128.size (box (by decide) hr)) (VecWindow.window s.qh ![1, r0, 0] S1x256x128.size (box (by decide) hr))) (k0_pay642 (VecWindow.window (s.c) ![0, r0, 0] S1x256x1.size (box (by decide) hr))))) ![1, r0, 0] S1x256x1.size (box (by decide) hr)) (VecWindow.window (VecWindow.put s.acc ![0, r0, 0] S1x256x128.size (k0_pay643 (k0_pay640 (k0_pay633 (F := Ideal)) k0_pay634 (k0_pay635 k) (k0_pay636 v) (VecWindow.window s.qh ![0, r0, 0] S1x256x128.size (box (by decide) hr)) (VecWindow.window s.qh ![1, r0, 0] S1x256x128.size (box (by decide) hr))) (k0_pay642 (VecWindow.window (s.c) ![0, r0, 0] S1x256x1.size (box (by decide) hr))) (VecWindow.window (s.acc) ![0, r0, 0] S1x256x128.size (box (by decide) hr)))) ![1, r0, 0] S1x256x128.size (box (by decide) hr))) := rfl

/-- The logarithms it leaves. -/
theorem unitE_c (k v : Vec Ideal S1x1x256x128 .bf16) (r0 : ℕ) (hr : r0 + 256 ≤ 2048) (s : Sb Ideal) :
    (unitE k v r0 hr s).c = VecWindow.put (VecWindow.put s.c ![0, r0, 0] S1x256x1.size (k0_pay644 (k0_pay641 (k0_pay633 (F := Ideal)) k0_pay634 (k0_pay635 k) (VecWindow.window s.qh ![0, r0, 0] S1x256x128.size (box (by decide) hr)) (VecWindow.window s.qh ![1, r0, 0] S1x256x128.size (box (by decide) hr))) (k0_pay642 (VecWindow.window (s.c) ![0, r0, 0] S1x256x1.size (box (by decide) hr))))) ![1, r0, 0] S1x256x1.size (k0_pay647 (k0_pay641 (k0_pay633 (F := Ideal)) k0_pay634 (k0_pay635 k) (VecWindow.window s.qh ![0, r0, 0] S1x256x128.size (box (by decide) hr)) (VecWindow.window s.qh ![1, r0, 0] S1x256x128.size (box (by decide) hr))) (VecWindow.window (VecWindow.put s.c ![0, r0, 0] S1x256x1.size (k0_pay644 (k0_pay641 (k0_pay633 (F := Ideal)) k0_pay634 (k0_pay635 k) (VecWindow.window s.qh ![0, r0, 0] S1x256x128.size (box (by decide) hr)) (VecWindow.window s.qh ![1, r0, 0] S1x256x128.size (box (by decide) hr))) (k0_pay642 (VecWindow.window (s.c) ![0, r0, 0] S1x256x1.size (box (by decide) hr))))) ![1, r0, 0] S1x256x1.size (box (by decide) hr))) := rfl

/-- What the unit leaves at its rows. -/
theorem unitE_in (k v : Vec Ideal S1x1x256x128 .bf16) (r0 : ℕ) (hr : r0 + 256 ≤ 2048) (s : Sb Ideal) (h : Fin 2) (ρ : Fin 2048) (a : Fin 256) (ha : ρ.val = r0 + a.val) :
    (∀ l, (unitE k v r0 hr s).acc (ix3 h ρ l) = s.acc (ix3 h ρ l) + Ideal.exp (0 - s.c (ix3 h ρ (0 : Fin 1))) * k0_pay640 (k0_pay633 (F := Ideal)) k0_pay634 (k0_pay635 k) (k0_pay636 v) (VecWindow.window s.qh ![0, r0, 0] S1x256x128.size (box (by decide) hr)) (VecWindow.window s.qh ![1, r0, 0] S1x256x128.size (box (by decide) hr)) (ix2 ⟨256 * h.val + a.val, by omega⟩ l))
    ∧ (unitE k v r0 hr s).c (ix3 h ρ (0 : Fin 1)) = s.c (ix3 h ρ (0 : Fin 1)) + k0_pay641 (k0_pay633 (F := Ideal)) k0_pay634 (k0_pay635 k) (VecWindow.window s.qh ![0, r0, 0] S1x256x128.size (box (by decide) hr)) (VecWindow.window s.qh ![1, r0, 0] S1x256x128.size (box (by decide) hr)) (ix2 ⟨256 * h.val + a.val, by omega⟩ 0) := by
  skip
  rw [unitE_acc k v r0 hr s, unitE_c k v r0 hr s]
  obtain rfl | rfl : h = 0 ∨ h = 1 := by have := h.isLt; omega
  · refine ⟨fun l => ?_, ?_⟩
    · rw [put_out (n := 256) _ 1 r0 _ (0 : Fin 2) ρ l (.inl (by decide)), put_in (n := 256) _ 0 r0 _ (0 : Fin 2) ρ l rfl a ha, accAE,
        window_at (n := 256) _ 0 r0 (by decide) _ a ρ ha, window_at (n := 256) _ 0 r0 (by decide) _ a ρ ha]
      refine congrArg (fun u => _ + _ * k0_pay640 (k0_pay633 (F := Ideal)) k0_pay634 (k0_pay635 k) (k0_pay636 v) (VecWindow.window s.qh ![0, r0, 0] S1x256x128.size (box (by decide) hr)) (VecWindow.window s.qh ![1, r0, 0] S1x256x128.size (box (by decide) hr)) (ix2 u l)) (Fin.ext ?_)
      show a.val = 256 * 0 + a.val; omega
    · rw [put_out (n := 256) _ 1 r0 _ (0 : Fin 2) ρ 0 (.inl (by decide)), put_in (n := 256) _ 0 r0 _ (0 : Fin 2) ρ 0 rfl a ha, cAE,
        window_at (n := 256) _ 0 r0 (by decide) _ a ρ ha]
      refine congrArg (fun u => _ + k0_pay641 (k0_pay633 (F := Ideal)) k0_pay634 (k0_pay635 k) (VecWindow.window s.qh ![0, r0, 0] S1x256x128.size (box (by decide) hr)) (VecWindow.window s.qh ![1, r0, 0] S1x256x128.size (box (by decide) hr)) (ix2 u 0)) (Fin.ext ?_)
      show a.val = 256 * 0 + a.val; omega
  · refine ⟨fun l => ?_, ?_⟩
    · rw [put_in (n := 256) _ 1 r0 _ (1 : Fin 2) ρ l rfl a ha, accBE,
        window_at (n := 256) _ 1 r0 (by decide) _ a ρ ha, window_at (n := 256) _ 1 r0 (by decide) _ a ρ ha]
      rw [put_out (n := 256) _ 0 r0 _ _ ρ l (.inl (by decide)), put_out (n := 256) _ 0 r0 _ _ ρ 0 (.inl (by decide))]
      refine congrArg (fun u => _ + _ * k0_pay640 (k0_pay633 (F := Ideal)) k0_pay634 (k0_pay635 k) (k0_pay636 v) (VecWindow.window s.qh ![0, r0, 0] S1x256x128.size (box (by decide) hr)) (VecWindow.window s.qh ![1, r0, 0] S1x256x128.size (box (by decide) hr)) (ix2 u l)) (Fin.ext ?_)
      show 256 + a.val = 256 * 1 + a.val; omega
    · rw [put_in (n := 256) _ 1 r0 _ (1 : Fin 2) ρ 0 rfl a ha, cBE, window_at (n := 256) _ 1 r0 (by decide) _ a ρ ha,
        put_out (n := 256) _ 0 r0 _ _ ρ 0 (.inl (by decide))]
      refine congrArg (fun u => _ + k0_pay641 (k0_pay633 (F := Ideal)) k0_pay634 (k0_pay635 k) (VecWindow.window s.qh ![0, r0, 0] S1x256x128.size (box (by decide) hr)) (VecWindow.window s.qh ![1, r0, 0] S1x256x128.size (box (by decide) hr)) (ix2 u 0)) (Fin.ext ?_)
      show 256 + a.val = 256 * 1 + a.val; omega

/-- The unit leaves the other rows as they are. -/
theorem unitE_out (k v : Vec Ideal S1x1x256x128 .bf16) (r0 : ℕ) (hr : r0 + 256 ≤ 2048) (s : Sb Ideal) (h : Fin 2) (ρ : Fin 2048) (hn : ¬ (r0 ≤ ρ.val ∧ ρ.val < r0 + 256)) (j : ℕ)
    (hs : At Qr Kr Vr B s h ρ j) : At Qr Kr Vr B (unitE k v r0 hr s) h ρ j := by
  skip
  refine ⟨Eq.trans ?_ hs.1, fun l => Eq.trans ?_ (hs.2 l)⟩
  · exact (put_out _ 1 r0 _ h ρ 0 (.inr hn)).trans (put_out _ 0 r0 _ h ρ 0 (.inr hn))
  · exact (put_out _ 1 r0 _ h ρ l (.inr hn)).trans (put_out _ 0 r0 _ h ρ l (.inr hn))

/-- The unit leaves the queries. -/
theorem unitE_q (k v : Vec Ideal S1x1x256x128 .bf16) (r0 : ℕ) (hr : r0 + 256 ≤ 2048) (s : Sb Ideal) (hQ : QOk Qr s) : QOk Qr (unitE k v r0 hr s) := hQ

/-- The unit at its rows. -/
theorem unitE_at (k v : Vec Ideal S1x1x256x128 .bf16) (j : ℕ) (hj : j < 16) (hkv : IsBlock Kr Vr k v j) (r0 : ℕ) (hr : r0 + 256 ≤ 2048) (hB : B + r0 = 256 * j) (s : Sb Ideal) (hQ : QOk Qr s)
    (h : Fin 2) (ρ : Fin 2048) (h1 : r0 ≤ ρ.val) (h2 : ρ.val < r0 + 256) (hs : At Qr Kr Vr B s h ρ (j + 1)) : At Qr Kr Vr B (unitE k v r0 hr s) h ρ j := by
  have hh := h.isLt
  have hin := unitE_in k v r0 hr s h ρ ⟨ρ.val - r0, by omega⟩ (by show ρ.val = r0 + (ρ.val - r0); omega)
  have hrow := rowE k v (VecWindow.window s.qh ![0, r0, 0] S1x256x128.size (box (by decide) hr)) (VecWindow.window s.qh ![1, r0, 0] S1x256x128.size (box (by decide) hr)) ⟨256 * h.val + (ρ.val - r0), by omega⟩ (Qr h ρ)
    (fun x => by
      by_cases h3 : 256 * h.val + (ρ.val - r0) < 256
      · rw [dif_pos h3, window_at _ 0 r0 (by decide) _ _ ρ (by show ρ.val = r0 + (256 * h.val + (ρ.val - r0)); omega), ← hQ]
        exact congrArg s.qh (congrArg (fun u => ix3 u ρ x) (Fin.ext (by show 0 = h.val; omega)))
      · rw [dif_neg h3, window_at _ 1 r0 (by decide) _ _ ρ (by show ρ.val = r0 + (256 * h.val + (ρ.val - r0) - 256); omega), ← hQ]
        exact congrArg s.qh (congrArg (fun u => ix3 u ρ x) (Fin.ext (by show 1 = h.val; omega))))
    (fun κ x => Kr (256 * j + κ.val) x) (fun κ x => Vr (256 * j + κ.val) x) hkv.1 hkv.2
  refine at_step Qr Kr Vr B s _ h ρ j hj (PE ⟨256 * h.val + (ρ.val - r0), by omega⟩) (fun κ => ?_) _ _ hrow.1 hrow.2 hs hin.1 hin.2
  have hκ := κ.isLt
  unfold PE
  show (256 * h.val + (ρ.val - r0) < 256 → κ.val < 256 * h.val + (ρ.val - r0)) ∧ (256 ≤ 256 * h.val + (ρ.val - r0) → κ.val < 256 * h.val + (ρ.val - r0) - 256) ↔ _
  omega

/-! ## A block on the diagonal of 256 rows and before the next 256 -/

theorem accAD (P : FVec Ideal S1024x128 .f32) (c : Vec Ideal S1x512x1 .f32) (ac : Vec Ideal S1x512x128 .f32) (a : Fin 512) (l : Fin 128) :
    k0_pay746 P c ac (ix3 (0 : Fin 1) a l) = ac (ix3 (0 : Fin 1) a l) + Ideal.exp (0 - c (ix3 (0 : Fin 1) a (0 : Fin 1))) * P (ix2 ⟨a.val, by omega⟩ l) := by
  pointwise [k0_pay746, k0_pay745]

theorem accBD (P : FVec Ideal S1024x128 .f32) (c : Vec Ideal S1x512x1 .f32) (ac : Vec Ideal S1x512x128 .f32) (a : Fin 512) (l : Fin 128) :
    k0_pay749 P c ac (ix3 (0 : Fin 1) a l) = ac (ix3 (0 : Fin 1) a l) + Ideal.exp (0 - c (ix3 (0 : Fin 1) a (0 : Fin 1))) * P (ix2 ⟨512 + a.val, by omega⟩ l) := by
  pointwise [k0_pay749, k0_pay748]

theorem cAD (sp : FVec Ideal S1024x256 .f32) (cs : FVec Ideal S1024x1 .f32) (c : Vec Ideal S1x512x1 .f32) (a : Fin 512) :
    k0_pay747 sp cs c (ix3 (0 : Fin 1) a (0 : Fin 1)) = c (ix3 (0 : Fin 1) a (0 : Fin 1)) + (k0_pay744 sp cs) (ix2 ⟨a.val, by omega⟩ 0) := by
  pointwise [k0_pay747, k0_pay745, k0_pay744]

theorem cBD (P : FVec Ideal S1024x1 .f32) (c : Vec Ideal S1x512x1 .f32) (a : Fin 512) :
    k0_pay750 P (k0_pay748 c) (ix3 (0 : Fin 1) a (0 : Fin 1)) = c (ix3 (0 : Fin 1) a (0 : Fin 1)) + P (ix2 ⟨512 + a.val, by omega⟩ 0) := by
  pointwise [k0_pay750, k0_pay748]

/-- The sums it leaves. -/
theorem unitD_acc (k v : Vec Ideal S1x1x256x128 .bf16) (r0 : ℕ) (hr : r0 + 512 ≤ 2048) (s : Sb Ideal) :
    (unitD k v r0 hr s).acc = VecWindow.put (VecWindow.put s.acc ![0, r0, 0] S1x512x128.size (k0_pay746 (k0_pay742 (k0_pay633 (F := Ideal)) k0_pay634 (k0_pay738 k) v (VecWindow.window s.qh ![0, r0, 0] S1x512x128.size (box (by decide) hr)) (VecWindow.window s.qh ![1, r0, 0] S1x512x128.size (box (by decide) hr))) (VecWindow.window (s.c) ![0, r0, 0] S1x512x1.size (box (by decide) hr)) (VecWindow.window (s.acc) ![0, r0, 0] S1x512x128.size (box (by decide) hr)))) ![1, r0, 0] S1x512x128.size (k0_pay749 (k0_pay742 (k0_pay633 (F := Ideal)) k0_pay634 (k0_pay738 k) v (VecWindow.window s.qh ![0, r0, 0] S1x512x128.size (box (by decide) hr)) (VecWindow.window s.qh ![1, r0, 0] S1x512x128.size (box (by decide) hr))) (VecWindow.window (VecWindow.put s.c ![0, r0, 0] S1x512x1.size (k0_pay747 (k0_pay740 k0_pay634 (k0_pay738 k) (VecWindow.window s.qh ![0, r0, 0] S1x512x128.size (box (by decide) hr)) (VecWindow.window s.qh ![1, r0, 0] S1x512x128.size (box (by decide) hr))) (k0_pay743 (k0_pay633 (F := Ideal)) k0_pay634 (k0_pay738 k) (VecWindow.window s.qh ![0, r0, 0] S1x512x128.size (box (by decide) hr)) (VecWindow.window s.qh ![1, r0, 0] S1x512x128.size (box (by decide) hr))) (VecWindow.window (s.c) ![0, r0, 0] S1x512x1.size (box (by decide) hr)))) ![1, r0, 0] S1x512x1.size (box (by decide) hr)) (VecWindow.window (VecWindow.put s.acc ![0, r0, 0] S1x512x128.size (k0_pay746 (k0_pay742 (k0_pay633 (F := Ideal)) k0_pay634 (k0_pay738 k) v (VecWindow.window s.qh ![0, r0, 0] S1x512x128.size (box (by decide) hr)) (VecWindow.window s.qh ![1, r0, 0] S1x512x128.size (box (by decide) hr))) (VecWindow.window (s.c) ![0, r0, 0] S1x512x1.size (box (by decide) hr)) (VecWindow.window (s.acc) ![0, r0, 0] S1x512x128.size (box (by decide) hr)))) ![1, r0, 0] S1x512x128.size (box (by decide) hr))) := rfl

/-- The logarithms it leaves. -/
theorem unitD_c (k v : Vec Ideal S1x1x256x128 .bf16) (r0 : ℕ) (hr : r0 + 512 ≤ 2048) (s : Sb Ideal) :
    (unitD k v r0 hr s).c = VecWindow.put (VecWindow.put s.c ![0, r0, 0] S1x512x1.size (k0_pay747 (k0_pay740 k0_pay634 (k0_pay738 k) (VecWindow.window s.qh ![0, r0, 0] S1x512x128.size (box (by decide) hr)) (VecWindow.window s.qh ![1, r0, 0] S1x512x128.size (box (by decide) hr))) (k0_pay743 (k0_pay633 (F := Ideal)) k0_pay634 (k0_pay738 k) (VecWindow.window s.qh ![0, r0, 0] S1x512x128.size (box (by decide) hr)) (VecWindow.window s.qh ![1, r0, 0] S1x512x128.size (box (by decide) hr))) (VecWindow.window (s.c) ![0, r0, 0] S1x512x1.size (box (by decide) hr)))) ![1, r0, 0] S1x512x1.size (k0_pay750 (k0_pay744 (k0_pay740 k0_pay634 (k0_pay738 k) (VecWindow.window s.qh ![0, r0, 0] S1x512x128.size (box (by decide) hr)) (VecWindow.window s.qh ![1, r0, 0] S1x512x128.size (box (by decide) hr))) (k0_pay743 (k0_pay633 (F := Ideal)) k0_pay634 (k0_pay738 k) (VecWindow.window s.qh ![0, r0, 0] S1x512x128.size (box (by decide) hr)) (VecWindow.window s.qh ![1, r0, 0] S1x512x128.size (box (by decide) hr)))) (k0_pay748 (VecWindow.window (VecWindow.put s.c ![0, r0, 0] S1x512x1.size (k0_pay747 (k0_pay740 k0_pay634 (k0_pay738 k) (VecWindow.window s.qh ![0, r0, 0] S1x512x128.size (box (by decide) hr)) (VecWindow.window s.qh ![1, r0, 0] S1x512x128.size (box (by decide) hr))) (k0_pay743 (k0_pay633 (F := Ideal)) k0_pay634 (k0_pay738 k) (VecWindow.window s.qh ![0, r0, 0] S1x512x128.size (box (by decide) hr)) (VecWindow.window s.qh ![1, r0, 0] S1x512x128.size (box (by decide) hr))) (VecWindow.window (s.c) ![0, r0, 0] S1x512x1.size (box (by decide) hr)))) ![1, r0, 0] S1x512x1.size (box (by decide) hr)))) := rfl

/-- What the unit leaves at its rows. -/
theorem unitD_in (k v : Vec Ideal S1x1x256x128 .bf16) (r0 : ℕ) (hr : r0 + 512 ≤ 2048) (s : Sb Ideal) (h : Fin 2) (ρ : Fin 2048) (a : Fin 512) (ha : ρ.val = r0 + a.val) :
    (∀ l, (unitD k v r0 hr s).acc (ix3 h ρ l) = s.acc (ix3 h ρ l) + Ideal.exp (0 - s.c (ix3 h ρ (0 : Fin 1))) * k0_pay742 (k0_pay633 (F := Ideal)) k0_pay634 (k0_pay738 k) v (VecWindow.window s.qh ![0, r0, 0] S1x512x128.size (box (by decide) hr)) (VecWindow.window s.qh ![1, r0, 0] S1x512x128.size (box (by decide) hr)) (ix2 ⟨512 * h.val + a.val, by omega⟩ l))
    ∧ (unitD k v r0 hr s).c (ix3 h ρ (0 : Fin 1)) = s.c (ix3 h ρ (0 : Fin 1)) + k0_pay744 (k0_pay740 k0_pay634 (k0_pay738 k) (VecWindow.window s.qh ![0, r0, 0] S1x512x128.size (box (by decide) hr)) (VecWindow.window s.qh ![1, r0, 0] S1x512x128.size (box (by decide) hr))) (k0_pay743 (k0_pay633 (F := Ideal)) k0_pay634 (k0_pay738 k) (VecWindow.window s.qh ![0, r0, 0] S1x512x128.size (box (by decide) hr)) (VecWindow.window s.qh ![1, r0, 0] S1x512x128.size (box (by decide) hr))) (ix2 ⟨512 * h.val + a.val, by omega⟩ 0) := by
  skip
  rw [unitD_acc k v r0 hr s, unitD_c k v r0 hr s]
  obtain rfl | rfl : h = 0 ∨ h = 1 := by have := h.isLt; omega
  · refine ⟨fun l => ?_, ?_⟩
    · rw [put_out (n := 512) _ 1 r0 _ (0 : Fin 2) ρ l (.inl (by decide)), put_in (n := 512) _ 0 r0 _ (0 : Fin 2) ρ l rfl a ha, accAD,
        window_at (n := 512) _ 0 r0 (by decide) _ a ρ ha, window_at (n := 512) _ 0 r0 (by decide) _ a ρ ha]
      refine congrArg (fun u => _ + _ * k0_pay742 (k0_pay633 (F := Ideal)) k0_pay634 (k0_pay738 k) v (VecWindow.window s.qh ![0, r0, 0] S1x512x128.size (box (by decide) hr)) (VecWindow.window s.qh ![1, r0, 0] S1x512x128.size (box (by decide) hr)) (ix2 u l)) (Fin.ext ?_)
      show a.val = 512 * 0 + a.val; omega
    · rw [put_out (n := 512) _ 1 r0 _ (0 : Fin 2) ρ 0 (.inl (by decide)), put_in (n := 512) _ 0 r0 _ (0 : Fin 2) ρ 0 rfl a ha, cAD,
        window_at (n := 512) _ 0 r0 (by decide) _ a ρ ha]
      refine congrArg (fun u => _ + k0_pay744 (k0_pay740 k0_pay634 (k0_pay738 k) (VecWindow.window s.qh ![0, r0, 0] S1x512x128.size (box (by decide) hr)) (VecWindow.window s.qh ![1, r0, 0] S1x512x128.size (box (by decide) hr))) (k0_pay743 (k0_pay633 (F := Ideal)) k0_pay634 (k0_pay738 k) (VecWindow.window s.qh ![0, r0, 0] S1x512x128.size (box (by decide) hr)) (VecWindow.window s.qh ![1, r0, 0] S1x512x128.size (box (by decide) hr))) (ix2 u 0)) (Fin.ext ?_)
      show a.val = 512 * 0 + a.val; omega
  · refine ⟨fun l => ?_, ?_⟩
    · rw [put_in (n := 512) _ 1 r0 _ (1 : Fin 2) ρ l rfl a ha, accBD,
        window_at (n := 512) _ 1 r0 (by decide) _ a ρ ha, window_at (n := 512) _ 1 r0 (by decide) _ a ρ ha]
      rw [put_out (n := 512) _ 0 r0 _ _ ρ l (.inl (by decide)), put_out (n := 512) _ 0 r0 _ _ ρ 0 (.inl (by decide))]
      refine congrArg (fun u => _ + _ * k0_pay742 (k0_pay633 (F := Ideal)) k0_pay634 (k0_pay738 k) v (VecWindow.window s.qh ![0, r0, 0] S1x512x128.size (box (by decide) hr)) (VecWindow.window s.qh ![1, r0, 0] S1x512x128.size (box (by decide) hr)) (ix2 u l)) (Fin.ext ?_)
      show 512 + a.val = 512 * 1 + a.val; omega
    · rw [put_in (n := 512) _ 1 r0 _ (1 : Fin 2) ρ 0 rfl a ha, cBD, window_at (n := 512) _ 1 r0 (by decide) _ a ρ ha,
        put_out (n := 512) _ 0 r0 _ _ ρ 0 (.inl (by decide))]
      refine congrArg (fun u => _ + k0_pay744 (k0_pay740 k0_pay634 (k0_pay738 k) (VecWindow.window s.qh ![0, r0, 0] S1x512x128.size (box (by decide) hr)) (VecWindow.window s.qh ![1, r0, 0] S1x512x128.size (box (by decide) hr))) (k0_pay743 (k0_pay633 (F := Ideal)) k0_pay634 (k0_pay738 k) (VecWindow.window s.qh ![0, r0, 0] S1x512x128.size (box (by decide) hr)) (VecWindow.window s.qh ![1, r0, 0] S1x512x128.size (box (by decide) hr))) (ix2 u 0)) (Fin.ext ?_)
      show 512 + a.val = 512 * 1 + a.val; omega

/-- The unit leaves the other rows as they are. -/
theorem unitD_out (k v : Vec Ideal S1x1x256x128 .bf16) (r0 : ℕ) (hr : r0 + 512 ≤ 2048) (s : Sb Ideal) (h : Fin 2) (ρ : Fin 2048) (hn : ¬ (r0 ≤ ρ.val ∧ ρ.val < r0 + 512)) (j : ℕ)
    (hs : At Qr Kr Vr B s h ρ j) : At Qr Kr Vr B (unitD k v r0 hr s) h ρ j := by
  skip
  refine ⟨Eq.trans ?_ hs.1, fun l => Eq.trans ?_ (hs.2 l)⟩
  · exact (put_out _ 1 r0 _ h ρ 0 (.inr hn)).trans (put_out _ 0 r0 _ h ρ 0 (.inr hn))
  · exact (put_out _ 1 r0 _ h ρ l (.inr hn)).trans (put_out _ 0 r0 _ h ρ l (.inr hn))

/-- The unit leaves the queries. -/
theorem unitD_q (k v : Vec Ideal S1x1x256x128 .bf16) (r0 : ℕ) (hr : r0 + 512 ≤ 2048) (s : Sb Ideal) (hQ : QOk Qr s) : QOk Qr (unitD k v r0 hr s) := hQ

/-- The unit at its rows. -/
theorem unitD_at (k v : Vec Ideal S1x1x256x128 .bf16) (j : ℕ) (hj : j < 16) (hkv : IsBlock Kr Vr k v j) (r0 : ℕ) (hr : r0 + 512 ≤ 2048) (hB : B + r0 = 256 * j) (s : Sb Ideal) (hQ : QOk Qr s)
    (h : Fin 2) (ρ : Fin 2048) (h1 : r0 ≤ ρ.val) (h2 : ρ.val < r0 + 512) (hs : At Qr Kr Vr B s h ρ (j + 1)) : At Qr Kr Vr B (unitD k v r0 hr s) h ρ j := by
  have hh := h.isLt
  have hin := unitD_in k v r0 hr s h ρ ⟨ρ.val - r0, by omega⟩ (by show ρ.val = r0 + (ρ.val - r0); omega)
  have hrow := rowD k v (VecWindow.window s.qh ![0, r0, 0] S1x512x128.size (box (by decide) hr)) (VecWindow.window s.qh ![1, r0, 0] S1x512x128.size (box (by decide) hr)) ⟨512 * h.val + (ρ.val - r0), by omega⟩ (Qr h ρ)
    (fun x => by
      by_cases h3 : 512 * h.val + (ρ.val - r0) < 512
      · rw [dif_pos h3, window_at _ 0 r0 (by decide) _ _ ρ (by show ρ.val = r0 + (512 * h.val + (ρ.val - r0)); omega), ← hQ]
        exact congrArg s.qh (congrArg (fun u => ix3 u ρ x) (Fin.ext (by show 0 = h.val; omega)))
      · rw [dif_neg h3, window_at _ 1 r0 (by decide) _ _ ρ (by show ρ.val = r0 + (512 * h.val + (ρ.val - r0) - 512); omega), ← hQ]
        exact congrArg s.qh (congrArg (fun u => ix3 u ρ x) (Fin.ext (by show 1 = h.val; omega))))
    (fun κ x => Kr (256 * j + κ.val) x) (fun κ x => Vr (256 * j + κ.val) x) hkv.1 hkv.2
  refine at_step Qr Kr Vr B s _ h ρ j hj (PD ⟨512 * h.val + (ρ.val - r0), by omega⟩) (fun κ => ?_) _ _ hrow.1 hrow.2 hs hin.1 hin.2
  have hκ := κ.isLt
  unfold PD
  show (512 * h.val + (ρ.val - r0) < 256 → κ.val < 512 * h.val + (ρ.val - r0)) ∧ (512 ≤ 512 * h.val + (ρ.val - r0) → 512 * h.val + (ρ.val - r0) < 768 → κ.val < 512 * h.val + (ρ.val - r0) - 512) ↔ _
  omega

end Cert.AttnIdeal.Body
-- ==== Proof.AttnIdealTile.lean ====
/-
  The stick-breaking half at one grid point, at the ideal instance: where the blocks the point reads are real, the result
  block is each row's weighted values over all the keys before the row, whatever the scratch held.
-/
module

public import proofs.«01_k».proof.Proof.AttnIdealStep

@[expose] public section

set_option maxRecDepth 16384

noncomputable section

namespace Cert.AttnIdeal.Body

open Cert.AttnIdeal Cert.AttnIdeal.Gen Idealize.ShloMosaic.Pointwise Cert.Stick
open Idealize.ShloMosaic Idealize.ShloMosaic.TcCoe Idealize.SL.Sem

/-! ## The offsets -/

theorem off4 (i : grid0.Coords) (r : ℕ) (hr : r < 8) : k0_off4 i (BitVec.ofNat 32 r) = ![0, 0, 256 * (8 * (i 2).val + r), 0] := by
  have hq : (i 2).val < 2 := (i 2).isLt
  unfold k0_off4
  generalize (i 2).val = q at hq ⊢
  interval_cases q <;> interval_cases r <;> decide

theorem off9 (i : grid0.Coords) (h : (i 2).val = 1) : k0_off9 i = ![0, 0, 256 * 7, 0] := by
  unfold k0_off9
  rw [h]
  decide

theorem cond2 (i : grid0.Coords) : k0_cond2 i = 1#1 ↔ (i 2).val = 1 := by
  have hq : (i 2).val < 2 := (i 2).isLt
  unfold k0_cond2
  generalize (i 2).val = q at hq ⊢
  interval_cases q <;> decide

theorem off11 : ∀ j : Fin 16, k0_off11 (BitVec.ofNat 32 j.val) = ![0, 0, 256 * j.val, 0] := by decide
theorem off12 : ∀ t : Fin k0_t3_loop.trips, ![0, 256 * t.val, 0] = k0_off12 t := by decide
theorem off13 : ∀ t : Fin k0_t3_loop.trips, ![1, 256 * t.val, 0] = k0_off13 t := by decide
theorem off14 : ∀ t : Fin k0_t3_loop.trips, ![0, 256 * t.val, 0] = k0_off14 t := by decide
theorem off15 : ∀ t : Fin k0_t3_loop.trips, ![1, 256 * t.val, 0] = k0_off15 t := by decide
theorem trips_eq : k0_t3_loop.trips = 8 := by decide

theorem pred_of : ∀ j : Fin 16, (j.val = 0 → (Scalar.subi (BitVec.ofNat 32 j.val) 1#32).toInt < 0) ∧ (0 < j.val → Scalar.subi (BitVec.ofNat 32 j.val) 1#32 = BitVec.ofNat 32 (j.val - 1)) := by decide

theorem first_of : ∀ (q : Fin 2) (k : Fin k0_t3_loop.trips),
    (8 * q.val + k.val - 1 = 0 → (Scalar.subi (Scalar.addi (Scalar.muli (BitVec.ofNat 32 q.val) 8#32) (BitVec.ofNat 32 k.val)) 2#32).toInt < 0)
    ∧ (0 < 8 * q.val + k.val - 1 → Scalar.subi (Scalar.addi (Scalar.muli (BitVec.ofNat 32 q.val) 8#32) (BitVec.ofNat 32 k.val)) 2#32 = BitVec.ofNat 32 (8 * q.val + k.val - 1 - 1)) := by decide

theorem sge_of : ∀ j : Fin 16, Scalar.cmpi .sge (BitVec.ofNat 32 j.val) 0#32 = 1#1 := by decide

/-- At the ideal instance the walk stops only where there is no block left. -/
theorem goes_of (t : Fin k0_t3_loop.trips) (j : Fin 16) (s : Sb Ideal) : goes t (BitVec.ofNat 32 j.val) s := by
  unfold goes
  rw [sge_of, IdealRules.named_const.ideal_named_scalar AttnIdeal.κ "dead" (φ := .f32) 0x42D20000#32 (⊤ : EReal) (by rfl)]
  have : ∀ x : Ideal .f32, Scalar.cmpf (F := Ideal) .ole x (⊤ : EReal) = 1#1 := fun x => by
    show BitVec.ofBool (decide ((x : EReal) ≤ ⊤)) = 1#1
    rw [decide_eq_true le_top]; rfl
  rw [this]
  decide

/-! ## What the blocks hold -/

variable (X : Ins Ideal) (i : grid0.Coords) (q : Fin 2048 → Fin 128 → ℝ) (Kr Vr : ℕ → Fin 128 → ℝ)

/-- Each head's queries: its lanes of the scaled query, and zero on the other head's. -/
def headQ (h : Fin 2) (ρ : Fin 2048) (l : Fin 128) : ℝ := if l.val / 64 = h.val then q ρ l * (1 / 8) else 0

/-- The blocks the point reads are real. -/
structure Reals : Prop where
  x4 : ∀ ρ l, X.x4 (ix4 (0 : Fin 1) (0 : Fin 1) ρ l) = ((q ρ l : ℝ) : EReal)
  x5 : ∀ (n : Fin 4096) l, X.x5 (ix4 (0 : Fin 1) (0 : Fin 1) n l) = ((Kr n.val l : ℝ) : EReal)
  x6 : ∀ (n : Fin 4096) l, X.x6 (ix4 (0 : Fin 1) (0 : Fin 1) n l) = ((Vr n.val l : ℝ) : EReal)

theorem window4 {α : Type} (x : S1x1x4096x128.Idx → α) (o : Fin 4 → ℕ) (inb : ∀ a, o a + S1x1x256x128.size a ≤ S1x1x4096x128.size a) (n0 : ℕ) (ho : o = ![0, 0, n0, 0])
    (κ : Fin 256) (l : Fin 128) (n : Fin 4096) (hn : n.val = n0 + κ.val) :
    VecWindow.window x o S1x1x256x128.size inb (ix4 (0 : Fin 1) (0 : Fin 1) κ l) = x (ix4 (0 : Fin 1) (0 : Fin 1) n l) := by
  subst ho
  refine congrArg x (funext fun b => Fin.ext ?_)
  match b with
  | ⟨0, _⟩ => rfl
  | ⟨1, _⟩ => rfl
  | ⟨2, _⟩ => show n0 + 1 * κ.val = n.val; omega
  | ⟨3, _⟩ => show 0 + 1 * l.val = l.val; omega

variable {X q Kr Vr}

theorem block_of (hX : Reals X q Kr Vr) (o : Fin 4 → ℕ) (inb : ∀ a, o a + S1x1x256x128.size a ≤ S1x1x4096x128.size a) (j : ℕ) (hj : j < 16) (ho : o = ![0, 0, 256 * j, 0]) :
    IsBlock Kr Vr (VecWindow.window X.x5 o S1x1x256x128.size inb) (VecWindow.window X.x6 o S1x1x256x128.size inb) j :=
  ⟨fun κ l => (window4 X.x5 o inb (256 * j) ho κ l ⟨256 * j + κ.val, by omega⟩ rfl).trans (hX.x5 _ l),
   fun κ l => (window4 X.x6 o inb (256 * j) ho κ l ⟨256 * j + κ.val, by omega⟩ rfl).trans (hX.x6 _ l)⟩

theorem own_of (hX : Reals X q Kr Vr) (r : ℕ) (hr : r < 8) (h : ∀ a, k0_off4 i (BitVec.ofNat 32 r) a + S1x1x256x128.size a ≤ S1x1x4096x128.size a) :
    IsBlock Kr Vr (own i X.x5 (BitVec.ofNat 32 r) h) (own i X.x6 (BitVec.ofNat 32 r) h) (8 * (i 2).val + r) :=
  block_of hX _ h _ (by have : (i 2).val < 2 := (i 2).isLt; omega) (off4 i r hr)

/-! ## Setting the scratch -/

theorem bf16_eighth : Ideal.ofBits .bf16 0x3E00#16 = ((1 / 8 : ℝ) : EReal) := by
  simp [Ideal.ofBits, Ideal.ieee]
  rw [← EReal.coe_mul]
  congr 1
  norm_num

theorem window_x4 (x : S1x1x2048x128.Idx → EReal) (ρ : Fin 2048) (l : Fin 128) :
    VecWindow.window x ![0, 0, 0, 0] S1x1x2048x128.size inb_S1x1x2048x128_S1x1x2048x128_0_0_0_0 (ix4 (0 : Fin 1) (0 : Fin 1) ρ l) = x (ix4 (0 : Fin 1) (0 : Fin 1) ρ l) := by
  refine congrArg x (funext fun b => Fin.ext ?_)
  match b with
  | ⟨0, _⟩ => rfl
  | ⟨1, _⟩ => rfl
  | ⟨2, _⟩ => show 0 + 1 * ρ.val = ρ.val; omega
  | ⟨3, _⟩ => show 0 + 1 * l.val = l.val; omega

theorem pay628_apply (x : Vec Ideal S1x1x2048x128 .bf16) (ρ : Fin 2048) (l : Fin 128) :
    k0_pay628 x (ix3 (0 : Fin 1) ρ l) = if l.val < 64 then x (ix4 (0 : Fin 1) (0 : Fin 1) ρ l) * Ideal.ofBits .bf16 0x3E00#16 else 0 := by
  rw [← sel_slt l.val 64 (by omega) (by omega)]
  pointwise [k0_pay628, k0_pay626, k0_pay627]

theorem sge64 : ∀ l : Fin 128, IntOp.cmpi CmpIPredicate.sge (BitVec.ofNat 32 l.val) 64#32 = BitVec.ofBool (decide (64 ≤ l.val)) := by decide

theorem pay630_apply (x : Vec Ideal S1x1x2048x128 .bf16) (ρ : Fin 2048) (l : Fin 128) :
    k0_pay630 (k0_pay626 x) (k0_pay627 (F := Ideal)) k0_pay629 (ix3 (0 : Fin 1) ρ l) = if 64 ≤ l.val then x (ix4 (0 : Fin 1) (0 : Fin 1) ρ l) * Ideal.ofBits .bf16 0x3E00#16 else 0 := by
  pointwise [k0_pay630, k0_pay629, k0_pay626, k0_pay627]
  rw [sge64, WordCmp.select_decide]

theorem init_qh (s : Sb Ideal) : (init X s).qh = VecWindow.put (VecWindow.put s.qh ![0, 0, 0] S1x2048x128.size (k0_pay628 (VecWindow.window X.x4 ![0, 0, 0, 0] S1x1x2048x128.size inb_S1x1x2048x128_S1x1x2048x128_0_0_0_0)))
    ![1, 0, 0] S1x2048x128.size (k0_pay630 (k0_pay626 (VecWindow.window X.x4 ![0, 0, 0, 0] S1x1x2048x128.size inb_S1x1x2048x128_S1x1x2048x128_0_0_0_0)) (k0_pay627 (F := Ideal)) k0_pay629) := rfl

theorem init_q (hX : Reals X q Kr Vr) (s : Sb Ideal) : QOk (headQ q) (init X s) := by
  intro h ρ l
  have hl := l.isLt
  unfold headQ
  rw [init_qh]
  obtain rfl | rfl : h = 0 ∨ h = 1 := by have := h.isLt; omega
  · rw [put_out (n := 2048) _ 1 0 _ (0 : Fin 2) ρ l (.inl (by decide)), put_in (n := 2048) _ 0 0 _ (0 : Fin 2) ρ l rfl ρ (by omega),
      pay628_apply, window_x4, hX.x4, bf16_eighth, ← EReal.coe_mul, ite_coe]
    by_cases h : l.val < 64
    · rw [if_pos h, if_pos (by show l.val / 64 = 0; omega)]
    · rw [if_neg h, if_neg (by show ¬ l.val / 64 = 0; omega)]
  · rw [put_in (n := 2048) _ 1 0 _ (1 : Fin 2) ρ l rfl ρ (by omega), pay630_apply, window_x4, hX.x4, bf16_eighth, ← EReal.coe_mul, ite_coe]
    by_cases h : 64 ≤ l.val
    · rw [if_pos h, if_pos (by show l.val / 64 = 1; omega)]
    · rw [if_neg h, if_neg (by show ¬ l.val / 64 = 1; omega)]

theorem put_all {α : Type} {L : ℕ} (x w : (⟨3, ![2, 2048, L]⟩ : Shape).Idx → α) (h : Fin 2) (ρ : Fin 2048) (l : Fin L) :
    VecWindow.put x ![0, 0, 0] (⟨3, ![2, 2048, L]⟩ : Shape).size w (ix3 h ρ l) = w (ix3 h ρ l) := by
  have hy : ∀ b : Fin 3, (![0, 0, 0] : Fin 3 → ℕ) b ≤ ((ix3 h ρ l : (⟨3, ![2, 2048, L]⟩ : Shape).Idx) b).val
      ∧ ((ix3 h ρ l : (⟨3, ![2, 2048, L]⟩ : Shape).Idx) b).val < (![0, 0, 0] : Fin 3 → ℕ) b + (⟨3, ![2, 2048, L]⟩ : Shape).size b := by
    intro b
    have := h.isLt
    have := ρ.isLt
    have := l.isLt
    match b with
    | ⟨0, _⟩ => show 0 ≤ h.val ∧ h.val < 0 + 2; omega
    | ⟨1, _⟩ => show 0 ≤ ρ.val ∧ ρ.val < 0 + 2048; omega
    | ⟨2, _⟩ => show 0 ≤ l.val ∧ l.val < 0 + L; omega
  refine (dif_pos hy).trans (congrArg w (funext fun b => Fin.ext ?_))
  match b with
  | ⟨0, _⟩ => rfl
  | ⟨1, _⟩ => rfl
  | ⟨2, _⟩ => rfl

theorem init_at (s : Sb Ideal) (h : Fin 2) (ρ : Fin 2048) (B j : ℕ) (hj : B + ρ.val ≤ 256 * j) : At (headQ q) Kr Vr B (init X s) h ρ j := by
  have z0 : Ideal.ofBits .f32 0x00000000#32 = ((0 : ℝ) : EReal) := by simp [Ideal.ofBits, Ideal.ieee]
  refine ⟨?_, fun l => ?_⟩
  · rw [taken_of_le _ _ _ hj, ← z0]
    refine (put_all (L := 1) _ _ h ρ 0).trans ?_
    pointwise [k0_pay632]
  · rw [mixed_of_le _ _ _ _ hj, ← z0]
    refine (put_all (L := 128) _ _ h ρ l).trans ?_
    pointwise [k0_pay631]

/-! ## The diagonal -/

/-- Each row holds the keys from block `J ρ` on, and the queries are the heads'. -/
def Holds (q : Fin 2048 → Fin 128 → ℝ) (Kr Vr : ℕ → Fin 128 → ℝ) (B : ℕ) (J : ℕ → ℕ) (s : Sb Ideal) : Prop := QOk (headQ q) s ∧ ∀ h (ρ : Fin 2048), At (headQ q) Kr Vr B s h ρ (J ρ.val)

theorem Holds.congr {B : ℕ} {J J' : ℕ → ℕ} {s : Sb Ideal} (H : Holds q Kr Vr B J s) (e : ∀ ρ, ρ < 2048 → J ρ = J' ρ) : Holds q Kr Vr B J' s :=
  ⟨H.1, fun h ρ => e ρ.val ρ.isLt ▸ H.2 h ρ⟩

/-- After the units of the tile's blocks from `b` on. -/
def diagJ (p b ρ : ℕ) : ℕ := 8 * p + (if ρ / 256 < b then ρ / 256 + 1 else if ρ / 256 = b then b else ρ / 256 - 1)

theorem holds_init (hX : Reals X q Kr Vr) (s : Sb Ideal) (p : ℕ) : Holds q Kr Vr (2048 * p) (diagJ p 8) (init X s) :=
  ⟨init_q hX s, fun h ρ => init_at s h ρ _ _ (by have := ρ.isLt; unfold diagJ; rw [if_pos (by omega)]; omega)⟩

theorem holds_E (k v : Vec Ideal S1x1x256x128 .bf16) (p : ℕ) (hp : p < 2) (hkv : IsBlock Kr Vr k v (8 * p + 7)) (s : Sb Ideal) (H : Holds q Kr Vr (2048 * p) (diagJ p 8) s) :
    Holds q Kr Vr (2048 * p) (diagJ p 7) (unitE k v 1792 (by decide) s) := by
  refine ⟨unitE_q (headQ q) k v 1792 _ s H.1, fun h ρ => ?_⟩
  have hρ := ρ.isLt
  by_cases hin : 1792 ≤ ρ.val ∧ ρ.val < 1792 + 256
  · have e : diagJ p 7 ρ.val = 8 * p + 7 := by unfold diagJ; rw [if_neg (by omega), if_pos (by omega)]
    have e' : diagJ p 8 ρ.val = 8 * p + 7 + 1 := by unfold diagJ; rw [if_pos (by omega)]; omega
    rw [e]
    exact unitE_at (headQ q) Kr Vr (2048 * p) k v (8 * p + 7) (by omega) hkv 1792 _ (by omega) s H.1 h ρ hin.1 hin.2 (e' ▸ H.2 h ρ)
  · have e : diagJ p 8 ρ.val = diagJ p 7 ρ.val := by unfold diagJ; rw [if_pos (by omega), if_pos (by omega)]
    exact e ▸ unitE_out (headQ q) Kr Vr (2048 * p) k v 1792 _ s h ρ hin _ (H.2 h ρ)

theorem holds_D (k v : Vec Ideal S1x1x256x128 .bf16) (p : ℕ) (hp : p < 2) (b : ℕ) (hb : b < 7) (hkv : IsBlock Kr Vr k v (8 * p + b)) (r0 : ℕ) (hr0 : r0 = 256 * b) (hr : r0 + 512 ≤ 2048) (s : Sb Ideal)
    (H : Holds q Kr Vr (2048 * p) (diagJ p (b + 1)) s) :
    Holds q Kr Vr (2048 * p) (diagJ p b) (unitD k v r0 hr s) := by
  refine ⟨unitD_q (headQ q) k v r0 hr s H.1, fun h ρ => ?_⟩
  have hρ := ρ.isLt
  by_cases hin : r0 ≤ ρ.val ∧ ρ.val < r0 + 512
  · have e : diagJ p b ρ.val = 8 * p + b := by unfold diagJ; split_ifs <;> omega
    have e' : diagJ p (b + 1) ρ.val = 8 * p + b + 1 := by unfold diagJ; split_ifs <;> omega
    rw [e]
    exact unitD_at (headQ q) Kr Vr (2048 * p) k v (8 * p + b) (by omega) hkv r0 hr (by omega) s H.1 h ρ hin.1 hin.2 (e' ▸ H.2 h ρ)
  · have e : diagJ p (b + 1) ρ.val = diagJ p b ρ.val := by unfold diagJ; split_ifs <;> omega
    exact e ▸ unitD_out (headQ q) Kr Vr (2048 * p) k v r0 hr s h ρ hin _ (H.2 h ρ)

/-- The unit of a block before the rows of row block `t`, where they hold the keys from the block after it on. -/
theorem holds_W (k v : Vec Ideal S1x1x256x128 .bf16) (p t j : ℕ) (ht : t < 8) (hj : j + 1 ≤ 8 * p + t) (hj16 : j < 16) (hkv : IsBlock Kr Vr k v j)
    (o0 o1 o2 o3 : Fin 3 → ℕ) (i0 : ∀ a, o0 a + S1x256x128.size a ≤ S2x2048x128.size a) (i1 : ∀ a, o1 a + S1x256x128.size a ≤ S2x2048x128.size a)
    (i2 : ∀ a, o2 a + S1x256x1.size a ≤ S2x2048x1.size a) (i3 : ∀ a, o3 a + S1x256x1.size a ≤ S2x2048x1.size a)
    (e0 : ![0, 256 * t, 0] = o0) (e1 : ![1, 256 * t, 0] = o1) (e2 : ![0, 256 * t, 0] = o2) (e3 : ![1, 256 * t, 0] = o3) (s : Sb Ideal) (J : ℕ → ℕ)
    (H : Holds q Kr Vr (2048 * p) (fun ρ => if ρ / 256 = t then j + 1 else J ρ) s) :
    Holds q Kr Vr (2048 * p) (fun ρ => if ρ / 256 = t then j else J ρ) (unitW k v o0 o1 o2 o3 i0 i1 i2 i3 s) := by
  have hr : 256 * t + 256 ≤ 2048 := by omega
  refine ⟨unitW_q (headQ q) k v (256 * t) hr o0 o1 o2 o3 i0 i1 i2 i3 e0 e1 e2 e3 s H.1, fun h ρ => ?_⟩
  have Hρ := H.2 h ρ
  dsimp only at Hρ ⊢
  by_cases hin : ρ.val / 256 = t
  · rw [if_pos hin] at Hρ ⊢
    exact unitW_at (headQ q) Kr Vr (2048 * p) k v j hj16 hkv (256 * t) hr o0 o1 o2 o3 i0 i1 i2 i3 e0 e1 e2 e3 (by omega) s H.1 h ρ (by omega) (by omega) Hρ
  · rw [if_neg hin] at Hρ ⊢
    exact unitW_out (headQ q) Kr Vr (2048 * p) k v (256 * t) hr o0 o1 o2 o3 i0 i1 i2 i3 e0 e1 e2 e3 s h ρ (by omega) _ Hρ

/-- After the diagonal every row holds the keys from the block before its own on. -/
theorem holds_diag (hX : Reals X q Kr Vr) (s : Sb Ideal) : Holds q Kr Vr (2048 * (i 2).val) (fun ρ => 8 * (i 2).val + ρ / 256 - 1) (sbDiag X i s) := by
  have hp : (i 2).val < 2 := (i 2).isLt
  rw [sbDiag_eq]
  have H : Holds q Kr Vr (2048 * (i 2).val) (diagJ (i 2).val 0) (unitD (own i X.x5 0#32 (k0_off4_inb i 0)) (own i X.x6 0#32 (k0_off4_inb i 0)) 0 (by decide) (diagTo1 X i (init X s))) :=
    holds_D _ _ _ hp 0 (by decide) (own_of i hX 0 (by decide) _) 0 rfl _ _ <|
    holds_D _ _ _ hp 1 (by decide) (own_of i hX 1 (by decide) _) 256 rfl _ _ <|
    holds_D _ _ _ hp 2 (by decide) (own_of i hX 2 (by decide) _) 512 rfl _ _ <|
    holds_D _ _ _ hp 3 (by decide) (own_of i hX 3 (by decide) _) 768 rfl _ _ <|
    holds_D _ _ _ hp 4 (by decide) (own_of i hX 4 (by decide) _) 1024 rfl _ _ <|
    holds_D _ _ _ hp 5 (by decide) (own_of i hX 5 (by decide) _) 1280 rfl _ _ <|
    holds_D _ _ _ hp 6 (by decide) (own_of i hX 6 (by decide) _) 1536 rfl _ _ <|
    holds_E _ _ _ hp (own_of i hX 7 (by decide) _) _ (holds_init hX s _)
  unfold before
  by_cases hc : k0_cond2 i = 1#1
  · rw [dif_pos hc]
    have h1 := (cond2 i).mp hc
    refine Holds.congr (holds_W _ _ (i 2).val 0 7 (by decide) (by omega) (by decide) (block_of hX _ _ 7 (by decide) (off9 i h1)) _ _ _ _ _ _ _ _ rfl rfl rfl rfl _ (diagJ (i 2).val 0) (H.congr fun ρ hρ => ?_)) fun ρ hρ => ?_
    · show diagJ _ 0 ρ = if ρ / 256 = 0 then 8 else diagJ _ 0 ρ
      split_ifs with h0
      · unfold diagJ; split_ifs <;> omega
      · rfl
    · show (if ρ / 256 = 0 then 7 else diagJ _ 0 ρ) = 8 * (i 2).val + ρ / 256 - 1
      unfold diagJ; split_ifs <;> omega
  · rw [dif_neg hc]
    have h0 : (i 2).val = 0 := by have hne : (i 2).val ≠ 1 := fun h => hc ((cond2 i).mpr h); omega
    exact H.congr fun ρ hρ => by unfold diagJ; split_ifs <;> omega

/-! ## The walks -/

theorem holds_walk (hX : Reals X q Kr Vr) (t : Fin k0_t3_loop.trips) (J : ℕ → ℕ) : ∀ (n m : ℕ) (j : BitVec 32) (s : Sb Ideal), m ≤ n → m ≤ 16 → m ≤ 8 * (i 2).val + t.val →
    (m = 0 → j.toInt < 0) → (0 < m → j = BitVec.ofNat 32 (m - 1)) →
    Holds q Kr Vr (2048 * (i 2).val) (fun ρ => if ρ / 256 = t.val then m else J ρ) s →
    Holds q Kr Vr (2048 * (i 2).val) (fun ρ => if ρ / 256 = t.val then 0 else J ρ) (walk X i t (k0_pay633 (F := Ideal)) n j s).2 := by
  have ht : t.val < 8 := trips_eq ▸ t.isLt
  intro n
  induction n with
  | zero =>
    intro m j s hm _ _ _ _ H
    obtain rfl : m = 0 := by omega
    exact H
  | succ n ih =>
    intro m j s hm h16 hmt hz hs H
    show Holds _ _ _ _ _ (if goes t j s then (if h : k0_chk1 j then walk X i t _ n (Scalar.subi j 1#32) (trip X i t _ j h s) else (j, s)) else (j, s)).2
    by_cases h0 : m = 0
    · have hg : ¬ goes t j s := fun h => by have := nonneg_of_goes h; have := hz h0; omega
      rw [if_neg hg]
      subst h0
      exact H
    · obtain ⟨k, rfl⟩ : ∃ k, m = k + 1 := ⟨m - 1, by omega⟩
      have hk : k < 16 := by omega
      obtain rfl : j = BitVec.ofNat 32 k := hs (by omega)
      have hg : goes t (BitVec.ofNat 32 k) s := goes_of t ⟨k, hk⟩ s
      have hc : k0_chk1 (BitVec.ofNat 32 k) := chk_of_lt ⟨k, hk⟩
      rw [if_pos hg, dif_pos hc]
      have hpred := pred_of ⟨k, hk⟩
      refine ih k _ _ (by omega) (by omega) (by omega) hpred.1 hpred.2 ?_
      rw [trip_eq]
      exact holds_W _ _ (i 2).val t.val k ht (by omega) hk (block_of hX _ _ k hk (off11 ⟨k, hk⟩)) _ _ _ _ _ _ _ _ (off12 t) (off13 t) (off14 t) (off15 t) s J H

theorem holds_walks (hX : Reals X q Kr Vr) (s : Sb Ideal) (H : Holds q Kr Vr (2048 * (i 2).val) (fun ρ => 8 * (i 2).val + ρ / 256 - 1) s) :
    ∀ k ≤ 8, Holds q Kr Vr (2048 * (i 2).val) (fun ρ => if ρ / 256 < k then 0 else 8 * (i 2).val + ρ / 256 - 1) (walks X i (k0_pay633 (F := Ideal)) s k) := by
  have hp : (i 2).val < 2 := (i 2).isLt
  intro k
  induction k with
  | zero =>
    intro _
    exact H.congr fun ρ _ => by rw [if_neg (by omega)]
  | succ k ih =>
    intro hk
    have hk' : k < k0_t3_loop.trips := by rw [trips_eq]; omega
    show Holds _ _ _ _ _ (if h : k < k0_t3_loop.trips then (walk X i ⟨k, h⟩ _ 16 (first i k) (walks X i _ s k)).2 else walks X i _ s k)
    rw [dif_pos hk']
    have hf := first_of ⟨(i 2).val, hp⟩ ⟨k, hk'⟩
    refine (holds_walk i hX ⟨k, hk'⟩ (fun ρ => if ρ / 256 < k + 1 then 0 else 8 * (i 2).val + ρ / 256 - 1) 16 (8 * (i 2).val + k - 1) (first i k) _ (by omega) (by omega) (by show _ ≤ 8 * (i 2).val + k; omega) hf.1 hf.2
      ((ih (by omega)).congr fun ρ _ => ?_)).congr fun ρ _ => ?_
    · show _ = if ρ / 256 = k then _ else if _ then _ else _
      split_ifs <;> omega
    · show (if ρ / 256 = k then _ else if _ then _ else _) = _
      split_ifs <;> omega

/-! ## The result block -/

theorem pay1_apply (a b : Vec Ideal S1x2048x128 .f32) (ρ : Fin 2048) (l : Fin 128) :
    k0_pay1 (iota .tc S2048x128 32 [1] iota_S2048x128_d1_w32) a b (ix4 (0 : Fin 1) (0 : Fin 1) ρ l) = if l.val < 64 then a (ix3 (0 : Fin 1) ρ l) else b (ix3 (0 : Fin 1) ρ l) := by
  rw [← sel_slt l.val 64 (by omega) (by omega)]
  pointwise [k0_pay1]

theorem put_os (x w : S1x1x2048x128.Idx → EReal) : VecWindow.put x ![0, 0, 0, 0] S1x1x2048x128.size w = w := by
  funext y
  have hy : ∀ b : Fin 4, (![0, 0, 0, 0] : Fin 4 → ℕ) b ≤ (y b).val ∧ (y b).val < (![0, 0, 0, 0] : Fin 4 → ℕ) b + S1x1x2048x128.size b := by
    intro b
    have := (y b).isLt
    match b with
    | ⟨0, _⟩ => exact ⟨Nat.zero_le _, by rw [Nat.add_comm]; exact this⟩
    | ⟨1, _⟩ => exact ⟨Nat.zero_le _, by rw [Nat.add_comm]; exact this⟩
    | ⟨2, _⟩ => exact ⟨Nat.zero_le _, by rw [Nat.add_comm]; exact this⟩
    | ⟨3, _⟩ => exact ⟨Nat.zero_le _, by rw [Nat.add_comm]; exact this⟩
  refine (dif_pos hy).trans (congrArg w (funext fun b => Fin.ext ?_))
  match b with
  | ⟨0, _⟩ => rfl
  | ⟨1, _⟩ => rfl
  | ⟨2, _⟩ => rfl
  | ⟨3, _⟩ => rfl

/-- The result block at a row and a lane: the row's weighted values over all the keys. -/
def tileOut (q : Fin 2048 → Fin 128 → ℝ) (Kr Vr : ℕ → Fin 128 → ℝ) (p : ℕ) (ρ : Fin 2048) (l : Fin 128) : ℝ :=
  mixed (score (headQ q) Kr ⟨l.val / 64, by omega⟩ ρ) (2048 * p + ρ.val) (fun n => Vr n l) 0

/-- The body leaves that, whatever the scratch held. -/
theorem sbAll_os (hX : Reals X q Kr Vr) (s : Sb Ideal) (ρ : Fin 2048) (l : Fin 128) :
    (sbAll X i s).os (ix4 (0 : Fin 1) (0 : Fin 1) ρ l) = ((tileOut q Kr Vr (i 2).val ρ l : ℝ) : EReal) := by
  have H := holds_walks i hX _ (holds_diag i hX s) 8 (le_refl _)
  obtain ⟨e1, e2⟩ := sb141_tri X i s
  unfold sbAll
  dsimp only
  rw [put_os, e1, e2, pay1_apply]
  have hl := l.isLt
  have hρ := ρ.isLt
  have Hρ : ∀ h, At (headQ q) Kr Vr (2048 * (i 2).val) (walks X i (k0_pay633 (F := Ideal)) (sbDiag X i s) 8) h ρ 0 := fun h => by
    have := H.2 h ρ
    dsimp only at this
    rw [if_pos (by omega)] at this
    exact this
  rw [trips_eq]
  unfold tileOut
  by_cases h : l.val < 64
  · rw [if_pos h]
    refine (window_at (n := 2048) _ 0 0 (by decide) _ ρ ρ (by omega) l).trans ?_
    have e : (⟨l.val / 64, by omega⟩ : Fin 2) = ⟨0, by decide⟩ := Fin.ext (by show l.val / 64 = 0; omega)
    rw [e]
    exact (Hρ ⟨0, by decide⟩).2 l
  · rw [if_neg h]
    refine (window_at (n := 2048) _ 1 0 (by decide) _ ρ ρ (by omega) l).trans ?_
    have e : (⟨l.val / 64, by omega⟩ : Fin 2) = ⟨1, by decide⟩ := Fin.ext (by show l.val / 64 = 1; omega)
    rw [e]
    exact (Hρ ⟨1, by decide⟩).2 l

end Cert.AttnIdeal.Body
-- ==== Proof.AttnIdealValue.lean ====
/-
  The attention call's stick-breaking result, at the ideal instance: where every element of the argument is real, the
  result array is each row's weighted values over the keys before it.
-/
module

public import proofs.«01_k».proof.Proof.AttnIdealTile

@[expose] public section

set_option maxRecDepth 16384

noncomputable section

namespace Cert.AttnIdeal.Body

open Cert.AttnIdeal Cert.AttnIdeal.Gen Idealize.ShloMosaic.Pointwise Cert.Stick
open Idealize.ShloMosaic Idealize.ShloMosaic.TcCoe Idealize.SL.Sem
open Idealize.ShloMosaic.Pipeline (Dat)

/-- Rows of an array of reals, by their number; zero past the last. -/
def rows (a : Fin 4096 → Fin 128 → ℝ) (n : ℕ) (l : Fin 128) : ℝ := if h : n < 4096 then a ⟨n, h⟩ l else 0

/-- One element of the result: the row's query `q`, the head's keys `k` and values `v` of the group, and the lane. -/
def stick (q k v : Fin 4096 → Fin 128 → ℝ) (n : Fin 4096) (l : Fin 128) : ℝ :=
  mixed (fun j => ∑ x : Fin 128, (if x.val / 64 = l.val / 64 then q n x * (1 / 8) else 0) * rows k j x) n.val (fun j => rows v j l) 0

/-- One group of 128 lanes of the argument, as reals. -/
def group (X : Vec Ideal S8x32x4096x128 .bf16) (b : Fin 8) (g : Fin 32) (n : Fin 4096) (l : Fin 128) : ℝ := (X (ix4 b g n l)).toReal

/-- The result array. -/
def whole (X : Vec Ideal S8x32x4096x128 .bf16) : Vec Ideal S8x4x4096x128 .f32 := fun i =>
  ((stick (group X (i 0) ⟨(i 1).val, by have h : (i 1).val < 4 := (i 1).isLt; omega⟩) (group X (i 0) ⟨4 + (i 1).val, by have h : (i 1).val < 4 := (i 1).isLt; omega⟩)
    (group X (i 0) ⟨8 + (i 1).val, by have h : (i 1).val < 4 := (i 1).isLt; omega⟩) (i 2) (i 3) : ℝ) : EReal)

variable (m : (ℓ : Loc nD τ sig) → Buf (Elt Ideal) ℓ)

/-- Where each window stands at each grid point. -/
theorem index_facts : ∀ t : Fin (cfg0 (F := Ideal)).N, win0_1.index t = ![t.val / 8, t.val / 2 % 4, t.val % 2, 0] ∧ win0_2.index t = ![t.val / 8, 4 + t.val / 2 % 4, 0, 0]
    ∧ win0_3.index t = ![t.val / 8, 8 + t.val / 2 % 4, 0, 0] ∧ win0_7.index t = ![t.val / 8, t.val / 2 % 4, t.val % 2, 0] :=
  (by decide +kernel : ∀ t : Fin grid0.N, win0_1.index t = ![t.val / 8, t.val / 2 % 4, t.val % 2, 0] ∧ win0_2.index t = ![t.val / 8, 4 + t.val / 2 % 4, 0, 0]
    ∧ win0_3.index t = ![t.val / 8, 8 + t.val / 2 % 4, 0, 0] ∧ win0_7.index t = ![t.val / 8, t.val / 2 % 4, t.val % 2, 0])

theorem coords_facts : ∀ t : Fin (cfg0 (F := Ideal)).N, (grid0.coords t 2).val = t.val % 2 :=
  (by decide +kernel : ∀ t : Fin grid0.N, (grid0.coords t 2).val = t.val % 2)

theorem pt_lt (t : Fin (cfg0 (F := Ideal)).N) : t.val < 64 := t.isLt

theorem read1 (c : Dev nD) (t : Fin (cfg0 (F := Ideal)).N) (ρ : Fin 2048) (l : Fin 128) :
    iblk m c 1 t (ix4 (0 : Fin 1) (0 : Fin 1) ρ l)
      = m ((c : Thread nD τ).loc main_arg0) (ix4 (⟨t.val / 8, by have := pt_lt t; omega⟩ : Fin 8) (⟨t.val / 2 % 4, by omega⟩ : Fin 32) (⟨2048 * (t.val % 2) + ρ.val, by omega⟩ : Fin 4096) l) := by
  rw [← V_main_arg0 m c]
  pointwise
  blk_ext! [iblk, index_facts t]

theorem read2 (c : Dev nD) (t : Fin (cfg0 (F := Ideal)).N) (n : Fin 4096) (l : Fin 128) :
    iblk m c 2 t (ix4 (0 : Fin 1) (0 : Fin 1) n l)
      = m ((c : Thread nD τ).loc main_arg0) (ix4 (⟨t.val / 8, by have := pt_lt t; omega⟩ : Fin 8) (⟨4 + t.val / 2 % 4, by omega⟩ : Fin 32) n l) := by
  rw [← V_main_arg0 m c]
  pointwise
  blk_ext! [iblk, index_facts t]

theorem read3 (c : Dev nD) (t : Fin (cfg0 (F := Ideal)).N) (n : Fin 4096) (l : Fin 128) :
    iblk m c 3 t (ix4 (0 : Fin 1) (0 : Fin 1) n l)
      = m ((c : Thread nD τ).loc main_arg0) (ix4 (⟨t.val / 8, by have := pt_lt t; omega⟩ : Fin 8) (⟨8 + t.val / 2 % 4, by omega⟩ : Fin 32) n l) := by
  rw [← V_main_arg0 m c]
  pointwise
  blk_ext! [iblk, index_facts t]

/-- What the stick-breaking result's block holds after a point. -/
def outAt (c : Dev nD) (t : Fin (cfg0 (F := Ideal)).N) : S1x1x2048x128.Idx → EReal := fun y =>
  ((tileOut (fun ρ l => (iblk m c 1 t (ix4 (0 : Fin 1) (0 : Fin 1) ρ l)).toReal) (rows fun n l => (iblk m c 2 t (ix4 (0 : Fin 1) (0 : Fin 1) n l)).toReal)
    (rows fun n l => (iblk m c 3 t (ix4 (0 : Fin 1) (0 : Fin 1) n l)).toReal) (grid0.coords t 2).val (y 2) (y 3) : ℝ) : EReal)

/-- Every element of the argument is real. -/
def Real0 : Prop := ∀ (c : Dev nD) y, m ((c : Thread nD τ).loc main_arg0) y ≠ (⊤ : EReal) ∧ m ((c : Thread nD τ).loc main_arg0) y ≠ (⊥ : EReal)

variable {m}

theorem reals_of (hr : Real0 m) (c : Dev nD) (t : Fin (cfg0 (F := Ideal)).N) :
    Reals (ins m c t) (fun ρ l => (iblk m c 1 t (ix4 (0 : Fin 1) (0 : Fin 1) ρ l)).toReal) (rows fun n l => (iblk m c 2 t (ix4 (0 : Fin 1) (0 : Fin 1) n l)).toReal)
      (rows fun n l => (iblk m c 3 t (ix4 (0 : Fin 1) (0 : Fin 1) n l)).toReal) where
  x4 ρ l := by
    show iblk m c 1 t _ = _
    rw [read1]
    exact (EReal.coe_toReal (hr c _).1 (hr c _).2).symm
  x5 n l := by
    show iblk m c 2 t _ = _
    unfold rows
    rw [dif_pos n.isLt]
    refine (read2 m c t n l).trans ((EReal.coe_toReal (hr c _).1 (hr c _).2).symm.trans ?_)
    exact congrArg (fun u : EReal => ((u.toReal : ℝ) : EReal)) (read2 m c t n l).symm
  x6 n l := by
    show iblk m c 3 t _ = _
    unfold rows
    rw [dif_pos n.isLt]
    refine (read3 m c t n l).trans ((EReal.coe_toReal (hr c _).1 (hr c _).2).symm.trans ?_)
    exact congrArg (fun u : EReal => ((u.toReal : ℝ) : EReal)) (read3 m c t n l).symm

theorem sbAll_out (hr : Real0 m) (c : Dev nD) (t : Fin (cfg0 (F := Ideal)).N) (s : Sb Ideal) : (sbAll (ins m c t) (grid0.coords t) s).os = outAt m c t := by
  funext y
  obtain ⟨a, b, ρ, l, rfl⟩ : ∃ (a : Fin 1) (b : Fin 1) (ρ : Fin 2048) (l : Fin 128), y = ix4 a b ρ l := ⟨y 0, y 1, y 2, y 3, eq_ix4 y⟩
  obtain rfl : a = 0 := Subsingleton.elim _ _
  obtain rfl : b = 0 := Subsingleton.elim _ _
  exact sbAll_os (grid0.coords t) (reals_of hr c t) s ρ l

/-- The result array after the run. -/
theorem final (c : Dev nD) : (dats m (outAt m) 0 c).arrAt 7 (cfg0 (F := Ideal)).N = whole (m ((c : Thread nD τ).loc main_arg0)) := by
  refine (dats m (outAt m) 0 c).arrAt_eq_of_covers 7 _ (by decide +kernel) fun t hf y => ?_
  blk_simp
  rw [after0_7]
  obtain ⟨a, b, ρ, l, rfl⟩ : ∃ (a : Fin 1) (b : Fin 1) (ρ : Fin 2048) (l : Fin 128), y = ix4 a b ρ l := ⟨y 0, y 1, y 2, y 3, eq_ix4 y⟩
  obtain rfl : a = 0 := Subsingleton.elim _ _
  obtain rfl : b = 0 := Subsingleton.elim _ _
  have he : (win0_7.blk t).view.emb (ix4 (0 : Fin 1) (0 : Fin 1) ρ l)
      = (ix4 (⟨t.val / 8, by have := pt_lt t; omega⟩ : Fin 8) (⟨t.val / 2 % 4, by omega⟩ : Fin 4) (⟨2048 * (t.val % 2) + ρ.val, by omega⟩ : Fin 4096) l : S8x4x4096x128.Idx) := by
    blk_ext! [index_facts t]
  rw [he]
  unfold outAt whole
  refine congrArg (fun u : ℝ => (u : EReal)) ?_
  simp only [read1 m, read2 m, read3 m]
  unfold tileOut
  rw [coords_facts]
  unfold stick score headQ group
  rfl

/-- The run of the kernel leaves that array, and the argument as it was. -/
theorem run (ρ : Dev nD → PrngReg) (hr : Real0 m) : θ_run defs (onTc (τ := τ) (main (F := Ideal))) ⟨m, fun _ => 0, ρ⟩ fun r => ∀ c : Dev nD,
    r.2.mem ((c.tc : Thread nD τ).loc main_v0_0) = whole (m ((c.tc : Thread nD τ).loc main_arg0))
    ∧ r.2.mem ((c.tc : Thread nD τ).loc main_arg0) = m ((c.tc : Thread nD τ).loc main_arg0) := by
  refine (θ_run defs _ _).mono (fun r h c => ⟨?_, final_arg0 m (outAt m) h.1 c⟩) (run_of m ρ (outAt m) fgtMb (body_obligation_mb m _ (sbAll_out hr)))
  exact ((Dat.toRForget_arrAt_iff (dats m (outAt m) 0 c) (fgt := fgtMb) (w := 7) (by decide) _ _).mp ((h.1 c).1 7)).trans (final c)

end Cert.AttnIdeal.Body
-- ==== Proof.AttnRefValue.lean ====
/-
  The attention reference's result, at the ideal instance: where every element of the argument is real, the array the
  kernel leaves.
-/
module

public import proofs.«01_k».proof.Proof.AttnIdealValue
public import proofs.«01_k».proof.Proof.Gen.AttnRefIdeal.Read
public import proofs.«01_k».proof.Pre_finite
public import Idealize.ShloMosaic.Lib.ReduceAll

@[expose] public section

set_option maxRecDepth 16384

noncomputable section

namespace Cert.AttnRefIdeal.AttnRead

open Cert.AttnRefIdeal Cert.AttnRefIdeal.Gen Cert.AttnRefIdeal.Read Idealize.ShloMosaic.Pointwise Cert.Stick
open Idealize.ShloMosaic Idealize.ShloMosaic.TcCoe Idealize.SL.Sem Idealize.ShloMosaic.StableHlo
open Cert.AttnIdeal.Body (rows stick group whole sel_slt)

/-! ## One element, away from the arrays -/

/-- The logarithm of the logistic function, as the reference computes it. -/
def logSigmoid (z : EReal) : EReal :=
  -(Scalar.select (FloatOps.cmpf (F := Ideal) (φ := .f32) .une (-z - 0) (-z - 0)) (-z + 0)
    (max (-z) 0 + Ideal.log1p (Ideal.exp (-(max (-z - 0) (-(-z - 0)))))))

theorem logSigmoid_coe (x : ℝ) : logSigmoid (x : EReal) = ((-softplus (-x) : ℝ) : EReal) := by
  unfold logSigmoid
  have hc : FloatOps.cmpf (F := Ideal) (φ := .f32) .une (-(x : EReal) - 0) (-(x : EReal) - 0) = 0#1 := by
    show Ideal.cmp .une _ _ = _
    simp [Ideal.cmp]
  rw [hc]
  have hs : ∀ a b : EReal, Scalar.select (0#1) a b = b := fun a b => rfl
  rw [hs, sub_zero, ← EReal.coe_neg, ← EReal.coe_neg, max_coe, ← EReal.coe_neg, Ideal.exp_coe]
  have h1 : Ideal.log1p ((Real.exp (-max (-x) (-(-x))) : ℝ) : EReal) = ((Real.log (1 + Real.exp (-|(-x)|)) : ℝ) : EReal) := by
    show Ideal.log (1 + _) = _
    rw [← EReal.coe_one, ← EReal.coe_add, Ideal.log_coe, if_neg (not_le.mpr (one_add_exp_pos _))]
    rfl
  rw [h1, ← EReal.coe_zero, max_coe, ← EReal.coe_add, ← EReal.coe_neg]
  rfl

theorem softplus_neg (x : ℝ) : -softplus (-x) = x - softplus x := by
  unfold softplus
  rw [abs_neg]
  have h : max x 0 - max (-x) 0 = x := by
    rcases le_total 0 x with h | h
    · rw [max_eq_left h, max_eq_right (by linarith)]; ring
    · rw [max_eq_right h, max_eq_left (by linarith)]; ring
  linarith

/-- A row's sum over one head's 64 lanes is the sum over the group's 128 with the other head's lanes set to zero. -/
theorem half_sum (q k : Fin 128 → ℝ) (h : ℕ) (hh : h < 2) :
    ∑ x : Fin 128, (if x.val / 64 = h then q x * (1 / 8) else 0) * k x
      = (∑ d : Fin 64, q ⟨64 * h + d.val, by omega⟩ * k ⟨64 * h + d.val, by omega⟩) * (1 / 8) := by
  have e : ∀ f : Fin 128 → ℝ, ∑ x : Fin 128, f x = ∑ d : Fin 64, f ⟨d.val, by omega⟩ + ∑ d : Fin 64, f ⟨64 + d.val, by omega⟩ := fun f =>
    Fin.sum_univ_add (a := 64) (b := 64) f
  rw [e, Finset.sum_mul]
  interval_cases h
  · rw [Finset.sum_congr rfl (g := fun d : Fin 64 => q ⟨64 * 0 + d.val, by omega⟩ * k ⟨64 * 0 + d.val, by omega⟩ * (1 / 8)) (fun d _ => by
        have := d.isLt
        rw [if_pos (show d.val / 64 = 0 by omega)]
        simp only [Nat.mul_zero, Nat.zero_add]; ring),
      Finset.sum_eq_zero (s := Finset.univ) (f := fun d : Fin 64 => (if (64 + d.val) / 64 = 0 then q ⟨64 + d.val, by omega⟩ * (1 / 8) else 0) * k ⟨64 + d.val, by omega⟩)
        (fun d _ => by rw [if_neg (by omega), zero_mul]), add_zero]
  · rw [Finset.sum_eq_zero (s := Finset.univ) (f := fun d : Fin 64 => (if d.val / 64 = 1 then q ⟨d.val, by omega⟩ * (1 / 8) else 0) * k ⟨d.val, by omega⟩)
        (fun d _ => by have := d.isLt; rw [if_neg (by omega), zero_mul]), zero_add]
    refine Finset.sum_congr rfl fun d _ => ?_
    have := d.isLt
    rw [if_pos (show (64 + d.val) / 64 = 1 by omega)]
    simp only [Nat.mul_one]; ring

theorem foldl_sum {ι : Type*} (g : ι → EReal) (l : List ι) (a : EReal) : l.foldl (fun r n => r + g n) a = a + (l.map g).sum := by
  induction l generalizing a with
  | nil => simp
  | cons n l ih => rw [List.foldl_cons, ih, List.map_cons, List.sum_cons, add_assoc]

/-- The window's indices are the numbers of its last axis. -/
def winEquiv : Fin 4096 ≃ (⟨4, ![1, 1, 1, 4096]⟩ : Shape).Idx where
  toFun n := ix4 (0 : Fin 1) (0 : Fin 1) (0 : Fin 1) n
  invFun y := y 3
  left_inv _ := rfl
  right_inv y := by
    funext a
    match a with
    | ⟨0, _⟩ => exact Fin.ext (by have h : (y 0).val < 1 := (y 0).isLt; show 0 = (y 0).val; omega)
    | ⟨1, _⟩ => exact Fin.ext (by have h : (y 1).val < 1 := (y 1).isLt; show 0 = (y 1).val; omega)
    | ⟨2, _⟩ => exact Fin.ext (by have h : (y 2).val < 1 := (y 2).isLt; show 0 = (y 2).val; omega)
    | ⟨3, _⟩ => rfl

theorem sum_shift (f : ℕ → ℝ) (j : ℕ) (hj : j < 4096) :
    ∑ n : Fin 4096, (if j + n.val < 4096 then f (j + n.val) else 0) = ∑ n ∈ Finset.Ico j 4096, f n := by
  rw [Finset.sum_Ico_eq_sum_range, Fin.sum_univ_eq_sum_range (fun n => if j + n < 4096 then f (j + n) else 0) 4096,
    ← Finset.sum_subset (Finset.range_mono (show 4096 - j ≤ 4096 by omega)) (fun n _ hn => if_neg (by
      have := Finset.mem_range.not.mp hn; omega))]
  exact Finset.sum_congr rfl fun n hn => if_pos (by have := Finset.mem_range.mp hn; omega)

/-- The running sum from the end: the window from an element on, the padding zero. -/
theorem suffix (x : S8x8x4096x4096.Idx → EReal) (f : ℕ → ℝ) (b H : Fin 8) (n : Fin 4096) (hx : ∀ j : Fin 4096, x (ix4 b H n j) = ((f j.val : ℝ) : EReal))
    (h : S8x8x4096x4096.ReduceWindows ![1, 1, 1, 4096] ![1, 1, 1, 1] ![0, 0, 0, 0] ![0, 0, 0, 4095] S8x8x4096x4096) (j : Fin 4096) :
    Ideal.hostReduceWindowAdd ![1, 1, 1, 4096] ![1, 1, 1, 1] ![0, 0, 0, 0] ![0, 0, 0, 4095] h x 0 (ix4 b H n j)
      = ((∑ i ∈ Finset.Ico j.val 4096, f i : ℝ) : EReal) := by
  rw [← sum_shift f j.val j.isLt]
  unfold Ideal.hostReduceWindowAdd Host.reduceWindow
  dsimp only
  rw [foldl_sum, zero_add, ← Fin.sum_univ_def]
  refine (Equiv.sum_comp (winEquiv.trans (⟨4, ![1, 1, 1, 4096]⟩ : Shape).rowMajor) _).symm.trans (sum_of _ _ fun k => ?_)
  have hk := k.isLt
  simp only [Equiv.trans_apply, Equiv.symm_apply_apply]
  by_cases hl : j.val + k.val < 4096
  · have hin : ∀ a : Fin 4, (![0, 0, 0, 0] : Fin 4 → ℕ) a ≤ ((ix4 b H n j : S8x8x4096x4096.Idx) a).val * (![1, 1, 1, 1] : Fin 4 → ℕ) a + (winEquiv k a).val
        ∧ ((ix4 b H n j : S8x8x4096x4096.Idx) a).val * (![1, 1, 1, 1] : Fin 4 → ℕ) a + (winEquiv k a).val - (![0, 0, 0, 0] : Fin 4 → ℕ) a < S8x8x4096x4096.size a := fun a => by
      have hb := b.isLt
      have hH := H.isLt
      have hn := n.isLt
      match a with
      | ⟨0, _⟩ => show 0 ≤ b.val * 1 + 0 ∧ b.val * 1 + 0 - 0 < 8; omega
      | ⟨1, _⟩ => show 0 ≤ H.val * 1 + 0 ∧ H.val * 1 + 0 - 0 < 8; omega
      | ⟨2, _⟩ => show 0 ≤ n.val * 1 + 0 ∧ n.val * 1 + 0 - 0 < 4096; omega
      | ⟨3, _⟩ => show 0 ≤ j.val * 1 + k.val ∧ j.val * 1 + k.val - 0 < 4096; omega
    rw [if_pos hl]
    refine (dif_pos hin).trans ((congrArg x (funext fun a => Fin.ext ?_)).trans (hx ⟨j.val + k.val, hl⟩))
    match a with
    | ⟨0, _⟩ => show b.val * 1 + 0 - 0 = b.val; omega
    | ⟨1, _⟩ => show H.val * 1 + 0 - 0 = H.val; omega
    | ⟨2, _⟩ => show n.val * 1 + 0 - 0 = n.val; omega
    | ⟨3, _⟩ => show j.val * 1 + k.val - 0 = j.val + k.val; omega
  · rw [if_neg hl]
    refine (dif_neg fun hin => hl ?_).trans EReal.coe_zero.symm
    have h3 := (hin 3).2
    have h3' : j.val * 1 + k.val - 0 < 4096 := h3
    omega

/-! ## The arrays -/

variable (X : Vec Ideal S8x32x4096x128 .bf16)

/-- A head of 64 lanes stands in its half of a group. -/
theorem split_idx (b H : Fin 8) (n : Fin 4096) (d : Fin 64) :
    idx_main_v4 (ix4 b H n d) = ix5 b (⟨H.val / 2, by omega⟩ : Fin 4) (⟨H.val % 2, by omega⟩ : Fin 2) n d := by
  have hb := b.isLt
  have hH := H.isLt
  have hn := n.isLt
  have hd := d.isLt
  refine funext fun a => Fin.ext ?_
  match a with
  | ⟨0, _⟩ => dsimp [idx_main_v4, ix4, ix5]; omega
  | ⟨1, _⟩ => dsimp [idx_main_v4, ix4, ix5]; omega
  | ⟨2, _⟩ => dsimp [idx_main_v4, ix4, ix5]; omega
  | ⟨3, _⟩ => dsimp [idx_main_v4, ix4, ix5]; omega
  | ⟨4, _⟩ => dsimp [idx_main_v4, ix4, ix5]; omega

theorem lane_idx (b : Fin 8) (p : Fin 4) (h : Fin 2) (n : Fin 4096) (d : Fin 64) :
    idx_main_v2 (idx_main_v3 (ix5 b p h n d)) = ix4 b p n (⟨64 * h.val + d.val, by omega⟩ : Fin 128) := by
  have hb := b.isLt
  have hp := p.isLt
  have hh := h.isLt
  have hn := n.isLt
  have hd := d.isLt
  refine funext fun a => Fin.ext ?_
  match a with
  | ⟨0, _⟩ => dsimp [idx_main_v2, idx_main_v3, ix4, ix5]; omega
  | ⟨1, _⟩ => dsimp [idx_main_v2, idx_main_v3, ix4, ix5]; omega
  | ⟨2, _⟩ => dsimp [idx_main_v2, idx_main_v3, ix4, ix5]; omega
  | ⟨3, _⟩ => dsimp [idx_main_v2, idx_main_v3, ix4, ix5]; omega

theorem v4_at (b H : Fin 8) (n : Fin 4096) (d : Fin 64) :
    val_main_v4 (F := Ideal) X (ix4 b H n d) = X (ix4 b (⟨H.val / 2, by omega⟩ : Fin 32) n (⟨64 * (H.val % 2) + d.val, by omega⟩ : Fin 128)) := by
  rw [val_main_v4_apply, val_main_v3_apply, val_main_v2_apply, val_main_v1_apply, val_main_v0_apply]
  rw [show idx_main_v4 (ix4 b H n d) = _ from split_idx b H n d, show idx_main_v2 (idx_main_v3 _) = _ from lane_idx b _ _ n d]
  refine congrArg X (funext fun a => Fin.ext ?_)
  match a with
  | ⟨0, _⟩ => rfl
  | ⟨1, _⟩ => show _ = _; dsimp [idx_main_v1, ix4] <;> omega
  | ⟨2, _⟩ => rfl
  | ⟨3, _⟩ => rfl

theorem v8_at (b H : Fin 8) (n : Fin 4096) (d : Fin 64) :
    val_main_v8 (F := Ideal) X (ix4 b H n d) = X (ix4 b (⟨4 + H.val / 2, by omega⟩ : Fin 32) n (⟨64 * (H.val % 2) + d.val, by omega⟩ : Fin 128)) := by
  rw [val_main_v8_apply, val_main_v7_apply, val_main_v6_apply, val_main_v5_apply, val_main_v0_apply]
  rw [show idx_main_v8 (ix4 b H n d) = _ from split_idx b H n d, show idx_main_v6 (idx_main_v7 _) = _ from lane_idx b _ _ n d]
  refine congrArg X (funext fun a => Fin.ext ?_)
  match a with
  | ⟨0, _⟩ => rfl
  | ⟨1, _⟩ => show _ = _; dsimp [idx_main_v5, ix4] <;> omega
  | ⟨2, _⟩ => rfl
  | ⟨3, _⟩ => rfl

theorem v12_at (b H : Fin 8) (n : Fin 4096) (d : Fin 64) :
    val_main_v12 (F := Ideal) X (ix4 b H n d) = X (ix4 b (⟨8 + H.val / 2, by omega⟩ : Fin 32) n (⟨64 * (H.val % 2) + d.val, by omega⟩ : Fin 128)) := by
  rw [val_main_v12_apply, val_main_v11_apply, val_main_v10_apply, val_main_v9_apply, val_main_v0_apply]
  rw [show idx_main_v12 (ix4 b H n d) = _ from split_idx b H n d, show idx_main_v10 (idx_main_v11 _) = _ from lane_idx b _ _ n d]
  refine congrArg X (funext fun a => Fin.ext ?_)
  match a with
  | ⟨0, _⟩ => rfl
  | ⟨1, _⟩ => show _ = _; dsimp [idx_main_v9, ix4] <;> omega
  | ⟨2, _⟩ => rfl
  | ⟨3, _⟩ => rfl

/-- The two heads of a group, side by side. -/
theorem v35_at (b : Fin 8) (p : Fin 4) (n : Fin 4096) (l : Fin 128) :
    val_main_v35 (F := Ideal) X (ix4 b p n l)
      = val_main_v32 (F := Ideal) X (ix4 b (⟨2 * p.val + l.val / 64, by omega⟩ : Fin 8) n (⟨l.val % 64, by omega⟩ : Fin 64)) := by
  have hb := b.isLt
  have hp := p.isLt
  have hn := n.isLt
  have hl := l.isLt
  rw [val_main_v35_apply, val_main_v34_apply, val_main_v33_apply]
  have e : idx_main_v34 (idx_main_v35 (ix4 b p n l)) = ix5 b p (⟨l.val / 64, by omega⟩ : Fin 2) n (⟨l.val % 64, by omega⟩ : Fin 64) := by
    refine funext fun a => Fin.ext ?_
    match a with
    | ⟨0, _⟩ => dsimp [idx_main_v34, idx_main_v35, ix4, ix5]; omega
    | ⟨1, _⟩ => dsimp [idx_main_v34, idx_main_v35, ix4, ix5]; omega
    | ⟨2, _⟩ => dsimp [idx_main_v34, idx_main_v35, ix4, ix5]; omega
    | ⟨3, _⟩ => dsimp [idx_main_v34, idx_main_v35, ix4, ix5]; omega
    | ⟨4, _⟩ => dsimp [idx_main_v34, idx_main_v35, ix4, ix5]; omega
  rw [e]
  refine congrArg (val_main_v32 (F := Ideal) X) (funext fun a => Fin.ext ?_)
  match a with
  | ⟨0, _⟩ => dsimp [idx_main_v33, ix4, ix5]; omega
  | ⟨1, _⟩ => dsimp [idx_main_v33, ix4, ix5]; omega
  | ⟨2, _⟩ => dsimp [idx_main_v33, ix4, ix5]; omega
  | ⟨3, _⟩ => dsimp [idx_main_v33, ix4, ix5]; omega

/-! ## The scores -/

theorem f32_zero : FloatOps.ofBits (F := Ideal) .f32 0x00000000#32 = (0 : EReal) := by
  show Ideal.ofBits .f32 _ = _
  simp [Ideal.ofBits, Ideal.ieee]

theorem f32_eighth : FloatOps.ofBits (F := Ideal) .f32 0x3E000000#32 = ((1 / 8 : ℝ) : EReal) := by
  show Ideal.ofBits .f32 _ = _
  simp [Ideal.ofBits, Ideal.ieee]
  rw [← EReal.coe_mul]; congr 1; norm_num

/-- The score of key `j` for row `n` of head `H`. -/
def z (b H : Fin 8) (n : Fin 4096) (j : ℕ) : ℝ :=
  ∑ x : Fin 128, (if x.val / 64 = H.val % 2 then group X b ⟨H.val / 2, by omega⟩ n x * (1 / 8) else 0) * rows (group X b ⟨4 + H.val / 2, by omega⟩) j x

theorem real_at (hX : ∀ y, X y ≠ ⊤ ∧ X y ≠ ⊥) (b : Fin 8) (g : Fin 32) (n : Fin 4096) (l : Fin 128) : X (ix4 b g n l) = ((group X b g n l : ℝ) : EReal) :=
  (EReal.coe_toReal (hX _).1 (hX _).2).symm

theorem v15_at (hX : ∀ y, X y ≠ ⊤ ∧ X y ≠ ⊥) (b H : Fin 8) (n j : Fin 4096) : val_main_v15 (F := Ideal) X (ix4 b H n j) = ((z X b H n j.val : ℝ) : EReal) := by
  have hz : z X b H n j.val = (∑ d : Fin 64, group X b ⟨H.val / 2, by omega⟩ n ⟨64 * (H.val % 2) + d.val, by omega⟩
      * group X b ⟨4 + H.val / 2, by omega⟩ j ⟨64 * (H.val % 2) + d.val, by omega⟩) * (1 / 8) := by
    unfold z
    rw [half_sum _ _ _ (by omega)]
    refine congrArg (· * _) (Finset.sum_congr rfl fun d _ => ?_)
    unfold rows
    rw [dif_pos j.isLt]
  rw [hz, EReal.coe_mul, val_main_v15_apply, val_main_v14_apply, val_main_cst_apply, f32_eighth, val_main_v13_apply]
  refine congrArg (· * _) (sum_of _ _ fun d => ?_)
  have el : lidx_main_v13 (ix4 b H n j) d = ix4 b H n d := funext fun a => by
    match a with
    | ⟨0, _⟩ => rfl
    | ⟨1, _⟩ => rfl
    | ⟨2, _⟩ => rfl
    | ⟨3, _⟩ => rfl
  have er : ridx_main_v13 (ix4 b H n j) d = ix4 b H j d := funext fun a => by
    match a with
    | ⟨0, _⟩ => rfl
    | ⟨1, _⟩ => rfl
    | ⟨2, _⟩ => rfl
    | ⟨3, _⟩ => rfl
  rw [el, er, v4_at, v8_at, real_at X hX, real_at X hX, EReal.coe_mul]

theorem v24_at (i : S8x8x4096x4096.Idx) : val_main_v24 (F := Ideal) X i = logSigmoid (-(val_main_v15 (F := Ideal) X i)) := by
  rw [val_main_v24_apply, val_main_call0_v1_apply, val_main_call0_call0_v11_apply, val_main_call0_call0_v10_apply, val_main_call0_call0_v9_apply,
    val_main_call0_call0_v8_apply, val_main_call0_call0_v7_apply, val_main_call0_call0_v6_apply, val_main_call0_call0_v5_apply, val_main_call0_call0_v4_apply,
    val_main_call0_call0_v3_apply, val_main_call0_call0_v2_apply, val_main_call0_call0_v1_apply, val_main_call0_call0_v0_apply, val_main_call0_call0_cst_apply,
    f32_zero, val_main_call0_v0_apply, val_main_v23_apply]
  rfl

theorem v28_at (i : S8x8x4096x4096.Idx) : val_main_v28 (F := Ideal) X i = logSigmoid (val_main_v15 (F := Ideal) X i) := by
  rw [val_main_v28_apply, val_main_call3_v1_apply, val_main_call3_call0_v11_apply, val_main_call3_call0_v10_apply, val_main_call3_call0_v9_apply,
    val_main_call3_call0_v8_apply, val_main_call3_call0_v7_apply, val_main_call3_call0_v6_apply, val_main_call3_call0_v5_apply, val_main_call3_call0_v4_apply,
    val_main_call3_call0_v3_apply, val_main_call3_call0_v2_apply, val_main_call3_call0_v1_apply, val_main_call3_call0_v0_apply, val_main_call3_call0_cst_apply,
    f32_zero, val_main_call3_v0_apply]
  rfl

/-! ## What the keys take off, and their weights -/

theorem mask_at {α : Type} (n j : Fin 4096) (x y : α) : Scalar.select (val_main_v22 (F := Ideal) (ix2 n j)) x y = if j.val < n.val then x else y := by
  rw [val_main_v22_apply, val_main_v20_apply, val_main_v17_apply, val_main_v16_apply, val_main_v21_apply, val_main_v19_apply, val_main_v18_apply]
  exact sel_slt j.val n.val j.isLt n.isLt x y

theorem mask1 (b H : Fin 8) (n j : Fin 4096) : val_main_call1_v1 (F := Ideal) (ix4 b H n j) = val_main_v22 (F := Ideal) (ix2 n j) := by
  rw [val_main_call1_v1_apply]
  refine congrArg (val_main_v22 (F := Ideal)) (funext fun a => ?_)
  match a with
  | ⟨0, _⟩ => rfl
  | ⟨1, _⟩ => rfl

theorem mask4 (b H : Fin 8) (n j : Fin 4096) : val_main_call4_v1 (F := Ideal) (ix4 b H n j) = val_main_v22 (F := Ideal) (ix2 n j) := by
  rw [val_main_call4_v1_apply]
  refine congrArg (val_main_v22 (F := Ideal)) (funext fun a => ?_)
  match a with
  | ⟨0, _⟩ => rfl
  | ⟨1, _⟩ => rfl

theorem v25_at (hX : ∀ y, X y ≠ ⊤ ∧ X y ≠ ⊥) (b H : Fin 8) (n j : Fin 4096) :
    val_main_v25 (F := Ideal) X (ix4 b H n j) = ((-take (z X b H n) n.val j.val : ℝ) : EReal) := by
  rw [val_main_v25_apply, mask1, mask_at, val_main_call1_v2_apply, val_main_call1_v0_apply, val_main_cst_0_apply, f32_zero, v24_at, v15_at X hX, ← EReal.coe_neg,
    logSigmoid_coe, neg_neg, ite_coe]
  unfold take
  congr 1
  split
  · rfl
  · rw [neg_zero]

theorem v26_at (hX : ∀ y, X y ≠ ⊤ ∧ X y ≠ ⊥) (b H : Fin 8) (n j : Fin 4096) :
    val_main_v26 (F := Ideal) X (ix4 b H n j) = ((-taken (z X b H n) n.val j.val : ℝ) : EReal) := by
  unfold taken
  rw [← Finset.sum_neg_distrib, ← suffix (val_main_v25 (F := Ideal) X) (fun i => -take (z X b H n) n.val i) b H n (v25_at X hX b H n)
    reduceWindows_S8x8x4096x4096_S8x8x4096x4096_w1s1p0_0_w1s1p0_0_w1s1p0_0_w4096s1p0_4095 j]
  unfold val_main_v26 Host.reduceWindowAdd
  rw [val_main_call2_v0_apply, val_main_call2_cst_apply, f32_zero]
  rfl

theorem v31_at (hX : ∀ y, X y ≠ ⊤ ∧ X y ≠ ⊥) (b H : Fin 8) (n j : Fin 4096) :
    val_main_v31 (F := Ideal) X (ix4 b H n j) = ((weight (z X b H n) n.val j.val : ℝ) : EReal) := by
  have h29 : val_main_v29 (F := Ideal) X (ix4 b H n j)
      = (((z X b H n j.val - softplus (z X b H n j.val)) + (-taken (z X b H n) n.val j.val - -take (z X b H n) n.val j.val) : ℝ) : EReal) := by
    rw [val_main_v29_apply, val_main_v27_apply, v28_at, v26_at X hX, v25_at X hX, v15_at X hX, logSigmoid_coe, softplus_neg, EReal.coe_add (_ - _), EReal.coe_sub (-_)]
    rfl
  rw [val_main_v31_apply, mask4, mask_at, val_main_call4_v2_apply, val_main_call4_v0_apply, val_main_cst_1_apply, f32_zero, val_main_v30_apply, h29]
  unfold weight
  by_cases h : j.val < n.val
  · rw [if_pos h, if_pos h]
    have ht : take (z X b H n) n.val j.val = softplus (z X b H n j.val) := if_pos h
    refine (Ideal.exp_coe _).trans (congrArg (fun r : ℝ => ((Real.exp r : ℝ) : EReal)) ?_)
    rw [ht]; ring
  · rw [if_neg h, if_neg h, EReal.coe_zero]

theorem v32_at (hX : ∀ y, X y ≠ ⊤ ∧ X y ≠ ⊥) (b H : Fin 8) (n : Fin 4096) (d : Fin 64) :
    val_main_v32 (F := Ideal) X (ix4 b H n d)
      = ((mixed (z X b H n) n.val (fun j => rows (group X b ⟨8 + H.val / 2, by omega⟩) j ⟨64 * (H.val % 2) + d.val, by omega⟩) 0 : ℝ) : EReal) := by
  unfold mixed
  rw [Nat.Ico_zero_eq_range, ← Fin.sum_univ_eq_sum_range (fun j => weight (z X b H n) n.val j * rows (group X b ⟨8 + H.val / 2, by omega⟩) j ⟨64 * (H.val % 2) + d.val, by omega⟩) 4096,
    val_main_v32_apply]
  refine sum_of _ _ fun j => ?_
  have el : lidx_main_v32 (ix4 b H n d) j = ix4 b H n j := funext fun a => by
    match a with
    | ⟨0, _⟩ => rfl
    | ⟨1, _⟩ => rfl
    | ⟨2, _⟩ => rfl
    | ⟨3, _⟩ => rfl
  have er : ridx_main_v32 (ix4 b H n d) j = ix4 b H j d := funext fun a => by
    match a with
    | ⟨0, _⟩ => rfl
    | ⟨1, _⟩ => rfl
    | ⟨2, _⟩ => rfl
    | ⟨3, _⟩ => rfl
  rw [el, er, v31_at X hX, v12_at, real_at X hX, EReal.coe_mul]
  unfold rows
  rw [dif_pos j.isLt]

/-- The reference's value is the whole array. -/
theorem v35_eq (hX : ∀ y, X y ≠ ⊤ ∧ X y ≠ ⊥) : val_main_v35 (F := Ideal) X = whole X := by
  funext i
  obtain ⟨b, p, n, l, rfl⟩ : ∃ (b : Fin 8) (p : Fin 4) (n : Fin 4096) (l : Fin 128), i = ix4 b p n l :=
    ⟨i 0, i 1, i 2, i 3, funext fun a => by
      match a with
      | ⟨0, _⟩ => rfl
      | ⟨1, _⟩ => rfl
      | ⟨2, _⟩ => rfl
      | ⟨3, _⟩ => rfl⟩
  have hp := p.isLt
  have hl := l.isLt
  rw [v35_at, v32_at X hX]
  have e0 : (2 * p.val + l.val / 64) / 2 = p.val := by omega
  have e1 : (2 * p.val + l.val / 64) % 2 = l.val / 64 := by omega
  have e2 : 64 * (l.val / 64) + l.val % 64 = l.val := by omega
  unfold whole stick z
  simp only [e0, e1, e2]
  rfl

/-! ## The argument's elements are real -/

/-- Where the magnitude of every element is below infinity, every element is real. -/
theorem real_of_finite [Cert.Pre_finite.Facts] (h : Cert.Pre_finite.fn (F := Ideal) X = fun _ => 1#1) : ∀ y, X y ≠ ⊤ ∧ X y ≠ ⊥ := fun y => by
  have h0 := congrFun h ix0
  unfold Cert.Pre_finite.fn at h0
  have h1 := Host.reduce_andi_all _ _ _ _ _ h0 y
  have h2 : Ideal.cmp .olt (max (X y) (-(X y))) (Ideal.ofBits .f32 0x7F800000#32) = 1#1 := h1
  have h3 : max (X y) (-(X y)) < Ideal.ofBits .f32 0x7F800000#32 := by
    by_contra hn
    rw [show Ideal.cmp .olt (max (X y) (-(X y))) (Ideal.ofBits .f32 0x7F800000#32) = BitVec.ofBool (decide (max (X y) (-(X y)) < Ideal.ofBits .f32 0x7F800000#32)) from rfl,
      decide_eq_false hn] at h2
    exact absurd h2 (by decide)
  have h4 := lt_of_lt_of_le h3 le_top
  refine ⟨fun e => ?_, fun e => ?_⟩
  · rw [e] at h4; simp at h4
  · rw [e] at h4; simp at h4

/-- The run of the reference leaves the same array. -/
theorem run (m : (ℓ : Loc nD τ sig) → Buf (Elt Ideal) ℓ) (ρ : Dev nD → PrngReg) (hr : ∀ (c : Dev nD) y, m ((c.tc : Thread nD τ).loc main_arg0) y ≠ (⊤ : EReal) ∧ m ((c.tc : Thread nD τ).loc main_arg0) y ≠ (⊥ : EReal)) :
    θ_run defs (onTc (τ := τ) (main (F := Ideal))) ⟨m, fun _ => 0, ρ⟩ fun r => ∀ c : Dev nD,
      r.2.mem ((c.tc : Thread nD τ).loc main_v35) = whole (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run (F := Ideal) m ρ)
  rw [val_main_v35_eq]
  exact v35_eq _ (hr c)

end Cert.AttnRefIdeal.AttnRead

end
-- ==== Proof.ProjValue.lean ====
/-
  The projection call, read at an index: what the kernel leaves in its result array, and that the plain reference leaves
  the same.
-/
module

public import proofs.«01_k».proof.Defs
public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ProjIdeal.ProjRead

open Cert.ProjIdeal Cert.ProjIdeal.Gen Idealize.ShloMosaic.Pointwise

/-- One element of the projection: a row of the input, scaled by its root mean square and by the gain, times a column of
    the weights. -/
def elem (x : Fin 1024 → EReal) (g : Fin 1024 → EReal) (w : Fin 1024 → EReal) : EReal :=
  ∑ k : Fin 1024, x k * Ideal.rsqrt (Ideal.div (∑ l : Fin 1024, x l * x l) (Ideal.ofBits .f32 0x44800000#32) + Ideal.ofBits .f32 0x358637BD#32) * g k * w k

/-- The kernel's block of products at a row and a column. -/
theorem pay_apply (P0 : Vec Ideal S512x1024 .f32) (P1 : Vec Ideal S1x1024 .f32) (P2 : Vec Ideal S1024x4096 .bf16) (r : Fin 512) (j : Fin 4096) :
    k0_pay4 P0 P1 P2 (ix2 r j) = elem (fun k => P0 (ix2 r k)) (fun k => P1 (ix2 0 k)) (fun k => P2 (ix2 k j)) := by
  pointwise [k0_pay4, elem]

variable (m : (ℓ : Loc nD τ sig) → Buf (Elt Ideal) ℓ)

/-- The projection of the whole input: for each sequence, group of 128 columns, position and column of the group, the
    element of that row and column. -/
def whole (X : Vec Ideal S8x4096x1024 .f32) (G : Vec Ideal S1x1024 .f32) (W : Vec Ideal S1x1024x4096 .f32) : Vec Ideal S8x32x4096x128 .bf16 :=
  fun i => elem (fun k => X (ix3 (i 0) (i 2) k)) (fun k => G (ix2 0 k)) (fun k => W (ix3 0 k ⟨(i 1).val * 128 + (i 3).val, by
    have h1 : (i 1).val < 32 := (i 1).isLt
    have h3 : (i 3).val < 128 := (i 3).isLt
    omega⟩))

/-- Where each window stands at each grid point. -/
theorem index_facts : ∀ t : Fin cfg0.N, win0_0.index t = ![t.val, 0] ∧ win0_1.index t = ![0, 0] ∧ win0_2.index t = ![0, 0]
    ∧ win0_3.index t = ![t.val / 8, 0, t.val % 8, 0] :=
  (by decide +kernel : ∀ t : Fin grid0.N, win0_0.index t = ![t.val, 0] ∧ win0_1.index t = ![0, 0] ∧ win0_2.index t = ![0, 0]
    ∧ win0_3.index t = ![t.val / 8, 0, t.val % 8, 0])

/-- The result array after the run is the whole projection. -/
theorem final (c : Dev nD) : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  refine (Value.canon3_eq (View.ld (iblk m c 0 t) r0_0) (View.ld (iblk m c 1 t) r0_1) (View.ld (iblk m c 2 t) r0_2) y).trans ?_
  have hy : ∃ (a : Fin 1) (b : Fin 32) (r : Fin 512) (l : Fin 128), y = ix4 a b r l := ⟨y 0, y 1, y 2, y 3, eq_ix4 y⟩
  obtain ⟨a, b, r, l, rfl⟩ := hy
  have hi : Value.ix3_0 (ix4 a b r l) = ix2 r ⟨b.val * 128 + l.val, by omega⟩ := by
    funext d; match d with | ⟨0, _⟩ => rfl | ⟨1, _⟩ => rfl
  show k0_pay4 _ _ _ (Value.ix3_0 (ix4 a b r l)) = _
  rw [hi, pay_apply]
  unfold whole
  refine congr (congr (congrArg elem (funext fun k => ?_)) (funext fun k => ?_)) (funext fun k => ?_)
  all_goals
    pointwise
    blk_ext! [iblk, V, index_facts t]

end Cert.ProjIdeal.ProjRead

namespace Cert.ProjRefIdeal.ProjRead

open Cert.ProjRefIdeal Idealize.ShloMosaic.Pointwise

/-- The run of the reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Cert.ProjIdeal.ProjRead.whole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  clear h
  generalize m ((c.tc : Thread nD τ).loc main_arg0) = X
  generalize m ((c.tc : Thread nD τ).loc main_arg1) = G
  generalize m ((c.tc : Thread nD τ).loc main_arg2) = W
  clean_types
  funext i
  pointwise [Cert.ProjIdeal.ProjRead.whole, Cert.ProjIdeal.ProjRead.elem]

end Cert.ProjRefIdeal.ProjRead

end
-- ==== Proof.OutValue.lean ====
/-
  The output call, read at an index: what the kernel leaves in its result array, and that the plain reference leaves the
  same.
-/
module

public import proofs.«01_k».proof.Defs
public import proofs.«01_k».proof.Proof.Gen.OutIdeal.Value
public import proofs.«01_k».proof.Proof.Gen.OutRefIdeal.Read
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OutIdeal.OutRead

open Cert.OutIdeal Cert.OutIdeal.Gen Idealize.ShloMosaic.Pointwise

/-- A vector scaled by its root mean square (`N` its length) and by a gain. -/
def rms {n : ℕ} (N : EReal) (o g : Fin n → EReal) (k : Fin n) : EReal :=
  o k * Ideal.rsqrt (Ideal.div (∑ l : Fin n, o l * o l) N + Ideal.ofBits .f32 0x358637BD#32) * g k

/-- The same, each element gated by a number times its logistic. -/
def gated (o g z : Fin 512 → EReal) (k : Fin 512) : EReal :=
  rms (Ideal.ofBits .f32 0x44000000#32) o g k * (z k * Ideal.logistic (z k))

/-- One element of the two gated halves' product with the output weights, added to the input. -/
def mixed (x : Fin 1024 → EReal) (a b : Fin 512 → EReal) (W : Fin 1024 → Fin 1024 → EReal) (j : Fin 1024) : EReal :=
  x j + ((∑ k : Fin 512, a k * W ⟨k.val, by omega⟩ j) + ∑ k : Fin 512, b k * W ⟨512 + k.val, by omega⟩ j)

/-- The per-layer embedding, gated, added to a row. -/
def embedded (x1 : Fin 1024 → EReal) (p : Fin 256 → EReal) (gp : Fin 1024 → EReal) (Wg : Fin 1024 → Fin 1024 → EReal)
    (Wp : Fin 256 → Fin 1024 → EReal) (j : Fin 1024) : EReal :=
  x1 j + (∑ k : Fin 256, p k * Wp k j) * Ideal.logistic (∑ k : Fin 1024, rms (Ideal.ofBits .f32 0x44800000#32) x1 gp k * Wg k j)

/-- Column `n` of four groups of 128. -/
def wide (X : Fin 4 → Fin 128 → EReal) (n : Fin 512) : EReal := X ⟨n.val / 128, by omega⟩ ⟨n.val % 128, by omega⟩

/-- Four groups of 128 columns set side by side. -/
theorem wide_apply (v0 v1 v2 v3 : S512x128.Idx → EReal) (h) (r : Fin 512) (n : Fin 512) :
    concatenate S512x512 1 [⟨S512x128, v0⟩, ⟨S512x128, v1⟩, ⟨S512x128, v2⟩, ⟨S512x128, v3⟩] h (ix2 r n)
      = wide (fun c l => (![v0, v1, v2, v3] c) (ix2 r l)) n := by
  have e : ∀ c : Fin 4, n.val / 128 = c.val → wide (fun c l => (![v0, v1, v2, v3] c) (ix2 r l)) n
      = (![v0, v1, v2, v3] c) (ix2 r ⟨n.val % 128, by omega⟩) := fun c hc => by
    unfold wide
    rw [show (⟨n.val / 128, by omega⟩ : Fin 4) = c from Fin.ext hc]
  pointwise
  split
  · rw [e 0 (by show n.val / 128 = 0; omega)]
    exact congrArg v0 (congrArg (ix2 r) (Fin.ext (by show n.val = n.val % 128; omega)))
  · split
    · rw [e 1 (by show n.val / 128 = 1; omega)]
      exact congrArg v1 (congrArg (ix2 r) (Fin.ext (by show n.val - 128 = n.val % 128; omega)))
    · split
      · rw [e 2 (by show n.val / 128 = 2; omega)]
        exact congrArg v2 (congrArg (ix2 r) (Fin.ext (by show n.val - 128 - 128 = n.val % 128; omega)))
      · rw [e 3 (by show n.val / 128 = 3; omega)]
        exact congrArg v3 (congrArg (ix2 r) (Fin.ext (by show n.val - 128 - 128 - 128 = n.val % 128; omega)))

/-- The first half, gated, at an element. -/
theorem pay6_apply (v9 v18 : FVec Ideal S512x512 .f32) (v20 : FVec Ideal S1x512 .f32) (v23 : FVec Ideal S512x1 .f32) (r n : Fin 512)
    (h : v23 (ix2 r 0) = ∑ l : Fin 512, v18 (ix2 r l) * v18 (ix2 r l)) :
    k0_pay6 v9 v18 v20 v23 (ix2 r n) = gated (fun k => v18 (ix2 r k)) (fun k => v20 (ix2 0 k)) (fun k => v9 (ix2 r k)) n := by
  pointwise [k0_pay6, gated, rms]
  rw [h]

/-- The mixed row at an element. -/
theorem pay11_apply (v35 v45 : FVec Ideal S512x512 .f32) (v47 v49 v51 : FVec Ideal S512x128 .f32) (v52 : Vec Ideal S1x1x512x128 .f32)
    (v55 : Vec Ideal S1x512 .f32) (v73 : Vec Ideal S512x1024 .f32) (v76 : Vec Ideal S1024x1024 .bf16) (r : Fin 512) (j : Fin 1024) :
    k0_pay11 v35 v45 v47 v49 v51 v52 v55 v73 v76 (ix2 r j)
      = mixed (fun k => v73 (ix2 r k)) (fun k => v35 (ix2 r k))
          (gated (wide (fun c l => (![v47, v49, v51, shapeCast S512x128 v52 shapeCasts_S1x1x512x128_S512x128] c) (ix2 r l)))
            (fun k => v55 (ix2 0 k)) (fun k => v45 (ix2 r k))) (fun k j => v76 (ix2 k j)) j := by
  have hw := wide_apply v47 v49 v51 (shapeCast S512x128 v52 shapeCasts_S1x1x512x128_S512x128) concatenates_S512x128_S512x128_S512x128_S512x128_S512x512_d1 r
  unfold k0_pay11
  generalize concatenate S512x512 1 [⟨S512x128, v47⟩, ⟨S512x128, v49⟩, ⟨S512x128, v51⟩, ⟨S512x128, shapeCast S512x128 v52 shapeCasts_S1x1x512x128_S512x128⟩] concatenates_S512x128_S512x128_S512x128_S512x128_S512x512_d1 = o at hw ⊢
  have hw' : (fun k => o (ix2 r k)) = wide (fun c l => (![v47, v49, v51, shapeCast S512x128 v52 shapeCasts_S1x1x512x128_S512x128] c) (ix2 r l)) := funext hw
  rw [← hw']
  clear hw hw'
  pointwise [gated, rms, mixed]

/-- The normalised mixed row. -/
theorem pay12_apply (v35 v45 : FVec Ideal S512x512 .f32) (v47 v49 v51 : FVec Ideal S512x128 .f32) (v52 : Vec Ideal S1x1x512x128 .f32)
    (v55 : Vec Ideal S1x512 .f32) (v73 : Vec Ideal S512x1024 .f32) (v76 : Vec Ideal S1024x1024 .bf16) (v80 : Vec Ideal S1x1024 .f32) (r : Fin 512) (j : Fin 1024) :
    k0_pay12 v35 v45 v47 v49 v51 v52 v55 v73 v76 v80 (ix2 r j)
      = rms (Ideal.ofBits .f32 0x44800000#32) (fun k => k0_pay11 v35 v45 v47 v49 v51 v52 v55 v73 v76 (ix2 r k)) (fun k => v80 (ix2 0 k)) j := by
  pointwise [k0_pay12, rms]

/-- The result row at an element. -/
theorem pay1_apply (v79 : FVec Ideal S512x1024 .f32) (v94 : FVec Ideal S512x1024 .bf16) (v95 : Vec Ideal S1024x1024 .bf16) (v99 : Vec Ideal S512x256 .f32)
    (v102 : Vec Ideal S256x1024 .bf16) (v107 : Vec Ideal S1x1024 .f32) (g : Fin 1024 → EReal) (r : Fin 512) (j : Fin 1024)
    (h : ∀ k, v94 (ix2 r k) = rms (Ideal.ofBits .f32 0x44800000#32) (fun k => v79 (ix2 r k)) g k) :
    k0_pay1 v79 v94 v95 v99 v102 v107 (ix2 r j)
      = rms (Ideal.ofBits .f32 0x44800000#32) (embedded (fun k => v79 (ix2 r k)) (fun k => v99 (ix2 r k)) g (fun k j => v95 (ix2 k j)) (fun k j => v102 (ix2 k j)))
          (fun k => v107 (ix2 0 k)) j := by
  unfold embedded
  simp only [← h]
  pointwise [k0_pay1, rms]

/-- The result row of sequence `b`, position `s`, at column `j`. -/
def row (X : Vec Ideal S8x4096x1024 .f32) (O1 O2 : Vec Ideal S8x4x4096x128 .f32) (Z : Vec Ideal S8x32x4096x128 .bf16)
    (P : Vec Ideal S1x8x4096x256 .f32) (g1 g2 : Vec Ideal S1x512 .f32) (W : Vec Ideal S1x1024x1024 .f32) (Wp : Vec Ideal S1x256x1024 .f32)
    (gp : Vec Ideal S1x1024 .f32) (Wg : Vec Ideal S1x1024x1024 .f32) (gf : Vec Ideal S1024 .f32) (b : Fin 8) (s : Fin 4096) (j : Fin 1024) : EReal :=
  rms (Ideal.ofBits .f32 0x44800000#32)
    (embedded
      (mixed (fun k => X (ix3 b s k))
        (gated (wide fun c l => O1 (ix4 b c s l)) (fun k => g1 (ix2 0 k)) (wide fun c l => Z (ix4 b ⟨12 + c.val, by omega⟩ s l)))
        (gated (wide fun c l => O2 (ix4 b c s l)) (fun k => g2 (ix2 0 k)) (wide fun c l => Z (ix4 b ⟨28 + c.val, by omega⟩ s l)))
        (fun k j => W (ix3 0 k j)))
      (fun k => P (ix4 0 b s k)) (fun k => gp (ix2 0 k)) (fun k j => Wg (ix3 0 k j)) (fun k j => Wp (ix3 0 k j)))
    (fun k => gf (ix1 k)) j

/-- Every row, sequence after sequence. -/
def whole (X : Vec Ideal S8x4096x1024 .f32) (O1 O2 : Vec Ideal S8x4x4096x128 .f32) (Z : Vec Ideal S8x32x4096x128 .bf16)
    (P : Vec Ideal S1x8x4096x256 .f32) (g1 g2 : Vec Ideal S1x512 .f32) (W : Vec Ideal S1x1024x1024 .f32) (Wp : Vec Ideal S1x256x1024 .f32)
    (gp : Vec Ideal S1x1024 .f32) (Wg : Vec Ideal S1x1024x1024 .f32) (gf : Vec Ideal S1024 .f32) : Vec Ideal S32768x1024 .f32 :=
  fun i => row X O1 O2 Z P g1 g2 W Wp gp Wg gf ⟨(i 0).val / 4096, by have h : (i 0).val < 32768 := (i 0).isLt; omega⟩
    ⟨(i 0).val % 4096, by omega⟩ (i 1)

/-- Where each window stands at each grid point. -/
theorem index_facts : ∀ t : Fin cfg0.N, win0_0.index t = ![t.val, 0] ∧ win0_1.index t = ![t.val / 8, 0, t.val % 8, 0]
    ∧ win0_2.index t = ![t.val / 8, 0, t.val % 8, 0] ∧ win0_3.index t = ![t.val / 8, 3, t.val % 8, 0]
    ∧ win0_4.index t = ![t.val / 8, 7, t.val % 8, 0] ∧ win0_5.index t = ![t.val, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, win0_0.index t = ![t.val, 0] ∧ win0_1.index t = ![t.val / 8, 0, t.val % 8, 0]
    ∧ win0_2.index t = ![t.val / 8, 0, t.val % 8, 0] ∧ win0_3.index t = ![t.val / 8, 3, t.val % 8, 0]
    ∧ win0_4.index t = ![t.val / 8, 7, t.val % 8, 0] ∧ win0_5.index t = ![t.val, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0])

/-- The square sums of the first attention's rows. -/
theorem pay5_apply (v10 v12 v14 v16 : Vec Ideal S1x1x512x128 .f32) (r : Fin 512) :
    k0_pay5 v10 v12 v14 v16 (ix2 r 0) = ∑ l : Fin 512, k0_pay3 v10 v12 v14 v16 (ix2 r l) * k0_pay3 v10 v12 v14 v16 (ix2 r l) := by
  pointwise [k0_pay5, k0_pay3]

/-- Four groups of the first attention's output, side by side. -/
theorem pay3_apply (v10 v12 v14 v16 : Vec Ideal S1x1x512x128 .f32) (r n : Fin 512) :
    k0_pay3 v10 v12 v14 v16 (ix2 r n) = wide (fun c l => (![v10, v12, v14, v16] c) (ix4 0 0 r l)) n := by
  unfold k0_pay3
  refine (wide_apply _ _ _ _ _ r n).trans (congrArg (wide · n) (funext fun c => funext fun l => ?_))
  fin_cases c <;> pointwise

/-- Four groups of the first gate. -/
theorem pay2_apply (v0 v2 v4 v6 : Vec Ideal S1x1x512x128 .bf16) (r n : Fin 512) :
    k0_pay2 v0 v2 v4 v6 (ix2 r n) = wide (fun c l => (![v0, v2, v4, v6] c) (ix4 0 0 r l)) n := by
  unfold k0_pay2
  refine (wide_apply _ _ _ _ concatenates_S512x128_S512x128_S512x128_S512x128_S512x512_d1 r n).trans (congrArg (wide · n) (funext fun c => funext fun l => ?_))
  fin_cases c <;> pointwise

/-- Four groups of the second gate. -/
theorem pay7_apply (v0 v2 v4 v6 : Vec Ideal S1x1x512x128 .bf16) (r n : Fin 512) :
    k0_pay7 v0 v2 v4 v6 (ix2 r n) = wide (fun c l => (![v0, v2, v4, v6] c) (ix4 0 0 r l)) n := by
  unfold k0_pay7
  refine (wide_apply _ _ _ _ concatenates_S512x128_S512x128_S512x128_S512x128_S512x512_d1 r n).trans (congrArg (wide · n) (funext fun c => funext fun l => ?_))
  fin_cases c <;> pointwise

/-- The first half of the mixed row's input, from the blocks. -/
theorem half1 (x0 : Vec Ideal S512x1024 .f32) (x1 x2 : Vec Ideal S1x4x512x128 .f32) (x3 x4 : Vec Ideal S1x4x512x128 .bf16) (x5 : Vec Ideal S512x256 .f32) (x6 x7 : Vec Ideal S1x512 .f32) (x8 : Vec Ideal S1024x1024 .bf16) (x9 : Vec Ideal S1x1024 .f32) (x10 : Vec Ideal S1024x1024 .bf16) (x11 : Vec Ideal S256x1024 .bf16) (x12 : Vec Ideal S1x1024 .f32) (r n : Fin 512) :
    k0_pay13 x0 x1 x2 x3 x4 x5 x6 x7 x8 x9 x10 x11 x12 (ix2 r n)
      = gated (wide fun c l => x1 (ix4 0 c r l)) (fun k => x6 (ix2 0 k)) (wide fun c l => x3 (ix4 0 c r l)) n := by
  unfold k0_pay13
  rw [pay6_apply _ _ _ _ _ _ (pay5_apply ..)]
  have e1 : (fun k => k0_pay3 (View.ld x1 r0_0) (View.ld x1 r0_1) (View.ld x1 r0_2) (View.ld x1 r0_3) (ix2 r k)) = wide fun c l => x1 (ix4 0 c r l) :=
    funext fun k => (pay3_apply _ _ _ _ r k).trans (congrArg (wide · k) (funext fun c => funext fun l => by
      fin_cases c <;> pointwise <;> blk_ext!))
  have e3 : (fun k => k0_pay2 (View.ld x3 r0_0) (View.ld x3 r0_1) (View.ld x3 r0_2) (View.ld x3 r0_3) (ix2 r k)) = wide fun c l => x3 (ix4 0 c r l) :=
    funext fun k => (pay2_apply _ _ _ _ r k).trans (congrArg (wide · k) (funext fun c => funext fun l => by
      fin_cases c <;> pointwise <;> blk_ext!))
  have e6 : (fun k => k0_pay4 (View.ld x6 r0_4) (ix2 0 k)) = fun k => x6 (ix2 0 k) := funext fun k => by
    pointwise [k0_pay4]
  rw [e1, e3, e6]

/-- The second gate from its block. -/
theorem gate2 (x0 : Vec Ideal S512x1024 .f32) (x1 x2 : Vec Ideal S1x4x512x128 .f32) (x3 x4 : Vec Ideal S1x4x512x128 .bf16) (x5 : Vec Ideal S512x256 .f32) (x6 x7 : Vec Ideal S1x512 .f32) (x8 : Vec Ideal S1024x1024 .bf16) (x9 : Vec Ideal S1x1024 .f32) (x10 : Vec Ideal S1024x1024 .bf16) (x11 : Vec Ideal S256x1024 .bf16) (x12 : Vec Ideal S1x1024 .f32) (r n : Fin 512) :
    k0_pay14 x0 x1 x2 x3 x4 x5 x6 x7 x8 x9 x10 x11 x12 (ix2 r n) = wide (fun c l => x4 (ix4 0 c r l)) n := by
  unfold k0_pay14
  exact (pay7_apply _ _ _ _ r n).trans (congrArg (wide · n) (funext fun c => funext fun l => by
      fin_cases c <;> pointwise <;> blk_ext!))

/-- The second attention's output from its block. -/
theorem input2 (x0 : Vec Ideal S512x1024 .f32) (x1 x2 : Vec Ideal S1x4x512x128 .f32) (x3 x4 : Vec Ideal S1x4x512x128 .bf16) (x5 : Vec Ideal S512x256 .f32) (x6 x7 : Vec Ideal S1x512 .f32) (x8 : Vec Ideal S1024x1024 .bf16) (x9 : Vec Ideal S1x1024 .f32) (x10 : Vec Ideal S1024x1024 .bf16) (x11 : Vec Ideal S256x1024 .bf16) (x12 : Vec Ideal S1x1024 .f32) (r : Fin 512) :
    (fun (c : Fin 4) (l : Fin 128) => (![k0_pay15 x0 x1 x2 x3 x4 x5 x6 x7 x8 x9 x10 x11 x12, k0_pay16 x0 x1 x2 x3 x4 x5 x6 x7 x8 x9 x10 x11 x12, k0_pay17 x0 x1 x2 x3 x4 x5 x6 x7 x8 x9 x10 x11 x12, shapeCast S512x128 (View.ld x2 r0_3) shapeCasts_S1x1x512x128_S512x128] c) (ix2 r l))
      = fun c l => x2 (ix4 0 c r l) := by
  funext c l
  fin_cases c <;> pointwise [k0_pay15, k0_pay16, k0_pay17, k0_pay8, k0_pay9, k0_pay10] <;> blk_ext!

/-- What a grid point writes, from its blocks. -/
theorem out_apply (x0 : Vec Ideal S512x1024 .f32) (x1 x2 : Vec Ideal S1x4x512x128 .f32) (x3 x4 : Vec Ideal S1x4x512x128 .bf16) (x5 : Vec Ideal S512x256 .f32) (x6 x7 : Vec Ideal S1x512 .f32) (x8 : Vec Ideal S1024x1024 .bf16) (x9 : Vec Ideal S1x1024 .f32) (x10 : Vec Ideal S1024x1024 .bf16) (x11 : Vec Ideal S256x1024 .bf16) (x12 : Vec Ideal S1x1024 .f32) (r : Fin 512) (j : Fin 1024) :
    out0_13 x0 x1 x2 x3 x4 x5 x6 x7 x8 x9 x10 x11 x12 (ix2 r j)
      = rms (Ideal.ofBits .f32 0x44800000#32)
          (embedded
            (mixed (fun k => x0 (ix2 r k))
              (gated (wide fun c l => x1 (ix4 0 c r l)) (fun k => x6 (ix2 0 k)) (wide fun c l => x3 (ix4 0 c r l)))
              (gated (wide fun c l => x2 (ix4 0 c r l)) (fun k => x7 (ix2 0 k)) (wide fun c l => x4 (ix4 0 c r l)))
              (fun k j => x8 (ix2 k j)))
            (fun k => x5 (ix2 r k)) (fun k => x9 (ix2 0 k)) (fun k j => x10 (ix2 k j)) (fun k j => x11 (ix2 k j)))
          (fun k => x12 (ix2 0 k)) j := by
  unfold out0_13
  have he : ix2 r j = r0_5.emb (ix2 r j) := by
    funext a; match a with | ⟨0, _⟩ => exact Fin.ext (by show r.val = 0 + 1 * r.val; omega) | ⟨1, _⟩ => exact Fin.ext (by show j.val = 0 + 1 * j.val; omega)
  rw [he, View.canon_cons_emb, pay1_apply _ _ _ _ _ _ _ r j (fun k => pay12_apply _ _ _ _ _ _ _ _ _ _ r k)]
  have e11 : ∀ q, k0_pay11 (k0_pay13 x0 x1 x2 x3 x4 x5 x6 x7 x8 x9 x10 x11 x12) (k0_pay14 x0 x1 x2 x3 x4 x5 x6 x7 x8 x9 x10 x11 x12) (k0_pay15 x0 x1 x2 x3 x4 x5 x6 x7 x8 x9 x10 x11 x12) (k0_pay16 x0 x1 x2 x3 x4 x5 x6 x7 x8 x9 x10 x11 x12) (k0_pay17 x0 x1 x2 x3 x4 x5 x6 x7 x8 x9 x10 x11 x12) (View.ld x2 r0_3) (View.ld x7 r0_4) (View.ld x0 r0_5) (View.ld x8 r0_6) (ix2 r q)
      = mixed (fun k => x0 (ix2 r k))
              (gated (wide fun c l => x1 (ix4 0 c r l)) (fun k => x6 (ix2 0 k)) (wide fun c l => x3 (ix4 0 c r l)))
              (gated (wide fun c l => x2 (ix4 0 c r l)) (fun k => x7 (ix2 0 k)) (wide fun c l => x4 (ix4 0 c r l)))
              (fun k j => x8 (ix2 k j)) q := fun q => by
    rw [pay11_apply, input2, funext (half1 x0 x1 x2 x3 x4 x5 x6 x7 x8 x9 x10 x11 x12 r), funext (gate2 x0 x1 x2 x3 x4 x5 x6 x7 x8 x9 x10 x11 x12 r)]
    congr 1 <;> pointwise
  rw [funext e11]
  congr 1
  · congr 1 <;> pointwise
  · pointwise

/-- The sequence grid point `t` works on. -/
abbrev seqOf (t : Fin cfg0.N) : Fin 8 := ⟨t.val / 8, by have h : t.val < 64 := t.isLt; omega⟩

/-- The position of row `r` of grid point `t`. -/
abbrev posOf (t : Fin cfg0.N) (r : Fin 512) : Fin 4096 := ⟨t.val % 8 * 512 + r.val, by omega⟩

variable (m : (ℓ : Loc nD τ sig) → Buf (Elt Ideal) ℓ) (c : Dev nD) (t : Fin cfg0.N)

theorem read0 (r : Fin 512) (k : Fin 1024) : iblk m c 0 t (ix2 r k) = m ((c : Thread nD τ).loc main_arg0) (ix3 (seqOf t) (posOf t r) k) := by
  pointwise
  blk_ext! [iblk, V, index_facts t]

theorem read1 (r : Fin 512) (g : Fin 4) (l : Fin 128) : iblk m c 1 t (ix4 0 g r l) = m ((c : Thread nD τ).loc main_arg1) (ix4 (seqOf t) g (posOf t r) l) := by
  pointwise
  blk_ext! [iblk, V, index_facts t]

theorem read2 (r : Fin 512) (g : Fin 4) (l : Fin 128) : iblk m c 2 t (ix4 0 g r l) = m ((c : Thread nD τ).loc main_arg2) (ix4 (seqOf t) g (posOf t r) l) := by
  pointwise
  blk_ext! [iblk, V, index_facts t]

theorem read3 (r : Fin 512) (g : Fin 4) (l : Fin 128) : iblk m c 3 t (ix4 0 g r l) = m ((c : Thread nD τ).loc main_arg3) (ix4 (seqOf t) ⟨12 + g.val, by omega⟩ (posOf t r) l) := by
  pointwise
  blk_ext! [iblk, V, index_facts t]

theorem read4 (r : Fin 512) (g : Fin 4) (l : Fin 128) : iblk m c 4 t (ix4 0 g r l) = m ((c : Thread nD τ).loc main_arg3) (ix4 (seqOf t) ⟨28 + g.val, by omega⟩ (posOf t r) l) := by
  pointwise
  blk_ext! [iblk, V, index_facts t]

theorem read5 (r : Fin 512) (k : Fin 256) : iblk m c 5 t (ix2 r k) = m ((c : Thread nD τ).loc main_arg4) (ix4 0 (seqOf t) (posOf t r) k) := by
  pointwise
  blk_ext! [iblk, V, index_facts t]

theorem read6 (k : Fin 512) : iblk m c 6 t (ix2 0 k) = m ((c : Thread nD τ).loc main_arg5) (ix2 0 k) := by
  pointwise
  blk_ext! [iblk, V, index_facts t]

theorem read7 (k : Fin 512) : iblk m c 7 t (ix2 0 k) = m ((c : Thread nD τ).loc main_arg6) (ix2 0 k) := by
  pointwise
  blk_ext! [iblk, V, index_facts t]

theorem read8 (k j : Fin 1024) : iblk m c 8 t (ix2 k j) = m ((c : Thread nD τ).loc main_arg7) (ix3 0 k j) := by
  pointwise
  blk_ext! [iblk, V, index_facts t]

theorem read9 (k : Fin 1024) : iblk m c 9 t (ix2 0 k) = m ((c : Thread nD τ).loc main_arg9) (ix2 0 k) := by
  pointwise
  blk_ext! [iblk, V, index_facts t]

theorem read10 (k j : Fin 1024) : iblk m c 10 t (ix2 k j) = m ((c : Thread nD τ).loc main_arg10) (ix3 0 k j) := by
  pointwise
  blk_ext! [iblk, V, index_facts t]

theorem read11 (k : Fin 256) (j : Fin 1024) : iblk m c 11 t (ix2 k j) = m ((c : Thread nD τ).loc main_arg8) (ix3 0 k j) := by
  pointwise
  blk_ext! [iblk, V, index_facts t]

theorem read12 (k : Fin 1024) : iblk m c 12 t (ix2 0 k) = m ((c : Thread nD τ).loc main_arg11) (ix1 k) := by
  pointwise
  blk_ext! [iblk, V, index_facts t]

/-- Where a grid point's rows stand in the result. -/
theorem whole_at X O1 O2 Z P g1 g2 W Wp gp Wg gf (r : Fin 512) (j : Fin 1024) (i : S32768x1024.Idx) (h0 : (i 0).val = t.val * 512 + r.val) (h1 : (i 1).val = j.val) :
    whole X O1 O2 Z P g1 g2 W Wp gp Wg gf i = row X O1 O2 Z P g1 g2 W Wp gp Wg gf (seqOf t) (posOf t r) j := by
  unfold whole
  have e0 : (⟨(i 0).val / 4096, by have h : (i 0).val < 32768 := (i 0).isLt; omega⟩ : Fin 8) = seqOf t := Fin.ext (by show (i 0).val / 4096 = t.val / 8; omega)
  have e1 : (⟨(i 0).val % 4096, by omega⟩ : Fin 4096) = posOf t r := Fin.ext (by show (i 0).val % 4096 = t.val % 8 * 512 + r.val; omega)
  rw [e0, e1, show i 1 = j from Fin.ext h1]

/-- The result array after the run is the whole. -/
theorem final : (dats m 0 c).arrAt 13 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 13 _ (by decide +kernel) fun t hf y => ?_
  blk_simp
  rw [after0_13]
  have hy : ∃ (r : Fin 512) (j : Fin 1024), y = ix2 r j := ⟨y 0, y 1, eq_ix2 y⟩
  obtain ⟨r, j, rfl⟩ := hy
  have he : (win0_13.blk t).view.emb (ix2 r j) = ix2 ⟨t.val * 512 + r.val, by have h : t.val < 64 := t.isLt; omega⟩ j := by
    blk_ext! [index_facts t]
  rw [he, out_apply, whole_at t _ _ _ _ _ _ _ _ _ _ _ _ r j _ rfl rfl]
  unfold row
  simp only [read0, read1, read2, read3, read4, read5, read6, read7, read8, read9, read10, read11, read12]

end Cert.OutIdeal.OutRead

namespace Cert.OutRefIdeal.OutRead

open Cert.OutRefIdeal Cert.OutRefIdeal.Read Idealize.ShloMosaic.Pointwise
open Cert.OutIdeal.OutRead (rms gated mixed embedded wide row whole)

theorem v30_apply (x1 : Vec Ideal S8x4x4096x128 .f32) (x3 : Vec Ideal S8x32x4096x128 .bf16) (x5 : Vec Ideal S1x512 .f32) (b : Fin 8) (s : Fin 4096) (n : Fin 512) :
    val_main_v30 (F := Ideal) x1 x3 x5 (ix3 b s n)
      = gated (wide fun c l => x1 (ix4 b c s l)) (fun k => x5 (ix2 0 k)) (wide fun c l => x3 (ix4 b ⟨12 + c.val, by omega⟩ s l)) n := by
  clean_types
  pointwise [val_main_v0, val_main_v1, val_main_v2, val_main_v3, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2, val_main_cst_3, gated, rms, wide]
  rfl

/-- The second half, gated. -/
theorem v54_apply (x2 : Vec Ideal S8x4x4096x128 .f32) (x3 : Vec Ideal S8x32x4096x128 .bf16) (x6 : Vec Ideal S1x512 .f32) (b : Fin 8) (s : Fin 4096) (n : Fin 512) :
    val_main_v54 (F := Ideal) x2 x3 x6 (ix3 b s n)
      = gated (wide fun c l => x2 (ix4 b c s l)) (fun k => x6 (ix2 0 k)) (wide fun c l => x3 (ix4 b ⟨28 + c.val, by omega⟩ s l)) n := by
  clean_types
  pointwise [val_main_v0, val_main_v4, val_main_v5, val_main_v6, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_4, val_main_cst_5, val_main_cst_6, val_main_cst_7, val_main_cst_8, gated, rms, wide]
  rfl

/-- The mixed row: the sum over both halves, split. -/
theorem v58_apply (x0 : Vec Ideal S8x4096x1024 .f32) (x1 x2 : Vec Ideal S8x4x4096x128 .f32) (x3 : Vec Ideal S8x32x4096x128 .bf16) (x5 x6 : Vec Ideal S1x512 .f32) (x7 : Vec Ideal S1x1024x1024 .f32) (b : Fin 8) (s : Fin 4096) (j : Fin 1024) :
    val_main_v58 (F := Ideal) x0 x1 x2 x3 x5 x6 x7 (ix3 b s j)
      = mixed (fun k => x0 (ix3 b s k)) (fun n => val_main_v30 (F := Ideal) x1 x3 x5 (ix3 b s n)) (fun n => val_main_v54 (F := Ideal) x2 x3 x6 (ix3 b s n))
          (fun k j => x7 (ix3 0 k j)) j := by
  unfold val_main_v58 val_main_v57 val_main_v55 val_main_v56
  generalize val_main_v30 (F := Ideal) x1 x3 x5 = a
  generalize val_main_v54 (F := Ideal) x2 x3 x6 = a'
  clean_types
  pointwise [mixed]

/-- The row with its per-layer embedding. -/
theorem v85_apply (x0 : Vec Ideal S8x4096x1024 .f32) (x1 x2 : Vec Ideal S8x4x4096x128 .f32) (x3 : Vec Ideal S8x32x4096x128 .bf16) (x5 x6 : Vec Ideal S1x512 .f32) (x7 : Vec Ideal S1x1024x1024 .f32) (x4 : Vec Ideal S1x8x4096x256 .f32) (x8 : Vec Ideal S1x256x1024 .f32) (x9 : Vec Ideal S1x1024 .f32) (x10 : Vec Ideal S1x1024x1024 .f32) (b : Fin 8) (s : Fin 4096) (j : Fin 1024) :
    val_main_v85 (F := Ideal) x0 x1 x2 x3 x4 x5 x6 x7 x8 x9 x10 (ix3 b s j)
      = embedded (fun k => val_main_v58 (F := Ideal) x0 x1 x2 x3 x5 x6 x7 (ix3 b s k)) (fun k => x4 (ix4 0 b s k)) (fun k => x9 (ix2 0 k))
          (fun k j => x10 (ix3 0 k j)) (fun k j => x8 (ix3 0 k j)) j := by
  unfold val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_cst_9 val_main_cst_10 val_main_cst_11 val_main_cst_12 val_main_cst_13
  generalize val_main_v58 (F := Ideal) x0 x1 x2 x3 x5 x6 x7 = a
  clean_types
  pointwise [embedded, rms]
  rfl

/-- The result row. -/
theorem v99_apply (x0 : Vec Ideal S8x4096x1024 .f32) (x1 x2 : Vec Ideal S8x4x4096x128 .f32) (x3 : Vec Ideal S8x32x4096x128 .bf16) (x5 x6 : Vec Ideal S1x512 .f32) (x7 : Vec Ideal S1x1024x1024 .f32) (x4 : Vec Ideal S1x8x4096x256 .f32) (x8 : Vec Ideal S1x256x1024 .f32) (x9 : Vec Ideal S1x1024 .f32) (x10 : Vec Ideal S1x1024x1024 .f32) (x11 : Vec Ideal S1024 .f32) (i : S32768x1024.Idx) :
    val_main_v99 (F := Ideal) x0 x1 x2 x3 x4 x5 x6 x7 x8 x9 x10 x11 i
      = rms (Ideal.ofBits .f32 0x44800000#32) (fun k => val_main_v85 (F := Ideal) x0 x1 x2 x3 x4 x5 x6 x7 x8 x9 x10
          (ix3 ⟨(i 0).val / 4096, by have h : (i 0).val < 32768 := (i 0).isLt; omega⟩ ⟨(i 0).val % 4096, by omega⟩ k)) (fun k => x11 (ix1 k)) (i 1) := by
  unfold val_main_v99 val_main_v98 val_main_v97 val_main_v96 val_main_v95 val_main_v94 val_main_v93 val_main_v92 val_main_v91 val_main_v90 val_main_v89 val_main_v88 val_main_v87 val_main_v86 val_main_cst_14 val_main_cst_15 val_main_cst_16
  generalize val_main_v85 (F := Ideal) x0 x1 x2 x3 x4 x5 x6 x7 x8 x9 x10 = a
  clean_types
  pointwise [rms]

/-- The reference's value is the whole array. -/
theorem v99_eq (x0 : Vec Ideal S8x4096x1024 .f32) (x1 x2 : Vec Ideal S8x4x4096x128 .f32) (x3 : Vec Ideal S8x32x4096x128 .bf16) (x5 x6 : Vec Ideal S1x512 .f32) (x7 : Vec Ideal S1x1024x1024 .f32) (x4 : Vec Ideal S1x8x4096x256 .f32) (x8 : Vec Ideal S1x256x1024 .f32) (x9 : Vec Ideal S1x1024 .f32) (x10 : Vec Ideal S1x1024x1024 .f32) (x11 : Vec Ideal S1024 .f32) :
    val_main_v99 (F := Ideal) x0 x1 x2 x3 x4 x5 x6 x7 x8 x9 x10 x11 = whole x0 x1 x2 x3 x4 x5 x6 x7 x8 x9 x10 x11 := by
  funext i
  rw [v99_apply]
  unfold whole row
  refine congrArg (fun f => rms (Ideal.ofBits .f32 0x44800000#32) f (fun k => x11 (ix1 k)) (i 1)) (funext fun k => ?_)
  rw [v85_apply]
  refine congrArg (fun f => embedded f _ _ _ _ k) (funext fun k => ?_)
  rw [v58_apply]
  exact congrArg₂ (fun f g => mixed _ f g _ k) (funext fun n => v30_apply ..) (funext fun n => v54_apply ..)

/-- The run of the reference leaves the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans ?_, (h c).2⟩) (Value.run (F := Ideal) m ρ)
  rw [val_main_v99_eq]
  exact v99_eq ..

end Cert.OutRefIdeal.OutRead

end
-- ==== Proof.lean ====
/- The claims about the attention call's stick-breaking result, the projection call and the output call: each program's
   frame, and that each kernel and its plain reference compute the same function over the extended reals
   (Proof/AttnRefValue.lean, Proof/ProjValue.lean, Proof/OutValue.lean). -/
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnRefIdeal.Run
public import proofs.«01_k».proof.Proof.Gen.AttnRefIdeal.Read
public import proofs.«01_k».proof.Proof.AttnFrame
public import proofs.«01_k».proof.Proof.AttnRefValue
public import proofs.«01_k».proof.Proof.ProjValue
public import proofs.«01_k».proof.Proof.OutValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The attention kernel's frame. -/
theorem frame_attn : Cert.quiescent_Attn (hAttn := Cert.Attn.Gen.facts) := fun m ρ _ => Cert.Attn.Body.frame m ρ

/-- The attention kernel's frame over the extended reals. -/
theorem frame_attn_ideal : Cert.quiescent_AttnIdeal (hAttnIdeal := Cert.AttnIdeal.Gen.facts) := fun m ρ _ => Cert.AttnIdeal.Body.frame m ρ

/-- The attention reference's frame. -/
theorem frame_attn_ref : Cert.quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run m ρ)

/-- What the precondition's array reads. -/
theorem facts_finite : Cert.Pre_finite.Facts where
  bitsLt_bf16_f32 := by decide
  bcast_S_S8x32x4096x128 := by decide
  reducesTo_S8x32x4096x128_S_d0_1_2_3 := by decide
  h_S_ := by decide

theorem frame_attn_ideal_finite : Cert.quiescent_AttnIdeal_pre_finite (hAttnIdeal := Cert.AttnIdeal.Gen.facts) (hPre_finite := facts_finite) :=
  fun m ρ _ => frame_attn_ideal m ρ trivial

theorem frame_attn_ref_finite : Cert.quiescent_AttnRefIdeal_pre_finite (hAttnRefIdeal := Cert.AttnRefIdeal.Gen.facts) (hPre_finite := facts_finite) :=
  fun m ρ _ => frame_attn_ref m ρ trivial

/-- The three named constants stand for the values their names give. -/
theorem preserves_attn : Cert.preserves_Attn_AttnIdeal :=
  ⟨IdealRules.named_const.statement _ _ _ _ _ (by rfl), IdealRules.named_const.statement _ _ _ _ _ (by rfl), IdealRules.named_const.statement _ _ _ _ _ (by rfl)⟩

/-- Kernel and reference leave the same stick-breaking result where the argument's elements are finite. -/
theorem algebraic_attn : Cert.algebraic_AttnIdeal_AttnRefIdeal_pre_finite (hAttnIdeal := Cert.AttnIdeal.Gen.facts)
    (hAttnRefIdeal := Cert.AttnRefIdeal.Gen.facts) (hPre_finite := facts_finite) :=
  fun m g m' g' hpre hag =>
    have hr : Cert.AttnIdeal.Body.Real0 m := fun c => @Cert.AttnRefIdeal.AttnRead.real_of_finite _ facts_finite (hpre c)
    ⟨fun c => Cert.AttnIdeal.Body.whole (m ((c.tc : Thread Cert.AttnIdeal.nD Cert.AttnIdeal.τ).loc Cert.AttnIdeal.main_arg0)),
      Cert.AttnIdeal.Body.run g hr,
      (θ_run Cert.AttnRefIdeal.defs _ _).mono (fun _ h c => ⟨(h c).1.trans (by rw [hag c]), (h c).2⟩)
        (Cert.AttnRefIdeal.AttnRead.run m' g' fun c => by rw [hag c]; exact hr c)⟩

/-- The projection kernel's frame. -/
theorem frame_proj : Cert.quiescent_Proj (hProj := Cert.Proj.Gen.facts) := fun m ρ _ => Cert.Proj.Gen.frame m ρ

/-- The projection kernel's frame over the extended reals. -/
theorem frame_proj_ideal : Cert.quiescent_ProjIdeal (hProjIdeal := Cert.ProjIdeal.Gen.facts) := fun m ρ _ => Cert.ProjIdeal.Gen.frame m ρ

/-- The reference's frame. -/
theorem frame_proj_ref : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.ProjRead.run m ρ)

/-- Kernel and reference leave the same projection. -/
theorem algebraic_proj : Cert.algebraic_ProjIdeal_ProjRefIdeal (hProjIdeal := Cert.ProjIdeal.Gen.facts) (hProjRefIdeal := Cert.ProjRefIdeal.Gen.facts) :=
  fun m g m' g' _ hag =>
    ⟨fun c => Cert.ProjIdeal.ProjRead.whole (m ((c.tc : Thread Cert.ProjIdeal.nD Cert.ProjIdeal.τ).loc Cert.ProjIdeal.main_arg0))
        (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
      (θ_run Cert.ProjIdeal.defs _ _).mono (fun _ h c => ⟨(h c).1.trans (Cert.ProjIdeal.ProjRead.final m c), (h c).2⟩) (Cert.ProjIdeal.Value.run_blocks m g),
      (θ_run Cert.ProjRefIdeal.defs _ _).mono (fun _ h c => ⟨(h c).1.trans (by rw [(hag c).1, (hag c).2.1, (hag c).2.2]), (h c).2⟩)
        (Cert.ProjRefIdeal.ProjRead.run m' g')⟩

/-- The output kernel's frame. -/
theorem frame_out : Cert.quiescent_Out (hOut := Cert.Out.Gen.facts) := fun m ρ _ => Cert.Out.Gen.frame m ρ

/-- The output kernel's frame over the extended reals. -/
theorem frame_out_ideal : Cert.quiescent_OutIdeal (hOutIdeal := Cert.OutIdeal.Gen.facts) := fun m ρ _ => Cert.OutIdeal.Gen.frame m ρ

/-- The output reference's frame. -/
theorem frame_out_ref : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.OutRead.run m ρ)

/-- Kernel and reference leave the same result. -/
theorem algebraic_out : Cert.algebraic_OutIdeal_OutRefIdeal (hOutIdeal := Cert.OutIdeal.Gen.facts) (hOutRefIdeal := Cert.OutRefIdeal.Gen.facts) :=
  fun m g m' g' _ hag =>
    ⟨fun c => Cert.OutIdeal.OutRead.whole (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)),
      (θ_run Cert.OutIdeal.defs _ _).mono (fun _ h c => ⟨(h c).1.trans (Cert.OutIdeal.OutRead.final m c), (h c).2⟩) (Cert.OutIdeal.Value.run_blocks m g),
      (θ_run Cert.OutRefIdeal.defs _ _).mono (fun _ h c => ⟨(h c).1.trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]), (h c).2⟩)
        (Cert.OutRefIdeal.OutRead.run m' g')⟩

theorem claim : Cert.Claim := ⟨Cert.Attn.Gen.facts, Cert.AttnIdeal.Gen.facts, Cert.AttnRefIdeal.Gen.facts,
  Cert.Proj.Gen.facts, Cert.ProjIdeal.Gen.facts, Cert.ProjRefIdeal.Gen.facts,
  Cert.Out.Gen.facts, Cert.OutIdeal.Gen.facts, Cert.OutRefIdeal.Gen.facts, facts_finite,
  frame_attn, frame_attn_ideal, frame_attn_ideal_finite, frame_attn_ref, frame_attn_ref_finite,
  frame_proj, frame_proj_ideal, frame_proj_ref, frame_out, frame_out_ideal, frame_out_ref,
  preserves_attn, algebraic_attn, trivial, algebraic_proj, trivial, algebraic_out⟩

end Cert.Proof

end
